-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_finite [hPre_gains_finite : Cert.Pre_gains_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_finite [hPre_gains_finite : Cert.Pre_gains_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_logs_finite [hPre_logs_finite : Cert.Pre_logs_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_logs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_logs_finite [hPre_logs_finite : Cert.Pre_logs_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_logs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13)) (m ((c.tc : Thread Cert.Reference6Ideal.nD Cert.Reference6Ideal.τ).loc Cert.Reference6Ideal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gains_finite [hKernelIdeal : Cert.KernelIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gains_finite [hReferenceIdeal : Cert.ReferenceIdeal.Facts] [hPre_gains_finite : Cert.Pre_gains_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ r.2.sem = fun _ => 0)

def quiescent_Kernel6Ideal_pre_logs_finite [hKernel6Ideal : Cert.Kernel6Ideal.Facts] [hPre_logs_finite : Cert.Pre_logs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_logs_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14))
      ∧ r.2.sem = fun _ => 0)

def quiescent_Reference6Ideal_pre_logs_finite [hReference6Ideal : Cert.Reference6Ideal.Facts] [hPre_logs_finite : Cert.Pre_logs_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_logs_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14))
      ∧ r.2.sem = fun _ => 0)

def preserves_Kernel_KernelIdeal : Prop :=
  True

def algebraic_KernelIdeal_ReferenceIdeal_pre_gains_finite [hKernelIdeal : Cert.KernelIdeal.Facts] [hReferenceIdeal : Cert.ReferenceIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_logs_finite [hKernel6Ideal : Cert.Kernel6Ideal.Facts] [hReference6Ideal : Cert.Reference6Ideal.Facts] [hPre_logs_finite : Cert.Pre_logs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_logs_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_v81) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_gains_finite : Cert.Pre_gains_finite.Facts) (hPre_logs_finite : Cert.Pre_logs_finite.Facts),
    quiescent_Kernel (hKernel := hKernel)
    ∧ quiescent_KernelIdeal (hKernelIdeal := hKernelIdeal)
    ∧ quiescent_KernelIdeal_pre_gains_finite (hKernelIdeal := hKernelIdeal) (hPre_gains_finite := hPre_gains_finite)
    ∧ quiescent_ReferenceIdeal (hReferenceIdeal := hReferenceIdeal)
    ∧ quiescent_ReferenceIdeal_pre_gains_finite (hReferenceIdeal := hReferenceIdeal) (hPre_gains_finite := hPre_gains_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_logs_finite (hKernel6Ideal := hKernel6Ideal) (hPre_logs_finite := hPre_logs_finite)
    ∧ quiescent_Reference6Ideal (hReference6Ideal := hReference6Ideal)
    ∧ quiescent_Reference6Ideal_pre_logs_finite (hReference6Ideal := hReference6Ideal) (hPre_logs_finite := hPre_logs_finite)
    ∧ preserves_Kernel_KernelIdeal
    ∧ algebraic_KernelIdeal_ReferenceIdeal_pre_gains_finite (hKernelIdeal := hKernelIdeal) (hReferenceIdeal := hReferenceIdeal) (hPre_gains_finite := hPre_gains_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_logs_finite (hKernel6Ideal := hKernel6Ideal) (hReference6Ideal := hReference6Ideal) (hPre_logs_finite := hPre_logs_finite)
-- ==== Pre_gains_finite.lean ====
abbrev S2x4096x10752 : Shape := ⟨3, ![2, 4096, 10752]⟩
abbrev S12x128 : Shape := ⟨2, ![12, 128]⟩
abbrev S4x128 : Shape := ⟨2, ![4, 128]⟩
abbrev S_ : Shape := ⟨0, ![]⟩

class Facts : Prop where
  slices_S12x128_S4x128_0_0 : S12x128.Slices ![0, 0] S4x128
  bcast_S_S4x128 : S_.BroadcastsInDim S4x128 (![] : Fin 0 → Fin S4x128.rank)
  reducesTo_S4x128_S_d0_1 : S4x128.ReducesTo [0, 1] S_
  h_S_ : 0 < S_.numel

variable [Facts]

def fn {F : FTy → Type} [FloatOps F] (main_arg0 : FVec F S2x4096x10752 .bf16) (main_arg1 : FVec F S12x128 .f32) (main_arg2 : FVec F S12x128 .f32) : IVec S_ 1 :=
  let main_v0 : FVec F S4x128 .f32 := (extractStridedSlice S4x128 ![0, 0] · slices_S12x128_S4x128_0_0) main_arg1
  let main_v1 : FVec F S4x128 .f32 := (extractStridedSlice S4x128 ![0, 0] · slices_S12x128_S4x128_0_0) main_arg2
  let main_v2 : FVec F S4x128 .f32 := Host.absf main_v0
  let main_cst : FVec F S_ .f32 := constant S_ .f32 0x7F800000#32
  let main_v3 : FVec F S4x128 .f32 := broadcastInDim S4x128 ![] bcast_S_S4x128 main_cst
  let main_v4 : IVec S4x128 1 := cmpf .olt main_v2 main_v3
  let main_c : IVec S_ 1 := constantI S_ 1 1#1
  let main_v5 : IVec S_ 1 := (fun x v => Host.reduce IntOp.andi x v reducesTo_S4x128_S_d0_1 h_S_) main_v4 main_c
  let main_v6 : FVec F S4x128 .f32 := Host.absf main_v1
  let main_cst_0 : FVec F S_ .f32 := constant S_ .f32 0x7F800000#32
  let main_v7 : FVec F S4x128 .f32 := broadcastInDim S4x128 ![] bcast_S_S4x128 main_cst_0
  let main_v8 : IVec S4x128 1 := cmpf .olt main_v6 main_v7
  let main_c_1 : IVec S_ 1 := constantI S_ 1 1#1
  let main_v9 : IVec S_ 1 := (fun x v => Host.reduce IntOp.andi x v reducesTo_S4x128_S_d0_1 h_S_) main_v8 main_c_1
  let main_v10 : IVec S_ 1 := andi main_v5 main_v9
  main_v10
-- ==== Pre_logs_finite.lean ====
abbrev S2x4096x1024 : Shape := ⟨3, ![2, 4096, 1024]⟩
abbrev S2x4096x512 : Shape := ⟨3, ![2, 4096, 512]⟩
abbrev S2x4096x4 : Shape := ⟨3, ![2, 4096, 4]⟩
abbrev S2x4096x10752 : Shape := ⟨3, ![2, 4096, 10752]⟩
abbrev S2x4096x2048 : Shape := ⟨3, ![2, 4096, 2048]⟩
abbrev S2x6x2048 : Shape := ⟨3, ![2, 6, 2048]⟩
abbrev S2048 : Shape := ⟨1, ![2048]⟩
abbrev S1024x2048 : Shape := ⟨2, ![1024, 2048]⟩
abbrev S512x2048 : Shape := ⟨2, ![512, 2048]⟩
abbrev S2048x2048 : Shape := ⟨2, ![2048, 2048]⟩
abbrev S_ : Shape := ⟨0, ![]⟩

class Facts : Prop where
  bcast_S_S2x4096x4 : S_.BroadcastsInDim S2x4096x4 (![] : Fin 0 → Fin S2x4096x4.rank)
  reducesTo_S2x4096x4_S_d0_1_2 : S2x4096x4.ReducesTo [0, 1, 2] S_
  h_S_ : 0 < S_.numel

variable [Facts]

def fn {F : FTy → Type} [FloatOps F] (main_arg0 : FVec F S2x4096x1024 .bf16) (main_arg1 : FVec F S2x4096x512 .bf16) (main_arg2 : FVec F S2x4096x512 .bf16) (main_arg3 : FVec F S2x4096x512 .bf16) (main_arg4 : FVec F S2x4096x4 .f32) (main_arg5 : FVec F S2x4096x4 .f32) (main_arg6 : FVec F S2x4096x4 .f32) (main_arg7 : FVec F S2x4096x10752 .bf16) (main_arg8 : FVec F S2x4096x2048 .f32) (main_arg9 : FVec F S2x6x2048 .f32) (main_arg10 : FVec F S2048 .f32) (main_arg11 : FVec F S1024x2048 .f32) (main_arg12 : FVec F S2048 .f32) (main_arg13 : FVec F S512x2048 .f32) (main_arg14 : FVec F S2048x2048 .f32) : IVec S_ 1 :=
  let main_v0 : FVec F S2x4096x4 .f32 := Host.absf main_arg4
  let main_cst : FVec F S_ .f32 := constant S_ .f32 0x7F800000#32
  let main_v1 : FVec F S2x4096x4 .f32 := broadcastInDim S2x4096x4 ![] bcast_S_S2x4096x4 main_cst
  let main_v2 : IVec S2x4096x4 1 := cmpf .olt main_v0 main_v1
  let main_c : IVec S_ 1 := constantI S_ 1 1#1
  let main_v3 : IVec S_ 1 := (fun x v => Host.reduce IntOp.andi x v reducesTo_S2x4096x4_S_d0_1_2 h_S_) main_v2 main_c
  let main_v4 : FVec F S2x4096x4 .f32 := Host.absf main_arg5
  let main_cst_0 : FVec F S_ .f32 := constant S_ .f32 0x7F800000#32
  let main_v5 : FVec F S2x4096x4 .f32 := broadcastInDim S2x4096x4 ![] bcast_S_S2x4096x4 main_cst_0
  let main_v6 : IVec S2x4096x4 1 := cmpf .olt main_v4 main_v5
  let main_c_1 : IVec S_ 1 := constantI S_ 1 1#1
  let main_v7 : IVec S_ 1 := (fun x v => Host.reduce IntOp.andi x v reducesTo_S2x4096x4_S_d0_1_2 h_S_) main_v6 main_c_1
  let main_v8 : IVec S_ 1 := andi main_v3 main_v7
  let main_v9 : FVec F S2x4096x4 .f32 := Host.absf main_arg6
  let main_cst_2 : FVec F S_ .f32 := constant S_ .f32 0x7F800000#32
  let main_v10 : FVec F S2x4096x4 .f32 := broadcastInDim S2x4096x4 ![] bcast_S_S2x4096x4 main_cst_2
  let main_v11 : IVec S2x4096x4 1 := cmpf .olt main_v9 main_v10
  let main_c_3 : IVec S_ 1 := constantI S_ 1 1#1
  let main_v12 : IVec S_ 1 := (fun x v => Host.reduce IntOp.andi x v reducesTo_S2x4096x4_S_d0_1_2 h_S_) main_v11 main_c_3
  let main_v13 : IVec S_ 1 := andi main_v8 main_v12
  main_v13
-- ==== Kernel.lean ====
abbrev S2x4096x10752 : Shape := ⟨3, ![2, 4096, 10752]⟩
abbrev S12x128 : Shape := ⟨2, ![12, 128]⟩
abbrev S2x4096x2048 : Shape := ⟨3, ![2, 4096, 2048]⟩
abbrev S2x4096x4096 : Shape := ⟨3, ![2, 4096, 4096]⟩
abbrev S2x4096x512 : Shape := ⟨3, ![2, 4096, 512]⟩
abbrev S2x4096x7680 : Shape := ⟨3, ![2, 4096, 7680]⟩
abbrev S3x1x512 : Shape := ⟨3, ![3, 1, 512]⟩
abbrev S1x1x512 : Shape := ⟨3, ![1, 1, 512]⟩
abbrev S1x512 : Shape := ⟨2, ![1, 512]⟩
abbrev S1x512x512 : Shape := ⟨3, ![1, 512, 512]⟩
abbrev S1x128x512 : Shape := ⟨3, ![1, 128, 512]⟩
abbrev S128x128 : Shape := ⟨2, ![128, 128]⟩
abbrev S1x512x128 : Shape := ⟨3, ![1, 512, 128]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S1x128x128 : Shape := ⟨3, ![1, 128, 128]⟩
abbrev S128 : Shape := ⟨1, ![128]⟩
abbrev S128x1 : Shape := ⟨2, ![128, 1]⟩

abbrev nBuf : Space → Nat
  | .hbm => 17
  | .vmem => 16
  | .smem => 0
  | _ => 0

abbrev bufTy : (tb : Table) → Fin (tcTables nBuf tb) → BufTy
  | .hbm, ⟨0, _⟩ => ⟨S2x4096x10752, .bf16⟩
  | .hbm, ⟨1, _⟩ => ⟨S12x128, .f32⟩
  | .hbm, ⟨2, _⟩ => ⟨S12x128, .f32⟩
  | .hbm, ⟨3, _⟩ => ⟨S2x4096x2048, .bf16⟩
  | .hbm, ⟨4, _⟩ => ⟨S2x4096x4096, .bf16⟩
  | .hbm, ⟨5, _⟩ => ⟨S2x4096x512, .bf16⟩
  | .hbm, ⟨6, _⟩ => ⟨S2x4096x512, .bf16⟩
  | .hbm, ⟨7, _⟩ => ⟨S2x4096x512, .bf16⟩
  | .hbm, ⟨8, _⟩ => ⟨S2x4096x7680, .bf16⟩
  | .hbm, ⟨9, _⟩ => ⟨S3x1x512, .f32⟩
  | .hbm, ⟨10, _⟩ => ⟨S3x1x512, .f32⟩
  | .hbm, ⟨11, _⟩ => ⟨S1x1x512, .f32⟩
  | .hbm, ⟨12, _⟩ => ⟨S1x512, .f32⟩
  | .hbm, ⟨13, _⟩ => ⟨S1x1x512, .f32⟩
  | .hbm, ⟨14, _⟩ => ⟨S1x512, .f32⟩
  | .hbm, ⟨15, _⟩ => ⟨S2x4096x512, .bf16⟩
  | .hbm, ⟨16, _⟩ => ⟨S2x4096x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x512, .f32⟩
  | .local _ .vmem, ⟨11, _⟩ => ⟨S1x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .f32⟩
  | .local _ .vmem, ⟨15, _⟩ => ⟨S1x512x512, .f32⟩
  | _, _ => ⟨S2x4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_1 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c13_i32 : BitVec 32 := 13#32
  let c0_i32_0 : BitVec 32 := 0#32
  ![arg0.toNat, v2.toNat, c13_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c14_i32 : BitVec 32 := 14#32
  let c0_i32_0 : BitVec 32 := 0#32
  ![arg0.toNat, v2.toNat, c14_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x4096x10752 : Shape := ⟨3, ![2, 4096, 10752]⟩
abbrev S12x128 : Shape := ⟨2, ![12, 128]⟩
abbrev S2x4096x1536 : Shape := ⟨3, ![2, 4096, 1536]⟩
abbrev S2x4096x12x128 : Shape := ⟨4, ![2, 4096, 12, 128]⟩
abbrev S_ : Shape := ⟨0, ![]⟩
abbrev S2x4096x12 : Shape := ⟨3, ![2, 4096, 12]⟩
abbrev S2x4096x12x1 : Shape := ⟨4, ![2, 4096, 12, 1]⟩
abbrev S1x1x12x128 : Shape := ⟨4, ![1, 1, 12, 128]⟩
abbrev S2x4096x4x128 : Shape := ⟨4, ![2, 4096, 4, 128]⟩
abbrev S2x4096x1x4x128 : Shape := ⟨5, ![2, 4096, 1, 4, 128]⟩
abbrev S2x32x128x1x4x128 : Shape := ⟨6, ![2, 32, 128, 1, 4, 128]⟩
abbrev S2x4224x1x4x128 : Shape := ⟨5, ![2, 4224, 1, 4, 128]⟩
abbrev S2x33x128x1x4x128 : Shape := ⟨6, ![2, 33, 128, 1, 4, 128]⟩
abbrev S2x32x256x1x4x128 : Shape := ⟨6, ![2, 32, 256, 1, 4, 128]⟩
abbrev S2x32x1x4x128x256 : Shape := ⟨6, ![2, 32, 1, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x32x1x4x128 : Shape := ⟨5, ![2, 32, 1, 4, 128]⟩
abbrev S2x32x1x4x128x1 : Shape := ⟨6, ![2, 32, 1, 4, 128, 1]⟩
abbrev S2x32x1x4x128x128 : Shape := ⟨6, ![2, 32, 1, 4, 128, 128]⟩
abbrev S2x32x128x1x4 : Shape := ⟨5, ![2, 32, 128, 1, 4]⟩
abbrev S2x4096x1x4 : Shape := ⟨4, ![2, 4096, 1, 4]⟩
abbrev S2x4096x4 : Shape := ⟨3, ![2, 4096, 4]⟩
abbrev S2x4096x512 : Shape := ⟨3, ![2, 4096, 512]⟩

abbrev nBuf : Space → Nat
  | .hbm => 146
  | .vmem => 0
  | .smem => 0
  | _ => 0

abbrev hbmTy0_0 (i : Nat) : BufTy := match i % 128 with
  | 0 => ⟨S2x4096x10752, .bf16⟩
  | 1 => ⟨S12x128, .f32⟩
  | 2 => ⟨S12x128, .f32⟩
  | 3 => ⟨S2x4096x1536, .bf16⟩
  | 4 => ⟨S2x4096x12x128, .bf16⟩
  | 5 => ⟨S2x4096x12x128, .f32⟩
  | 6 => ⟨S2x4096x12x128, .f32⟩
  | 7 => ⟨S_, .f32⟩
  | 8 => ⟨S2x4096x12, .f32⟩
  | 9 => ⟨S2x4096x12x1, .f32⟩
  | 10 => ⟨S_, .f32⟩
  | 11 => ⟨S2x4096x12x1, .f32⟩
  | 12 => ⟨S2x4096x12x1, .f32⟩
  | 13 => ⟨S_, .f32⟩
  | 14 => ⟨S2x4096x12x1, .f32⟩
  | 15 => ⟨S2x4096x12x1, .f32⟩
  | 16 => ⟨S2x4096x12x1, .f32⟩
  | 17 => ⟨S2x4096x12x128, .f32⟩
  | 18 => ⟨S2x4096x12x128, .f32⟩
  | 19 => ⟨S1x1x12x128, .f32⟩
  | 20 => ⟨S2x4096x12x128, .f32⟩
  | 21 => ⟨S2x4096x12x128, .f32⟩
  | 22 => ⟨S2x4096x1536, .bf16⟩
  | 23 => ⟨S2x4096x12x128, .bf16⟩
  | 24 => ⟨S2x4096x12x128, .f32⟩
  | 25 => ⟨S2x4096x12x128, .f32⟩
  | 26 => ⟨S_, .f32⟩
  | 27 => ⟨S2x4096x12, .f32⟩
  | 28 => ⟨S2x4096x12x1, .f32⟩
  | 29 => ⟨S_, .f32⟩
  | 30 => ⟨S2x4096x12x1, .f32⟩
  | 31 => ⟨S2x4096x12x1, .f32⟩
  | 32 => ⟨S_, .f32⟩
  | 33 => ⟨S2x4096x12x1, .f32⟩
  | 34 => ⟨S2x4096x12x1, .f32⟩
  | 35 => ⟨S2x4096x12x1, .f32⟩
  | 36 => ⟨S2x4096x12x128, .f32⟩
  | 37 => ⟨S2x4096x12x128, .f32⟩
  | 38 => ⟨S1x1x12x128, .f32⟩
  | 39 => ⟨S2x4096x12x128, .f32⟩
  | 40 => ⟨S2x4096x12x128, .f32⟩
  | 41 => ⟨S2x4096x1536, .bf16⟩
  | 42 => ⟨S2x4096x12x128, .bf16⟩
  | 43 => ⟨S2x4096x12x128, .f32⟩
  | 44 => ⟨S2x4096x4x128, .f32⟩
  | 45 => ⟨S2x4096x4x128, .f32⟩
  | 46 => ⟨S2x4096x4x128, .f32⟩
  | 47 => ⟨S2x4096x1x4x128, .f32⟩
  | 48 => ⟨S_, .i32⟩
  | 49 => ⟨S_, .f32⟩
  | 50 => ⟨S2x4096x1x4x128, .f32⟩
  | 51 => ⟨S2x32x128x1x4x128, .f32⟩
  | 52 => ⟨S2x4096x1x4x128, .f32⟩
  | 53 => ⟨S_, .i32⟩
  | 54 => ⟨S_, .f32⟩
  | 55 => ⟨S2x4096x1x4x128, .f32⟩
  | 56 => ⟨S_, .i32⟩
  | 57 => ⟨S_, .f32⟩
  | 58 => ⟨S2x4224x1x4x128, .f32⟩
  | 59 => ⟨S2x33x128x1x4x128, .f32⟩
  | 60 => ⟨S2x32x128x1x4x128, .f32⟩
  | 61 => ⟨S2x32x128x1x4x128, .f32⟩
  | 62 => ⟨S2x32x256x1x4x128, .f32⟩
  | 63 => ⟨S2x4096x1x4x128, .f32⟩
  | 64 => ⟨S_, .i32⟩
  | 65 => ⟨S_, .f32⟩
  | 66 => ⟨S2x4096x1x4x128, .f32⟩
  | 67 => ⟨S_, .i32⟩
  | 68 => ⟨S_, .f32⟩
  | 69 => ⟨S2x4224x1x4x128, .f32⟩
  | 70 => ⟨S2x33x128x1x4x128, .f32⟩
  | 71 => ⟨S2x32x128x1x4x128, .f32⟩
  | 72 => ⟨S2x32x128x1x4x128, .f32⟩
  | 73 => ⟨S2x32x256x1x4x128, .f32⟩
  | 74 => ⟨S2x32x1x4x128x256, .f32⟩
  | 75 => ⟨S_, .f32⟩
  | 76 => ⟨S2x32x1x4x128x256, .f32⟩
  | 77 => ⟨S2x32x1x4x128x256, .f32⟩
  | 78 => ⟨S128, .i32⟩
  | 79 => ⟨S128x1, .i32⟩
  | 80 => ⟨S256, .i32⟩
  | 81 => ⟨S1x256, .i32⟩
  | 82 => ⟨S_, .i32⟩
  | 83 => ⟨S128x1, .i32⟩
  | 84 => ⟨S128x1, .i32⟩
  | 85 => ⟨S128x256, .i32⟩
  | 86 => ⟨S128x256, .i32⟩
  | 87 => ⟨S128x256, .i32⟩
  | 88 => ⟨S32, .i32⟩
  | 89 => ⟨S32x1x1, .i32⟩
  | 90 => ⟨S_, .i32⟩
  | 91 => ⟨S32x1x1, .i32⟩
  | 92 => ⟨S32x1x1, .i32⟩
  | 93 => ⟨S1x1x256, .i32⟩
  | 94 => ⟨S32x1x256, .i32⟩
  | 95 => ⟨S32x1x256, .i32⟩
  | 96 => ⟨S32x1x256, .i32⟩
  | 97 => ⟨S_, .i32⟩
  | 98 => ⟨S32x1x256, .i32⟩
  | 99 => ⟨S32x1x256, .i32⟩
  | 100 => ⟨S_, .i32⟩
  | 101 => ⟨S128x256, .i32⟩
  | 102 => ⟨S128x256, .i1⟩
  | 103 => ⟨S1x128x256, .i1⟩
  | 104 => ⟨S_, .i32⟩
  | 105 => ⟨S128x256, .i32⟩
  | 106 => ⟨S128x256, .i1⟩
  | 107 => ⟨S1x128x256, .i1⟩
  | 108 => ⟨S1x128x256, .i1⟩
  | 109 => ⟨S_, .i32⟩
  | 110 => ⟨S32x1x256, .i32⟩
  | 111 => ⟨S32x1x256, .i1⟩
  | 112 => ⟨S32x128x256, .i1⟩
  | 113 => ⟨S32x128x256, .i1⟩
  | 114 => ⟨S32x128x256, .i1⟩
  | 115 => ⟨S1x32x1x1x128x256, .i1⟩
  | 116 => ⟨S_, .f32⟩
  | 117 => ⟨S_, .f32⟩
  | 118 => ⟨S2x32x1x4x128x256, .i1⟩
  | 119 => ⟨S2x32x1x4x128x256, .f32⟩
  | 120 => ⟨S2x32x1x4x128x256, .f32⟩
  | 121 => ⟨S_, .f32⟩
  | 122 => ⟨S2x32x1x4x128, .f32⟩
  | 123 => ⟨S2x32x1x4x128x1, .f32⟩
  | 124 => ⟨S2x32x1x4x128x256, .f32⟩
  | 125 => ⟨S2x32x1x4x128x256, .f32⟩
  | 126 => ⟨S2x32x1x4x128x256, .f32⟩
  | 127 => ⟨S_, .f32⟩
  | _ => ⟨S2x4096x10752, .bf16⟩

abbrev hbmTy0_1 (i : Nat) : BufTy := match i % 128 with
  | 0 => ⟨S2x32x1x4x128, .f32⟩
  | 1 => ⟨S2x32x1x4x128x1, .f32⟩
  | 2 => ⟨S2x32x1x4x128x256, .f32⟩
  | 3 => ⟨S2x32x1x4x128x256, .f32⟩
  | 4 => ⟨S2x32x1x4x128x128, .f32⟩
  | 5 => ⟨S2x32x128x1x4x128, .f32⟩
  | 6 => ⟨S2x32x1x4x128x1, .f32⟩
  | 7 => ⟨S2x32x1x4x128x1, .f32⟩
  | 8 => ⟨S2x32x1x4x128, .f32⟩
  | 9 => ⟨S2x4096x1x4x128, .f32⟩
  | 10 => ⟨S2x4096x4x128, .f32⟩
  | 11 => ⟨S2x32x128x1x4, .f32⟩
  | 12 => ⟨S2x4096x1x4, .f32⟩
  | 13 => ⟨S2x4096x4, .f32⟩
  | 14 => ⟨S2x4096x512, .f32⟩
  | 15 => ⟨S2x4096x512, .bf16⟩
  | 16 => ⟨S2x4096x4x128, .f32⟩
  | 17 => ⟨S2x4096x512, .f32⟩
  | _ => ⟨S2x4096x10752, .bf16⟩

abbrev hbmTy (i : Nat) : BufTy := match i / 128 with
  | 0 => hbmTy0_0 i
  | 1 => hbmTy0_1 i
  | _ => ⟨S2x4096x10752, .bf16⟩

abbrev bufTy : (tb : Table) → Fin (tcTables nBuf tb) → BufTy
  | .hbm, ⟨i, _⟩ => hbmTy i
  | _, _ => ⟨S2x4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c : Ref sig .tc := ⟨.hbm, 48, rfl⟩
abbrev main_call0_v0 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_call1_v0 : Ref sig .tc := ⟨.hbm, 54, rfl⟩
abbrev main_v42 : Ref sig .tc := ⟨.hbm, 55, rfl⟩
abbrev main_c_6 : Ref sig .tc := ⟨.hbm, 56, rfl⟩
abbrev main_call2_v0 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_call3_v0 : Ref sig .tc := ⟨.hbm, 65, rfl⟩
abbrev main_v49 : Ref sig .tc := ⟨.hbm, 66, rfl⟩
abbrev main_c_8 : Ref sig .tc := ⟨.hbm, 67, rfl⟩
abbrev main_call4_v0 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_12 : Ref sig .tc := ⟨.hbm, 97, rfl⟩
abbrev main_v75 : Ref sig .tc := ⟨.hbm, 98, rfl⟩
abbrev main_v76 : Ref sig .tc := ⟨.hbm, 99, rfl⟩
abbrev main_c_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_14 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_15 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_16 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v90 : Ref sig .tc := ⟨.hbm, 120, rfl⟩
abbrev main_cst_17 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_18 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048x10752 : Shape := ⟨2, ![2048, 10752]⟩
abbrev S15 : Shape := ⟨1, ![15]⟩
abbrev S8192x2048 : Shape := ⟨2, ![8192, 2048]⟩
abbrev S8192x7680 : Shape := ⟨2, ![8192, 7680]⟩
abbrev S2048x2048 : Shape := ⟨2, ![2048, 2048]⟩
abbrev S2048x512 : Shape := ⟨2, ![2048, 512]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S2x4096x2048, .bf16⟩
  | .hbm, ⟨1, _⟩ => ⟨S2048x10752, .f32⟩
  | .hbm, ⟨2, _⟩ => ⟨S8192x2048, .bf16⟩
  | .hbm, ⟨3, _⟩ => ⟨S8192x7680, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .bf16⟩
  | .local _ .smem, ⟨0, _⟩ => ⟨S15, .i32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 15], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S15.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S15) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2x4096x2048 : Shape := ⟨3, ![2, 4096, 2048]⟩
abbrev S2048x10752 : Shape := ⟨2, ![2048, 10752]⟩
abbrev S2x4096x10752 : Shape := ⟨3, ![2, 4096, 10752]⟩
abbrev S2x4096x4096 : Shape := ⟨3, ![2, 4096, 4096]⟩
abbrev S2x4096x512 : Shape := ⟨3, ![2, 4096, 512]⟩
abbrev S2x4096x7680 : Shape := ⟨3, ![2, 4096, 7680]⟩
abbrev S8192x7680 : Shape := ⟨2, ![8192, 7680]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x10752, .f32⟩
  | .hbm, ⟨2, _⟩ => ⟨S2x4096x2048, .f32⟩
  | .hbm, ⟨3, _⟩ => ⟨S2x4096x10752, .f32⟩
  | .hbm, ⟨4, _⟩ => ⟨S2x4096x2048, .f32⟩
  | .hbm, ⟨5, _⟩ => ⟨S2x4096x4096, .f32⟩
  | .hbm, ⟨6, _⟩ => ⟨S2x4096x512, .f32⟩
  | .hbm, ⟨7, _⟩ => ⟨S2x4096x512, .f32⟩
  | .hbm, ⟨8, _⟩ => ⟨S2x4096x512, .f32⟩
  | .hbm, ⟨9, _⟩ => ⟨S2x4096x7680, .f32⟩
  | .hbm, ⟨10, _⟩ => ⟨S8192x7680, .f32⟩
  | .hbm, ⟨11, _⟩ => ⟨S8192x7680, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel3.lean ====
abbrev S2x4096x2048 : Shape := ⟨3, ![2, 4096, 2048]⟩
abbrev S2048x2048 : Shape := ⟨2, ![2048, 2048]⟩
abbrev S8x2x128x128 : Shape := ⟨4, ![8, 2, 128, 128]⟩
abbrev S16x128x128 : Shape := ⟨3, ![16, 128, 128]⟩
abbrev S8192x2048 : Shape := ⟨2, ![8192, 2048]⟩
abbrev S16x128x8192 : Shape := ⟨3, ![16, 128, 8192]⟩
abbrev S256x2048 : Shape := ⟨2, ![256, 2048]⟩
abbrev S16x128x256 : Shape := ⟨3, ![16, 128, 256]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 8
  | .vmem => 6
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .f32⟩
  | .hbm, ⟨2, _⟩ => ⟨S8x2x128x128, .f32⟩
  | .hbm, ⟨3, _⟩ => ⟨S16x128x128, .f32⟩
  | .hbm, ⟨4, _⟩ => ⟨S16x128x128, .bf16⟩
  | .hbm, ⟨5, _⟩ => ⟨S8192x2048, .bf16⟩
  | .hbm, ⟨6, _⟩ => ⟨S2048x2048, .bf16⟩
  | .hbm, ⟨7, _⟩ => ⟨S16x128x8192, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S16x128x128, .bf16⟩
  | .local _ .vmem, ⟨4, _⟩ => ⟨S16x128x256, .f32⟩
  | .local _ .vmem, ⟨5, _⟩ => ⟨S16x128x256, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x4096x2048 : Shape := ⟨3, ![2, 4096, 2048]⟩
abbrev S2048x2048 : Shape := ⟨2, ![2048, 2048]⟩
abbrev S8x2x128x128 : Shape := ⟨4, ![8, 2, 128, 128]⟩
abbrev S2x4096x8x2x128 : Shape := ⟨5, ![2, 4096, 8, 2, 128]⟩
abbrev S8x2x128x2x4096 : Shape := ⟨5, ![8, 2, 128, 2, 4096]⟩
abbrev S16x128x8192 : Shape := ⟨3, ![16, 128, 8192]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .f32⟩
  | .hbm, ⟨2, _⟩ => ⟨S8x2x128x128, .f32⟩
  | .hbm, ⟨3, _⟩ => ⟨S2x4096x2048, .f32⟩
  | .hbm, ⟨4, _⟩ => ⟨S2x4096x2048, .f32⟩
  | .hbm, ⟨5, _⟩ => ⟨S2x4096x8x2x128, .f32⟩
  | .hbm, ⟨6, _⟩ => ⟨S8x2x128x2x4096, .f32⟩
  | .hbm, ⟨7, _⟩ => ⟨S2x4096x8x2x128, .f32⟩
  | .hbm, ⟨8, _⟩ => ⟨S8x2x128x2x4096, .f32⟩
  | .hbm, ⟨9, _⟩ => ⟨S16x128x8192, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2x4096x2048 : Shape := ⟨3, ![2, 4096, 2048]⟩
abbrev S2048x10752 : Shape := ⟨2, ![2048, 10752]⟩
abbrev S3 : Shape := ⟨1, ![3]⟩
abbrev S2x1024x4x2048 : Shape := ⟨4, ![2, 1024, 4, 2048]⟩
abbrev S2x4x1024x2048 : Shape := ⟨4, ![2, 4, 1024, 2048]⟩
abbrev S8192x2048 : Shape := ⟨2, ![8192, 2048]⟩
abbrev S8192x1536 : Shape := ⟨2, ![8192, 1536]⟩
abbrev S2048x2048 : Shape := ⟨2, ![2048, 2048]⟩
abbrev S2048x512 : Shape := ⟨2, ![2048, 512]⟩
abbrev S1 : Shape := ⟨1, ![1]⟩

abbrev nBuf : Space → Nat
  | .hbm => 6
  | .vmem => 6
  | .smem => 1
  | _ => 0

abbrev bufTy : (tb : Table) → Fin (tcTables nBuf tb) → BufTy
  | .hbm, ⟨0, _⟩ => ⟨S2x4096x2048, .bf16⟩
  | .hbm, ⟨1, _⟩ => ⟨S2048x10752, .f32⟩
  | .hbm, ⟨2, _⟩ => ⟨S2x1024x4x2048, .bf16⟩
  | .hbm, ⟨3, _⟩ => ⟨S2x4x1024x2048, .bf16⟩
  | .hbm, ⟨4, _⟩ => ⟨S8192x2048, .bf16⟩
  | .hbm, ⟨5, _⟩ => ⟨S8192x1536, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .bf16⟩
  | .local _ .smem, ⟨0, _⟩ => ⟨S3, .i32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2x4096x2048 : Shape := ⟨3, ![2, 4096, 2048]⟩
abbrev S2048x10752 : Shape := ⟨2, ![2048, 10752]⟩
abbrev S2x4096x10752 : Shape := ⟨3, ![2, 4096, 10752]⟩
abbrev S2x4096x512 : Shape := ⟨3, ![2, 4096, 512]⟩
abbrev S2x4096x1536 : Shape := ⟨3, ![2, 4096, 1536]⟩
abbrev S2x1024x4x1536 : Shape := ⟨4, ![2, 1024, 4, 1536]⟩
abbrev S2x4x1024x1536 : Shape := ⟨4, ![2, 4, 1024, 1536]⟩
abbrev S8192x1536 : Shape := ⟨2, ![8192, 1536]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x10752, .f32⟩
  | .hbm, ⟨2, _⟩ => ⟨S2x4096x2048, .f32⟩
  | .hbm, ⟨3, _⟩ => ⟨S2x4096x10752, .f32⟩
  | .hbm, ⟨4, _⟩ => ⟨S2x4096x512, .f32⟩
  | .hbm, ⟨5, _⟩ => ⟨S2x4096x512, .f32⟩
  | .hbm, ⟨6, _⟩ => ⟨S2x4096x512, .f32⟩
  | .hbm, ⟨7, _⟩ => ⟨S2x4096x1536, .f32⟩
  | .hbm, ⟨8, _⟩ => ⟨S2x1024x4x1536, .f32⟩
  | .hbm, ⟨9, _⟩ => ⟨S2x4x1024x1536, .f32⟩
  | .hbm, ⟨10, _⟩ => ⟨S8192x1536, .f32⟩
  | .hbm, ⟨11, _⟩ => ⟨S8192x1536, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel5.lean ====
abbrev S2x4096x2048 : Shape := ⟨3, ![2, 4096, 2048]⟩
abbrev S2048x10752 : Shape := ⟨2, ![2048, 10752]⟩
abbrev S3 : Shape := ⟨1, ![3]⟩
abbrev S2x256x16x2048 : Shape := ⟨4, ![2, 256, 16, 2048]⟩
abbrev S2x16x256x2048 : Shape := ⟨4, ![2, 16, 256, 2048]⟩
abbrev S8192x2048 : Shape := ⟨2, ![8192, 2048]⟩
abbrev S8192x1536 : Shape := ⟨2, ![8192, 1536]⟩
abbrev S2048x2048 : Shape := ⟨2, ![2048, 2048]⟩
abbrev S2048x512 : Shape := ⟨2, ![2048, 512]⟩
abbrev S1 : Shape := ⟨1, ![1]⟩

abbrev nBuf : Space → Nat
  | .hbm => 6
  | .vmem => 6
  | .smem => 1
  | _ => 0

abbrev bufTy : (tb : Table) → Fin (tcTables nBuf tb) → BufTy
  | .hbm, ⟨0, _⟩ => ⟨S2x4096x2048, .bf16⟩
  | .hbm, ⟨1, _⟩ => ⟨S2048x10752, .f32⟩
  | .hbm, ⟨2, _⟩ => ⟨S2x256x16x2048, .bf16⟩
  | .hbm, ⟨3, _⟩ => ⟨S2x16x256x2048, .bf16⟩
  | .hbm, ⟨4, _⟩ => ⟨S8192x2048, .bf16⟩
  | .hbm, ⟨5, _⟩ => ⟨S8192x1536, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .bf16⟩
  | .local _ .smem, ⟨0, _⟩ => ⟨S3, .i32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x4096x2048 : Shape := ⟨3, ![2, 4096, 2048]⟩
abbrev S2048x10752 : Shape := ⟨2, ![2048, 10752]⟩
abbrev S2x4096x10752 : Shape := ⟨3, ![2, 4096, 10752]⟩
abbrev S2x4096x512 : Shape := ⟨3, ![2, 4096, 512]⟩
abbrev S2x4096x1536 : Shape := ⟨3, ![2, 4096, 1536]⟩
abbrev S2x256x16x1536 : Shape := ⟨4, ![2, 256, 16, 1536]⟩
abbrev S2x16x256x1536 : Shape := ⟨4, ![2, 16, 256, 1536]⟩
abbrev S8192x1536 : Shape := ⟨2, ![8192, 1536]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x10752, .f32⟩
  | .hbm, ⟨2, _⟩ => ⟨S2x4096x2048, .f32⟩
  | .hbm, ⟨3, _⟩ => ⟨S2x4096x10752, .f32⟩
  | .hbm, ⟨4, _⟩ => ⟨S2x4096x512, .f32⟩
  | .hbm, ⟨5, _⟩ => ⟨S2x4096x512, .f32⟩
  | .hbm, ⟨6, _⟩ => ⟨S2x4096x512, .f32⟩
  | .hbm, ⟨7, _⟩ => ⟨S2x4096x1536, .f32⟩
  | .hbm, ⟨8, _⟩ => ⟨S2x256x16x1536, .f32⟩
  | .hbm, ⟨9, _⟩ => ⟨S2x16x256x1536, .f32⟩
  | .hbm, ⟨10, _⟩ => ⟨S8192x1536, .f32⟩
  | .hbm, ⟨11, _⟩ => ⟨S8192x1536, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel6.lean ====
abbrev S2x4096x1024 : Shape := ⟨3, ![2, 4096, 1024]⟩
abbrev S2x4096x512 : Shape := ⟨3, ![2, 4096, 512]⟩
abbrev S2x4096x4 : Shape := ⟨3, ![2, 4096, 4]⟩
abbrev S2x4096x10752 : Shape := ⟨3, ![2, 4096, 10752]⟩
abbrev S2x4096x2048 : Shape := ⟨3, ![2, 4096, 2048]⟩
abbrev S2x6x2048 : Shape := ⟨3, ![2, 6, 2048]⟩
abbrev S2048 : Shape := ⟨1, ![2048]⟩
abbrev S1024x2048 : Shape := ⟨2, ![1024, 2048]⟩
abbrev S512x2048 : Shape := ⟨2, ![512, 2048]⟩
abbrev S2048x2048 : Shape := ⟨2, ![2048, 2048]⟩
abbrev S2x4096x4096 : Shape := ⟨3, ![2, 4096, 4096]⟩
abbrev S2x4096x7680 : Shape := ⟨3, ![2, 4096, 7680]⟩
abbrev S2x4096x1x512 : Shape := ⟨4, ![2, 4096, 1, 512]⟩
abbrev S2x1x4096x512 : Shape := ⟨4, ![2, 1, 4096, 512]⟩
abbrev S2x1024x4x512 : Shape := ⟨4, ![2, 1024, 4, 512]⟩
abbrev S2x4x1024x512 : Shape := ⟨4, ![2, 4, 1024, 512]⟩
abbrev S2x256x16x512 : Shape := ⟨4, ![2, 256, 16, 512]⟩
abbrev S2x16x256x512 : Shape := ⟨4, ![2, 16, 256, 512]⟩
abbrev S2x4096x4x128 : Shape := ⟨4, ![2, 4096, 4, 128]⟩
abbrev S1x2048 : Shape := ⟨2, ![1, 2048]⟩
abbrev S1x256x1024 : Shape := ⟨3, ![1, 256, 1024]⟩
abbrev S1x256x512 : Shape := ⟨3, ![1, 256, 512]⟩
abbrev S1x4x64x512 : Shape := ⟨4, ![1, 4, 64, 512]⟩
abbrev S1x16x16x512 : Shape := ⟨4, ![1, 16, 16, 512]⟩
abbrev S1x256x2048 : Shape := ⟨3, ![1, 256, 2048]⟩
abbrev S1x6x2048 : Shape := ⟨3, ![1, 6, 2048]⟩
abbrev S4x256x128 : Shape := ⟨3, ![4, 256, 128]⟩
abbrev S256x1024 : Shape := ⟨2, ![256, 1024]⟩
abbrev S256x2048 : Shape := ⟨2, ![256, 2048]⟩
abbrev S256x512 : Shape := ⟨2, ![256, 512]⟩
abbrev S1x1x64x512 : Shape := ⟨4, ![1, 1, 64, 512]⟩
abbrev S64x512 : Shape := ⟨2, ![64, 512]⟩
abbrev S64x128 : Shape := ⟨2, ![64, 128]⟩
abbrev S1x64x128 : Shape := ⟨3, ![1, 64, 128]⟩
abbrev S1x256x128 : Shape := ⟨3, ![1, 256, 128]⟩
abbrev S256x128 : Shape := ⟨2, ![256, 128]⟩
abbrev S1x1x16x512 : Shape := ⟨4, ![1, 1, 16, 512]⟩
abbrev S16x512 : Shape := ⟨2, ![16, 512]⟩
abbrev S16x128 : Shape := ⟨2, ![16, 128]⟩
abbrev S1x16x128 : Shape := ⟨3, ![1, 16, 128]⟩
abbrev S1x1x2048 : Shape := ⟨3, ![1, 1, 2048]⟩
abbrev S256 : Shape := ⟨1, ![256]⟩
abbrev S256x1 : Shape := ⟨2, ![256, 1]⟩

abbrev nBuf : Space → Nat
  | .hbm => 48
  | .vmem => 35
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x512, .bf16⟩
  | .hbm, ⟨2, _⟩ => ⟨S2x4096x512, .bf16⟩
  | .hbm, ⟨3, _⟩ => ⟨S2x4096x512, .bf16⟩
  | .hbm, ⟨4, _⟩ => ⟨S2x4096x4, .f32⟩
  | .hbm, ⟨5, _⟩ => ⟨S2x4096x4, .f32⟩
  | .hbm, ⟨6, _⟩ => ⟨S2x4096x4, .f32⟩
  | .hbm, ⟨7, _⟩ => ⟨S2x4096x10752, .bf16⟩
  | .hbm, ⟨8, _⟩ => ⟨S2x4096x2048, .f32⟩
  | .hbm, ⟨9, _⟩ => ⟨S2x6x2048, .f32⟩
  | .hbm, ⟨10, _⟩ => ⟨S2048, .f32⟩
  | .hbm, ⟨11, _⟩ => ⟨S1024x2048, .f32⟩
  | .hbm, ⟨12, _⟩ => ⟨S2048, .f32⟩
  | .hbm, ⟨13, _⟩ => ⟨S512x2048, .f32⟩
  | .hbm, ⟨14, _⟩ => ⟨S2048x2048, .f32⟩
  | .hbm, ⟨15, _⟩ => ⟨S2x4096x2048, .bf16⟩
  | .hbm, ⟨16, _⟩ => ⟨S2x4096x4096, .bf16⟩
  | .hbm, ⟨17, _⟩ => ⟨S2x4096x512, .bf16⟩
  | .hbm, ⟨18, _⟩ => ⟨S2x4096x512, .bf16⟩
  | .hbm, ⟨19, _⟩ => ⟨S2x4096x512, .bf16⟩
  | .hbm, ⟨20, _⟩ => ⟨S2x4096x7680, .bf16⟩
  | .hbm, ⟨21, _⟩ => ⟨S2x4096x1x512, .bf16⟩
  | .hbm, ⟨22, _⟩ => ⟨S2x1x4096x512, .bf16⟩
  | .hbm, ⟨23, _⟩ => ⟨S2x1024x4x512, .bf16⟩
  | .hbm, ⟨24, _⟩ => ⟨S2x4x1024x512, .bf16⟩
  | .hbm, ⟨25, _⟩ => ⟨S2x256x16x512, .bf16⟩
  | .hbm, ⟨26, _⟩ => ⟨S2x16x256x512, .bf16⟩
  | .hbm, ⟨27, _⟩ => ⟨S2x4096x4x128, .f32⟩
  | .hbm, ⟨28, _⟩ => ⟨S2x4096x512, .f32⟩
  | .hbm, ⟨29, _⟩ => ⟨S2x4096x1x512, .f32⟩
  | .hbm, ⟨30, _⟩ => ⟨S2x1x4096x512, .f32⟩
  | .hbm, ⟨31, _⟩ => ⟨S2x4096x4x128, .f32⟩
  | .hbm, ⟨32, _⟩ => ⟨S2x4096x512, .f32⟩
  | .hbm, ⟨33, _⟩ => ⟨S2x1024x4x512, .f32⟩
  | .hbm, ⟨34, _⟩ => ⟨S2x4x1024x512, .f32⟩
  | .hbm, ⟨35, _⟩ => ⟨S2x4096x4x128, .f32⟩
  | .hbm, ⟨36, _⟩ => ⟨S2x4096x512, .f32⟩
  | .hbm, ⟨37, _⟩ => ⟨S2x256x16x512, .f32⟩
  | .hbm, ⟨38, _⟩ => ⟨S2x16x256x512, .f32⟩
  | .hbm, ⟨39, _⟩ => ⟨S1024x2048, .bf16⟩
  | .hbm, ⟨40, _⟩ => ⟨S512x2048, .bf16⟩
  | .hbm, ⟨41, _⟩ => ⟨S2048x2048, .bf16⟩
  | .hbm, ⟨42, _⟩ => ⟨S2x4096x512, .bf16⟩
  | .hbm, ⟨43, _⟩ => ⟨S2x4096x512, .f32⟩
  | .hbm, ⟨44, _⟩ => ⟨S1x2048, .f32⟩
  | .hbm, ⟨45, _⟩ => ⟨S1x2048, .f32⟩
  | .hbm, ⟨46, _⟩ => ⟨S2x4096x2048, .f32⟩
  | .hbm, ⟨47, _⟩ => ⟨S2x4096x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x512, .bf16⟩
  | .local _ .vmem, ⟨3, _⟩ => ⟨S1x256x512, .bf16⟩
  | .local _ .vmem, ⟨4, _⟩ => ⟨S1x4x64x512, .bf16⟩
  | .local _ .vmem, ⟨5, _⟩ => ⟨S1x4x64x512, .bf16⟩
  | .local _ .vmem, ⟨6, _⟩ => ⟨S1x16x16x512, .bf16⟩
  | .local _ .vmem, ⟨7, _⟩ => ⟨S1x16x16x512, .bf16⟩
  | .local _ .vmem, ⟨8, _⟩ => ⟨S1x256x512, .f32⟩
  | .local _ .vmem, ⟨9, _⟩ => ⟨S1x256x512, .f32⟩
  | .local _ .vmem, ⟨10, _⟩ => ⟨S1x4x64x512, .f32⟩
  | .local _ .vmem, ⟨11, _⟩ => ⟨S1x4x64x512, .f32⟩
  | .local _ .vmem, ⟨12, _⟩ => ⟨S1x16x16x512, .f32⟩
  | .local _ .vmem, ⟨13, _⟩ => ⟨S1x16x16x512, .f32⟩
  | .local _ .vmem, ⟨14, _⟩ => ⟨S1x256x2048, .bf16⟩
  | .local _ .vmem, ⟨15, _⟩ => ⟨S1x256x2048, .bf16⟩
  | .local _ .vmem, ⟨16, _⟩ => ⟨S1x256x2048, .bf16⟩
  | .local _ .vmem, ⟨17, _⟩ => ⟨S1x256x2048, .bf16⟩
  | .local _ .vmem, ⟨18, _⟩ => ⟨S1x256x2048, .f32⟩
  | .local _ .vmem, ⟨19, _⟩ => ⟨S1x256x2048, .f32⟩
  | .local _ .vmem, ⟨20, _⟩ => ⟨S1x6x2048, .f32⟩
  | .local _ .vmem, ⟨21, _⟩ => ⟨S1x6x2048, .f32⟩
  | .local _ .vmem, ⟨22, _⟩ => ⟨S1x2048, .f32⟩
  | .local _ .vmem, ⟨23, _⟩ => ⟨S1024x2048, .bf16⟩
  | .local _ .vmem, ⟨24, _⟩ => ⟨S1x2048, .f32⟩
  | .local _ .vmem, ⟨25, _⟩ => ⟨S512x2048, .bf16⟩
  | .local _ .vmem, ⟨26, _⟩ => ⟨S2048x2048, .bf16⟩
  | .local _ .vmem, ⟨27, _⟩ => ⟨S1x256x2048, .f32⟩
  | .local _ .vmem, ⟨28, _⟩ => ⟨S1x256x2048, .f32⟩
  | .local _ .vmem, ⟨29, _⟩ => ⟨S1x256x2048, .bf16⟩
  | .local _ .vmem, ⟨30, _⟩ => ⟨S1x256x2048, .bf16⟩
  | .local _ .vmem, ⟨31, _⟩ => ⟨S4x256x128, .f32⟩
  | .local _ .vmem, ⟨32, _⟩ => ⟨S4x256x128, .f32⟩
  | .local _ .vmem, ⟨33, _⟩ => ⟨S4x256x128, .f32⟩
  | .local _ .vmem, ⟨34, _⟩ => ⟨S4x256x128, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x6x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2048x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference6Ideal.lean ====
abbrev S2x4096x1024 : Shape := ⟨3, ![2, 4096, 1024]⟩
abbrev S2x4096x512 : Shape := ⟨3, ![2, 4096, 512]⟩
abbrev S2x4096x4 : Shape := ⟨3, ![2, 4096, 4]⟩
abbrev S2x4096x10752 : Shape := ⟨3, ![2, 4096, 10752]⟩
abbrev S2x4096x2048 : Shape := ⟨3, ![2, 4096, 2048]⟩
abbrev S2x6x2048 : Shape := ⟨3, ![2, 6, 2048]⟩
abbrev S2048 : Shape := ⟨1, ![2048]⟩
abbrev S1024x2048 : Shape := ⟨2, ![1024, 2048]⟩
abbrev S512x2048 : Shape := ⟨2, ![512, 2048]⟩
abbrev S2048x2048 : Shape := ⟨2, ![2048, 2048]⟩
abbrev S1x1x2048 : Shape := ⟨3, ![1, 1, 2048]⟩
abbrev S1x2x4096x4 : Shape := ⟨4, ![1, 2, 4096, 4]⟩
abbrev S3x2x4096x4 : Shape := ⟨4, ![3, 2, 4096, 4]⟩
abbrev S_ : Shape := ⟨0, ![]⟩
abbrev S2x4096x4x128 : Shape := ⟨4, ![2, 4096, 4, 128]⟩
abbrev S3x2x4096x4x1 : Shape := ⟨5, ![3, 2, 4096, 4, 1]⟩
abbrev S1x2x4096x4x128 : Shape := ⟨5, ![1, 2, 4096, 4, 128]⟩
abbrev S3x2x4096x4x128 : Shape := ⟨5, ![3, 2, 4096, 4, 128]⟩
abbrev S2x4096x4096 : Shape := ⟨3, ![2, 4096, 4096]⟩
abbrev S2x1x2048 : Shape := ⟨3, ![2, 1, 2048]⟩
abbrev S2x2048 : Shape := ⟨2, ![2, 2048]⟩
abbrev S2x4096 : Shape := ⟨2, ![2, 4096]⟩
abbrev S2x4096x1 : Shape := ⟨3, ![2, 4096, 1]⟩

abbrev nBuf : Space → Nat
  | .hbm => 107
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x512, .bf16⟩
  | .hbm, ⟨2, _⟩ => ⟨S2x4096x512, .bf16⟩
  | .hbm, ⟨3, _⟩ => ⟨S2x4096x512, .bf16⟩
  | .hbm, ⟨4, _⟩ => ⟨S2x4096x4, .f32⟩
  | .hbm, ⟨5, _⟩ => ⟨S2x4096x4, .f32⟩
  | .hbm, ⟨6, _⟩ => ⟨S2x4096x4, .f32⟩
  | .hbm, ⟨7, _⟩ => ⟨S2x4096x10752, .bf16⟩
  | .hbm, ⟨8, _⟩ => ⟨S2x4096x2048, .f32⟩
  | .hbm, ⟨9, _⟩ => ⟨S2x6x2048, .f32⟩
  | .hbm, ⟨10, _⟩ => ⟨S2048, .f32⟩
  | .hbm, ⟨11, _⟩ => ⟨S1024x2048, .f32⟩
  | .hbm, ⟨12, _⟩ => ⟨S2048, .f32⟩
  | .hbm, ⟨13, _⟩ => ⟨S512x2048, .f32⟩
  | .hbm, ⟨14, _⟩ => ⟨S2048x2048, .f32⟩
  | .hbm, ⟨15, _⟩ => ⟨S2x4096x1024, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S1x2x4096x4, .f32⟩
  | .hbm, ⟨21, _⟩ => ⟨S1x2x4096x4, .f32⟩
  | .hbm, ⟨22, _⟩ => ⟨S1x2x4096x4, .f32⟩
  | .hbm, ⟨23, _⟩ => ⟨S3x2x4096x4, .f32⟩
  | .hbm, ⟨24, _⟩ => ⟨S_, .f32⟩
  | .hbm, ⟨25, _⟩ => ⟨S2x4096x4, .f32⟩
  | .hbm, ⟨26, _⟩ => ⟨S_, .f32⟩
  | .hbm, ⟨27, _⟩ => ⟨S2x4096x4, .f32⟩
  | .hbm, ⟨28, _⟩ => ⟨S2x4096x4, .f32⟩
  | .hbm, ⟨29, _⟩ => ⟨S1x2x4096x4, .f32⟩
  | .hbm, ⟨30, _⟩ => ⟨S3x2x4096x4, .f32⟩
  | .hbm, ⟨31, _⟩ => ⟨S3x2x4096x4, .f32⟩
  | .hbm, ⟨32, _⟩ => ⟨S3x2x4096x4, .f32⟩
  | .hbm, ⟨33, _⟩ => ⟨S_, .f32⟩
  | .hbm, ⟨34, _⟩ => ⟨S2x4096x4, .f32⟩
  | .hbm, ⟨35, _⟩ => ⟨S1x2x4096x4, .f32⟩
  | .hbm, ⟨36, _⟩ => ⟨S3x2x4096x4, .f32⟩
  | .hbm, ⟨37, _⟩ => ⟨S3x2x4096x4, .f32⟩
  | .hbm, ⟨38, _⟩ => ⟨S2x4096x512, .f32⟩
  | .hbm, ⟨39, _⟩ => ⟨S2x4096x4x128, .f32⟩
  | .hbm, ⟨40, _⟩ => ⟨S2x4096x512, .f32⟩
  | .hbm, ⟨41, _⟩ => ⟨S2x4096x4x128, .f32⟩
  | .hbm, ⟨42, _⟩ => ⟨S2x4096x512, .f32⟩
  | .hbm, ⟨43, _⟩ => ⟨S2x4096x4x128, .f32⟩
  | .hbm, ⟨44, _⟩ => ⟨S3x2x4096x4x1, .f32⟩
  | .hbm, ⟨45, _⟩ => ⟨S1x2x4096x4x128, .f32⟩
  | .hbm, ⟨46, _⟩ => ⟨S1x2x4096x4x128, .f32⟩
  | .hbm, ⟨47, _⟩ => ⟨S1x2x4096x4x128, .f32⟩
  | .hbm, ⟨48, _⟩ => ⟨S3x2x4096x4x128, .f32⟩
  | .hbm, ⟨49, _⟩ => ⟨S3x2x4096x4x128, .f32⟩
  | .hbm, ⟨50, _⟩ => ⟨S3x2x4096x4x128, .f32⟩
  | .hbm, ⟨51, _⟩ => ⟨S_, .f32⟩
  | .hbm, ⟨52, _⟩ => ⟨S2x4096x4x128, .f32⟩
  | .hbm, ⟨53, _⟩ => ⟨S2x4096x512, .f32⟩
  | .hbm, ⟨54, _⟩ => ⟨S2x4096x2048, .f32⟩
  | .hbm, ⟨55, _⟩ => ⟨S2x4096x4096, .bf16⟩
  | .hbm, ⟨56, _⟩ => ⟨S2x4096x4096, .f32⟩
  | .hbm, ⟨57, _⟩ => ⟨S2x4096x4096, .f32⟩
  | .hbm, ⟨58, _⟩ => ⟨S2x4096x4096, .f32⟩
  | .hbm, ⟨59, _⟩ => ⟨S_, .f32⟩
  | .hbm, ⟨60, _⟩ => ⟨S2x4096x4096, .f32⟩
  | .hbm, ⟨61, _⟩ => ⟨S2x4096x4096, .f32⟩
  | .hbm, ⟨62, _⟩ => ⟨S_, .f32⟩
  | .hbm, ⟨63, _⟩ => ⟨S2x4096x4096, .f32⟩
  | .hbm, ⟨64, _⟩ => ⟨S2x4096x4096, .f32⟩
  | .hbm, ⟨65, _⟩ => ⟨S2x4096x2048, .f32⟩
  | .hbm, ⟨66, _⟩ => ⟨S2x4096x2048, .f32⟩
  | .hbm, ⟨67, _⟩ => ⟨S2x4096x2048, .f32⟩
  | .hbm, ⟨68, _⟩ => ⟨S2x4096x2048, .f32⟩
  | .hbm, ⟨69, _⟩ => ⟨S2x4096x2048, .f32⟩
  | .hbm, ⟨70, _⟩ => ⟨S2x1x2048, .f32⟩
  | .hbm, ⟨71, _⟩ => ⟨S2x2048, .f32⟩
  | .hbm, ⟨72, _⟩ => ⟨S2x1x2048, .f32⟩
  | .hbm, ⟨73, _⟩ => ⟨S2x4096x2048, .f32⟩
  | .hbm, ⟨74, _⟩ => ⟨S2x4096x2048, .f32⟩
  | .hbm, ⟨75, _⟩ => ⟨S2x4096x2048, .f32⟩
  | .hbm, ⟨76, _⟩ => ⟨S2x4096x2048, .f32⟩
  | .hbm, ⟨77, _⟩ => ⟨S2x4096x2048, .f32⟩
  | .hbm, ⟨78, _⟩ => ⟨S_, .f32⟩
  | .hbm, ⟨79, _⟩ => ⟨S2x4096, .f32⟩
  | .hbm, ⟨80, _⟩ => ⟨S2x4096x1, .f32⟩
  | .hbm, ⟨81, _⟩ => ⟨S_, .f32⟩
  | .hbm, ⟨82, _⟩ => ⟨S2x4096x1, .f32⟩
  | .hbm, ⟨83, _⟩ => ⟨S2x4096x1, .f32⟩
  | .hbm, ⟨84, _⟩ => ⟨S_, .f32⟩
  | .hbm, ⟨85, _⟩ => ⟨S2x4096x1, .f32⟩
  | .hbm, ⟨86, _⟩ => ⟨S2x4096x1, .f32⟩
  | .hbm, ⟨87, _⟩ => ⟨S2x4096x1, .f32⟩
  | .hbm, ⟨88, _⟩ => ⟨S2x4096x2048, .f32⟩
  | .hbm, ⟨89, _⟩ => ⟨S2x4096x2048, .f32⟩
  | .hbm, ⟨90, _⟩ => ⟨S1x1x2048, .f32⟩
  | .hbm, ⟨91, _⟩ => ⟨S2x4096x2048, .f32⟩
  | .hbm, ⟨92, _⟩ => ⟨S2x4096x2048, .f32⟩
  | .hbm, ⟨93, _⟩ => ⟨S2x1x2048, .f32⟩
  | .hbm, ⟨94, _⟩ => ⟨S2x2048, .f32⟩
  | .hbm, ⟨95, _⟩ => ⟨S2x1x2048, .f32⟩
  | .hbm, ⟨96, _⟩ => ⟨S_, .f32⟩
  | .hbm, ⟨97, _⟩ => ⟨S2x1x2048, .f32⟩
  | .hbm, ⟨98, _⟩ => ⟨S2x1x2048, .f32⟩
  | .hbm, ⟨99, _⟩ => ⟨S2x4096x2048, .f32⟩
  | .hbm, ⟨100, _⟩ => ⟨S2x4096x2048, .f32⟩
  | .hbm, ⟨101, _⟩ => ⟨S2x1x2048, .f32⟩
  | .hbm, ⟨102, _⟩ => ⟨S2x2048, .f32⟩
  | .hbm, ⟨103, _⟩ => ⟨S2x1x2048, .f32⟩
  | .hbm, ⟨104, _⟩ => ⟨S2x4096x2048, .f32⟩
  | .hbm, ⟨105, _⟩ => ⟨S2x4096x2048, .f32⟩
  | .hbm, ⟨106, _⟩ => ⟨S2x4096x2048, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_8 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Proof.RowMath.lean ====
/- One row of the banded attention over the extended reals: the two-block form (previous block and current block, the
   division after the weighted sum) against the one-band form (256 keys, the weights divided first). -/
module

public import Idealize.ShloMosaic.PureOps.Ideal.Laws

@[expose] public section

noncomputable section

namespace Cert.RowMath

open Idealize.ShloMosaic

/-- The word of 128.0, the number of lanes of a head. -/
abbrev c128 : EReal := Ideal.ofBits .f32 0x43000000#32
/-- The word of the norm's epsilon. -/
abbrev ceps : EReal := Ideal.ofBits .f32 0x358637BD#32
/-- The word of 128 to the power −1/2. -/
abbrev cscale : EReal := Ideal.ofBits .f32 0x3DB504F3#32
/-- The word of −∞. -/
abbrev cbot : EReal := Ideal.ofBits .f32 0xFF800000#32

theorem cbot_eq : cbot = ⊥ := by simp [Ideal.ofBits, Ideal.ieee]

theorem c128_eq : c128 = ((128 : ℝ) : EReal) := by
  simp [Ideal.ofBits, Ideal.ieee]
  rw [← EReal.coe_mul]; norm_num

/-- An extended real that is a real number. -/
def Fin' (x : EReal) : Prop := ∃ r : ℝ, x = (r : EReal)

theorem ceps_pos : ∃ r : ℝ, 0 < r ∧ ceps = (r : EReal) := by
  simp only [Ideal.ofBits, Ideal.ieee]
  simp
  refine ⟨_, ?_, (EReal.coe_mul _ _).symm⟩
  norm_num

theorem cscale_pos : ∃ r : ℝ, 0 < r ∧ cscale = (r : EReal) := by
  simp only [Ideal.ofBits, Ideal.ieee]
  simp
  refine ⟨_, ?_, (EReal.coe_mul _ _).symm⟩
  norm_num

theorem fin_mul {x y : EReal} (hx : Fin' x) (hy : Fin' y) : Fin' (x * y) := by
  obtain ⟨a, rfl⟩ := hx; obtain ⟨b, rfl⟩ := hy; exact ⟨a * b, (EReal.coe_mul a b).symm⟩

theorem fin_sum {ι : Type} (s : Finset ι) (f : ι → EReal) (h : ∀ i ∈ s, Fin' (f i)) : Fin' (∑ i ∈ s, f i) := by
  classical
  induction s using Finset.induction_on with
  | empty => exact ⟨0, by simp⟩
  | insert a s ha ih =>
    rw [Finset.sum_insert ha]
    obtain ⟨x, hx⟩ := h a (by simp)
    obtain ⟨y, hy⟩ := ih fun i hi => h i (by simp [hi])
    exact ⟨x + y, by rw [hx, hy, EReal.coe_add]⟩

theorem coe_sum' {ι : Type} [Fintype ι] (f : ι → ℝ) : ∑ i, ((f i : ℝ) : EReal) = ((∑ i, f i : ℝ) : EReal) := by
  classical
  have : ∀ t : Finset ι, ∑ i ∈ t, ((f i : ℝ) : EReal) = ((∑ i ∈ t, f i : ℝ) : EReal) := fun t => by
    induction t using Finset.induction_on with
    | empty => simp
    | insert a t ha ih => rw [Finset.sum_insert ha, Finset.sum_insert ha, ih, EReal.coe_add]
  exact this _

theorem fin_ne_bot {x : EReal} (h : Fin' x) : x ≠ ⊥ := by obtain ⟨r, rfl⟩ := h; exact EReal.coe_ne_bot r
theorem fin_ne_top {x : EReal} (h : Fin' x) : x ≠ ⊤ := by obtain ⟨r, rfl⟩ := h; exact EReal.coe_ne_top r
theorem fin_of_ne {x : EReal} (h : x ≠ ⊥) (h' : x ≠ ⊤) : Fin' x := ⟨x.toReal, (EReal.coe_toReal h' h).symm⟩

/-! ## The root-mean-square norm of a head -/

/-- One head's 128 lanes, normalised and multiplied by the gains. -/
def normed (x g : Fin 128 → EReal) (d : Fin 128) : EReal :=
  x d * Ideal.rsqrt (Ideal.div (∑ e, x e * x e) c128 + ceps) * g d

theorem sq_nonneg' (x : EReal) : 0 ≤ x * x := by
  rcases le_total 0 x with h | h
  · exact mul_nonneg h h
  · exact EReal.mul_nonneg_iff.mpr (Or.inr ⟨h, h⟩)

/-- The norm's factor times a lane is a real number, whatever the lanes: infinite lanes make the factor zero. -/
theorem lane_fin (x : Fin 128 → EReal) (d : Fin 128) :
    Fin' (x d * Ideal.rsqrt (Ideal.div (∑ e, x e * x e) c128 + ceps)) := by
  obtain ⟨ε, hε, he⟩ := ceps_pos
  have h128 : (128 : ℝ) ≠ 0 := by norm_num
  by_cases hall : ∀ e, Fin' (x e)
  · choose r hr using hall
    have hs : ∑ e, x e * x e = ((∑ e, r e * r e : ℝ) : EReal) := by
      rw [← coe_sum']
      exact Finset.sum_congr rfl fun e _ => by rw [hr e, EReal.coe_mul]
    rw [hs, c128_eq, he, Ideal.div_coe h128, ← EReal.coe_mul, ← EReal.coe_add, hr d, mul_one_div]
    have hp : 0 < (∑ e, r e * r e) / 128 + ε := by
      have : 0 ≤ ∑ e, r e * r e := Finset.sum_nonneg fun e _ => mul_self_nonneg _
      positivity
    have : Ideal.rsqrt (((∑ e, r e * r e) / 128 + ε : ℝ) : EReal)
        = ((Real.sqrt ((∑ e, r e * r e) / 128 + ε))⁻¹ : ℝ) := by
      show (if _ then _ else if _ then _ else _) = _
      rw [if_neg (not_lt.mpr hp.le), if_neg hp.ne']
    rw [this]
    exact ⟨_, (EReal.coe_mul _ _).symm⟩
  · obtain ⟨e, he'⟩ := not_forall.mp hall
    have hxx : x e * x e = ⊤ := by
      rcases eq_or_ne (x e) ⊥ with h | h
      · rw [h]; rfl
      · rcases eq_or_ne (x e) ⊤ with h' | h'
        · rw [h']; rfl
        · exact absurd (fin_of_ne h h') he'
    have hs : ∑ e, x e * x e = ⊤ := by
      refine top_unique ?_
      rw [← hxx]
      exact Finset.single_le_sum (f := fun e => x e * x e) (fun i _ => sq_nonneg' _) (Finset.mem_univ e)
    have hd : Ideal.div ⊤ c128 = ⊤ := by
      rw [c128_eq]
      unfold Ideal.div
      rw [if_neg (by exact_mod_cast h128), ← EReal.coe_inv]
      exact EReal.top_mul_coe_of_pos (by norm_num)
    rw [hs, hd, he, EReal.top_add_coe]
    exact ⟨0, by show x d * 0 = _; simp⟩

theorem normed_fin (x g : Fin 128 → EReal) (hg : ∀ d, Fin' (g d)) (d : Fin 128) : Fin' (normed x g d) :=
  fin_mul (lane_fin x d) (hg d)

/-! ## The softmax of a row -/

/-- The maximum of a row, from −∞. -/
def rowMax {n : ℕ} (s : Fin n → EReal) : EReal := (Finset.univ : Finset (Fin n)).fold max cbot s

theorem rowMax_eq_sup {n : ℕ} (s : Fin n → EReal) : rowMax s = Finset.univ.sup s := by
  unfold rowMax; rw [cbot_eq]; rfl

/-- The two blocks' common maximum. -/
def attnM (sp sc : Fin 128 → EReal) : EReal := max (rowMax sp) (rowMax sc)
/-- The two blocks' sum of exponentials. -/
def attnDen (sp sc : Fin 128 → EReal) : EReal :=
  (∑ k, Ideal.exp (sp k - attnM sp sc)) + ∑ k, Ideal.exp (sc k - attnM sp sc)
/-- The two-block attention of a row, one lane of the values. -/
def attnO (sp sc vp vc : Fin 128 → EReal) : EReal :=
  Ideal.div ((∑ k, Ideal.exp (sp k - attnM sp sc) * vp k) + ∑ k, Ideal.exp (sc k - attnM sp sc) * vc k) (attnDen sp sc)
/-- The logarithm of the two-block normaliser. -/
def attnL (sp sc : Fin 128 → EReal) : EReal := attnM sp sc + Ideal.log (attnDen sp sc)

/-- The one-band normaliser. -/
def bandDen (s : Fin 256 → EReal) : EReal := ∑ k, Ideal.exp (s k - rowMax s)
/-- The one-band attention of a row, one lane of the values. -/
def bandO (s w : Fin 256 → EReal) : EReal := ∑ k, w k * Ideal.div (Ideal.exp (s k - rowMax s)) (bandDen s)
/-- The logarithm of the one-band normaliser. -/
def bandL (s : Fin 256 → EReal) : EReal := rowMax s + Ideal.log (bandDen s)

/-- A band's place of the previous block's key `k`. -/
abbrev lo (k : Fin 128) : Fin 256 := ⟨k.val, by omega⟩
/-- A band's place of the current block's key `k`. -/
abbrev hi (k : Fin 128) : Fin 256 := ⟨128 + k.val, by omega⟩

theorem sum_band {M : Type} [AddCommMonoid M] (f : Fin 256 → M) : ∑ k, f k = (∑ k, f (lo k)) + ∑ k, f (hi k) :=
  Fin.sum_univ_add (a := 128) (b := 128) f

section
variable {sp sc : Fin 128 → EReal} {s : Fin 256 → EReal}

theorem rowMax_band (hp : ∀ k, s (lo k) = sp k) (hc : ∀ k, s (hi k) = sc k) : rowMax s = attnM sp sc := by
  unfold attnM
  rw [rowMax_eq_sup, rowMax_eq_sup, rowMax_eq_sup]
  apply le_antisymm
  · refine Finset.sup_le fun k _ => ?_
    rcases lt_or_ge k.val 128 with h | h
    · refine le_max_of_le_left ?_
      have : s k = sp ⟨k.val, h⟩ := hp ⟨k.val, h⟩
      rw [this]; exact Finset.le_sup (f := sp) (Finset.mem_univ _)
    · refine le_max_of_le_right ?_
      have e : hi ⟨k.val - 128, by omega⟩ = k := Fin.ext (by show 128 + (k.val - 128) = k.val; omega)
      have : s k = sc ⟨k.val - 128, by omega⟩ := by rw [← hc, e]
      rw [this]; exact Finset.le_sup (f := sc) (Finset.mem_univ _)
  · refine max_le (Finset.sup_le fun k _ => ?_) (Finset.sup_le fun k _ => ?_)
    · rw [← hp]; exact Finset.le_sup (f := s) (Finset.mem_univ _)
    · rw [← hc]; exact Finset.le_sup (f := s) (Finset.mem_univ _)

theorem bandDen_eq (hp : ∀ k, s (lo k) = sp k) (hc : ∀ k, s (hi k) = sc k) : bandDen s = attnDen sp sc := by
  unfold bandDen attnDen
  rw [rowMax_band hp hc, sum_band]
  simp only [hp, hc]

theorem bandL_eq (hp : ∀ k, s (lo k) = sp k) (hc : ∀ k, s (hi k) = sc k) : attnL sp sc = bandL s := by
  unfold attnL bandL
  rw [bandDen_eq hp hc, rowMax_band hp hc]

theorem exp_nonneg (x : EReal) : 0 ≤ Ideal.exp x := by
  induction x using EReal.rec with
  | bot => exact le_refl _
  | top => exact le_top
  | coe r => exact EReal.coe_nonneg.mpr (Real.exp_pos r).le

/-- Below a real bound an exponential of the difference is a real number. -/
theorem exp_sub_ne_top {x M : EReal} (hx : x ≠ ⊤) (hM : Fin' M) : Ideal.exp (x - M) ≠ ⊤ := by
  obtain ⟨m, rfl⟩ := hM
  induction x using EReal.rec with
  | bot => rw [EReal.bot_sub]; exact EReal.zero_ne_top
  | top => exact absurd rfl hx
  | coe r => rw [← EReal.coe_sub]; exact EReal.coe_ne_top _

theorem exp_sub_pos {x M : EReal} (hx : Fin' x) (hM : Fin' M) : 0 < Ideal.exp (x - M) := by
  obtain ⟨m, rfl⟩ := hM; obtain ⟨r, rfl⟩ := hx
  rw [← EReal.coe_sub]; exact EReal.coe_pos.mpr (Real.exp_pos _)

theorem sum_ne_top {ι : Type} (t : Finset ι) (f : ι → EReal) (h : ∀ i ∈ t, f i ≠ ⊤) : ∑ i ∈ t, f i ≠ ⊤ := by
  classical
  induction t using Finset.induction_on with
  | empty => simp
  | insert a t ha ih =>
    rw [Finset.sum_insert ha]
    exact EReal.add_ne_top (h a (by simp)) (ih fun i hi => h i (by simp [hi]))

/-- No score is +∞ and the query's own key has a real score: the maximum is real. -/
theorem attnM_fin (hp : ∀ k, sp k ≠ ⊤) (hc : ∀ k, sc k ≠ ⊤) (k₀ : Fin 128) (h₀ : Fin' (sc k₀)) : Fin' (attnM sp sc) := by
  unfold attnM
  rw [rowMax_eq_sup, rowMax_eq_sup]
  refine fin_of_ne ?_ ?_
  · refine ne_of_gt (lt_of_lt_of_le ?_ (le_max_of_le_right (Finset.le_sup (f := sc) (Finset.mem_univ k₀))))
    exact bot_lt_iff_ne_bot.mpr (fin_ne_bot h₀)
  · refine ne_of_lt (max_lt ?_ ?_)
    · exact (Finset.sup_lt_iff (bot_lt_top)).mpr fun k _ => lt_top_iff_ne_top.mpr (hp k)
    · exact (Finset.sup_lt_iff (bot_lt_top)).mpr fun k _ => lt_top_iff_ne_top.mpr (hc k)

theorem attnDen_pos (hp : ∀ k, sp k ≠ ⊤) (hc : ∀ k, sc k ≠ ⊤) (k₀ : Fin 128) (h₀ : Fin' (sc k₀)) :
    0 < attnDen sp sc ∧ attnDen sp sc ≠ ⊤ := by
  have hM := attnM_fin hp hc k₀ h₀
  unfold attnDen
  constructor
  · refine lt_of_lt_of_le (exp_sub_pos h₀ hM) ?_
    refine le_trans (Finset.single_le_sum (f := fun k => Ideal.exp (sc k - attnM sp sc)) (fun i _ => exp_nonneg _)
      (Finset.mem_univ k₀)) ?_
    exact le_add_of_nonneg_left (Finset.sum_nonneg fun i _ => exp_nonneg _)
  · exact EReal.add_ne_top (sum_ne_top _ _ fun i _ => exp_sub_ne_top (hp i) hM)
      (sum_ne_top _ _ fun i _ => exp_sub_ne_top (hc i) hM)

theorem mul_rot (a b c : EReal) : a * b * c = b * (a * c) := by
  rw [mul_assoc, mul_left_comm]

theorem sum_mul_of_nonneg_ne_top {ι : Type} (t : Finset ι) (f : ι → EReal) {c : EReal} (h0 : 0 ≤ c) (h1 : c ≠ ⊤) :
    (∑ i ∈ t, f i) * c = ∑ i ∈ t, f i * c := by
  classical
  induction t using Finset.induction_on with
  | empty => simp
  | insert a t ha ih =>
    rw [Finset.sum_insert ha, Finset.sum_insert ha, EReal.right_distrib_of_nonneg_of_ne_top h0 h1, ih]

/-- THE ROW: the two-block form is the one-band form where the band's scores are the blocks' and its values are the
    blocks' at every key whose score is not −∞. -/
theorem attnO_eq {vp vc : Fin 128 → EReal} {w : Fin 256 → EReal} (hp : ∀ k, s (lo k) = sp k) (hc : ∀ k, s (hi k) = sc k)
    (hwp : ∀ k, w (lo k) = vp k ∨ sp k = ⊥) (hwc : ∀ k, w (hi k) = vc k)
    (htp : ∀ k, sp k ≠ ⊤) (htc : ∀ k, sc k ≠ ⊤) (k₀ : Fin 128) (h₀ : Fin' (sc k₀)) :
    attnO sp sc vp vc = bandO s w := by
  have hM := attnM_fin htp htc k₀ h₀
  obtain ⟨hpos, htop⟩ := attnDen_pos htp htc k₀ h₀
  have hi0 : 0 ≤ (attnDen sp sc)⁻¹ := EReal.inv_nonneg_of_nonneg hpos.le
  have hi1 : (attnDen sp sc)⁻¹ ≠ ⊤ := by
    obtain ⟨r, hr⟩ := fin_of_ne (ne_of_gt (lt_trans EReal.bot_lt_zero hpos)) htop
    rw [hr, ← EReal.coe_inv]; exact EReal.coe_ne_top _
  unfold attnO bandO
  rw [bandDen_eq hp hc, rowMax_band hp hc, sum_band]
  simp only [Ideal.div, if_neg hpos.ne', hp, hc, hwc]
  rw [EReal.right_distrib_of_nonneg_of_ne_top hi0 hi1, sum_mul_of_nonneg_ne_top _ _ hi0 hi1,
    sum_mul_of_nonneg_ne_top _ _ hi0 hi1]
  congr 1
  · refine Finset.sum_congr rfl fun k _ => ?_
    rcases hwp k with h | h
    · rw [h]; exact mul_rot _ _ _
    · obtain ⟨m, hm⟩ := hM
      have : Ideal.exp (sp k - attnM sp sc) = 0 := by rw [h, EReal.bot_sub]; rfl
      rw [this]; simp
  · refine Finset.sum_congr rfl fun k _ => ?_
    exact mul_rot _ _ _

end

/-- The scale taken out of a score: every factor scaled first is the sum scaled afterwards. -/
theorem scale_out (q k : Fin 128 → EReal) : (∑ d, q d * cscale * k d) = (∑ d, q d * k d) * cscale := by
  obtain ⟨c, hc, e⟩ := cscale_pos
  rw [sum_mul_of_nonneg_ne_top _ _ (by rw [e]; exact EReal.coe_nonneg.mpr hc.le) (by rw [e]; exact EReal.coe_ne_top c)]
  exact Finset.sum_congr rfl fun d _ => by rw [mul_assoc, mul_comm cscale, ← mul_assoc]

/-! ## A row of a block, from the queries, keys and values of a head -/

section
variable {N : ℕ}

/-- The block before a block (block 0 for the first). -/
def prv (n : Fin N) : Fin N := ⟨n.val - 1, lt_of_le_of_lt (Nat.sub_le _ _) n.isLt⟩

variable (Q K V : Fin N → Fin 128 → Fin 128 → EReal) (gq gk : Fin 128 → EReal)

/-- The scores against the block before: keys at most 128 before the query, none in the first block. -/
def sPrev (n : Fin N) (a k : Fin 128) : EReal :=
  if a ≤ k ∧ 0 < n.val then ∑ e, normed (Q n a) gq e * cscale * normed (K (prv n) k) gk e else cbot
/-- The scores against the query's own block: keys at or before the query. -/
def sCur (n : Fin N) (a k : Fin 128) : EReal :=
  if k ≤ a then ∑ e, normed (Q n a) gq e * cscale * normed (K n k) gk e else cbot
/-- The attention's output at row `a`, lane `d` of block `n`. -/
def blockO (n : Fin N) (a d : Fin 128) : EReal :=
  attnO (sPrev Q K gq gk n a) (sCur Q K gq gk n a) (fun k => V (prv n) k d) (fun k => V n k d)
/-- Its log normaliser. -/
def blockL (n : Fin N) (a : Fin 128) : EReal := attnL (sPrev Q K gq gk n a) (sCur Q K gq gk n a)

/-- The same row over one band of 256 keys: the scores scaled after the product, the band's values zero before the
    sequence. -/
theorem block_band (hgq : ∀ d, Fin' (gq d)) (hgk : ∀ d, Fin' (gk d)) (n : Fin N) (a : Fin 128) (s : Fin 256 → EReal)
    (hp : ∀ k, s (lo k) = if a ≤ k ∧ 0 < n.val then (∑ e, normed (Q n a) gq e * normed (K (prv n) k) gk e) * cscale else cbot)
    (hc : ∀ k, s (hi k) = if k ≤ a then (∑ e, normed (Q n a) gq e * normed (K n k) gk e) * cscale else cbot) :
    blockL Q K gq gk n a = bandL s ∧ ∀ (d : Fin 128) (w : Fin 256 → EReal),
      (∀ k, 0 < n.val → w (lo k) = V (prv n) k d) → (∀ k, w (hi k) = V n k d) → blockO Q K V gq gk n a d = bandO s w := by
  have e1 : ∀ k, s (lo k) = sPrev Q K gq gk n a k := fun k => by rw [hp k, sPrev]; simp only [scale_out]
  have e2 : ∀ k, s (hi k) = sCur Q K gq gk n a k := fun k => by rw [hc k, sCur]; simp only [scale_out]
  have hfin : ∀ m k, Fin' (∑ e, normed (Q n a) gq e * cscale * normed (K m k) gk e) := fun m k =>
    fin_sum _ _ fun e _ => fin_mul (fin_mul (normed_fin _ _ hgq e) (by obtain ⟨r, -, h⟩ := cscale_pos; exact ⟨r, h⟩))
      (normed_fin _ _ hgk e)
  have nt1 : ∀ k, sPrev Q K gq gk n a k ≠ ⊤ := fun k => by
    unfold sPrev; split
    · exact fin_ne_top (hfin _ _)
    · rw [cbot_eq]; exact bot_ne_top
  have nt2 : ∀ k, sCur Q K gq gk n a k ≠ ⊤ := fun k => by
    unfold sCur; split
    · exact fin_ne_top (hfin _ _)
    · rw [cbot_eq]; exact bot_ne_top
  have h0 : Fin' (sCur Q K gq gk n a a) := by unfold sCur; rw [if_pos le_rfl]; exact hfin _ _
  refine ⟨bandL_eq e1 e2, fun d w hw1 hw2 => attnO_eq e1 e2 (fun k => ?_) hw2 nt1 nt2 a h0⟩
  rcases Nat.eq_zero_or_pos n.val with h | h
  · right; unfold sPrev; rw [if_neg (fun h' => absurd h'.2 (by omega)), cbot_eq]
  · exact Or.inl (hw1 k h)

end

end Cert.RowMath

end
-- ==== Proof.AttnBlock.lean ====
/- One 128-row block of one head of the banded attention, as the kernel computes it: the operations over whole blocks,
   and what they hold at an index over the extended reals. -/
module

public import proofs.«01_k».proof.Proof.RowMath
public import Idealize.ShloMosaic.Lib.Pointwise
public import Idealize.ShloMosaic.Lib.ValueIdx
public import Idealize.ShloMosaic.Lib.Affine

@[expose] public section

set_option maxRecDepth 16384

noncomputable section

namespace Cert.AttnBlock

open Idealize.ShloMosaic Cert.RowMath

abbrev S1x512x128 : Shape := ⟨3, ![1, 512, 128]⟩
abbrev S1x128x128 : Shape := ⟨3, ![1, 128, 128]⟩
abbrev S512x128 : Shape := ⟨2, ![512, 128]⟩
abbrev S512x1 : Shape := ⟨2, ![512, 1]⟩
abbrev S128x128 : Shape := ⟨2, ![128, 128]⟩
abbrev S128x1 : Shape := ⟨2, ![128, 1]⟩
abbrev S1x128 : Shape := ⟨2, ![1, 128]⟩
abbrev S512 : Shape := ⟨1, ![512]⟩
abbrev S128 : Shape := ⟨1, ![128]⟩

/-- Rows times rows: the contraction over the lanes of both. -/
def dotQK : DotDims S128x128 S128x128 S128x128 where
  lhsContracting := [1]
  rhsContracting := [1]
  lhsNonContracting := [0]
  rhsNonContracting := [0]
  lhsBatch := []
  rhsBatch := []
  wf := by decide
/-- Weights times values: the contraction over the keys. -/
def dotPV : DotDims S128x128 S128x128 S128x128 where
  lhsContracting := [1]
  rhsContracting := [0]
  lhsNonContracting := [0]
  rhsNonContracting := [1]
  lhsBatch := []
  rhsBatch := []
  wf := by decide

section
variable {F : FTy → Type} [FloatOps F]

/-- 512 rows of a head, normalised, in f32. -/
def norm512 (x : Vec F S1x512x128 .bf16) (g : Vec F S1x128 .f32) : FVec F S512x128 .f32 :=
  have x1 : FVec F S512x128 .f32 := extf .f32 (shapeCast S512x128 x (by decide)) (by decide)
  have s : FVec F S512 .f32 := multiReduction .add [1] S512 (mulf x1 x1) 0x00000000#32 (by decide) (.inl rfl) rfl
  have r : FVec F S512x1 .f32 := rsqrt (addf (divf (shapeCast S512x1 s (by decide)) (broadcast S512x1 (Scalar.ofBits .f32 0x43000000#32)))
    (broadcast S512x1 (Scalar.ofBits .f32 0x358637BD#32)))
  mulf (mulf x1 (broadcastTo S512x128 r (by decide))) (broadcastTo S512x128 (shapeCast S1x128 g (by decide)) (by decide))

/-- 128 rows of a head, normalised, in f32. -/
def norm128 (x : Vec F S1x128x128 .bf16) (g : Vec F S1x128 .f32) : FVec F S128x128 .f32 :=
  have x1 : FVec F S128x128 .f32 := extf .f32 (shapeCast S128x128 x (by decide)) (by decide)
  have s : FVec F S128 .f32 := multiReduction .add [1] S128 (mulf x1 x1) 0x00000000#32 (by decide) (.inl rfl) rfl
  have r : FVec F S128x1 .f32 := rsqrt (addf (divf (shapeCast S128x1 s (by decide)) (broadcast S128x1 (Scalar.ofBits .f32 0x43000000#32)))
    (broadcast S128x1 (Scalar.ofBits .f32 0x358637BD#32)))
  mulf (mulf x1 (broadcastTo S128x128 r (by decide))) (broadcastTo S128x128 (shapeCast S1x128 g (by decide)) (by decide))

/-- The queries: normalised and scaled. -/
def qn512 (x : Vec F S1x512x128 .bf16) (g : Vec F S1x128 .f32) : FVec F S512x128 .bf16 :=
  truncf .bf16 (mulf (norm512 x g) (broadcast S512x128 (Scalar.ofBits .f32 0x3DB504F3#32))) (by decide)
/-- The keys: normalised. -/
def kn512 (x : Vec F S1x512x128 .bf16) (g : Vec F S1x128 .f32) : FVec F S512x128 .bf16 :=
  truncf .bf16 (norm512 x g) (by decide)
/-- The keys of the block before the first. -/
def kn128 (x : Vec F S1x128x128 .bf16) (g : Vec F S1x128 .f32) : FVec F S128x128 .bf16 :=
  truncf .bf16 (norm128 x g) (by decide)

/-- The scores of a block of queries against a block of keys, −∞ outside the mask. -/
def score (mask : IVec S128x128 1) (q k : FVec F S128x128 .bf16) : FVec F S128x128 .f32 :=
  select mask (matmul dotQK none q k (constant S128x128 .f32 0x00000000#32)) (broadcast S128x128 (Scalar.ofBits .f32 0xFF800000#32))

/-- The rows' maxima. -/
def rmax (s : FVec F S128x128 .f32) : FVec F S128x1 .f32 :=
  shapeCast S128x1 (multiReduction .maximumf [1] S128 s 0xFF800000#32 (by decide) (.inl rfl) rfl : FVec F S128 .f32) (by decide)
/-- The rows' sums. -/
def rsum (s : FVec F S128x128 .f32) : FVec F S128x1 .f32 :=
  shapeCast S128x1 (multiReduction .add [1] S128 s 0x00000000#32 (by decide) (.inl rfl) rfl : FVec F S128 .f32) (by decide)
/-- Both blocks' maximum. -/
def bmax (sp sc : FVec F S128x128 .f32) : FVec F S128x1 .f32 := maximumf (rmax sp) (rmax sc)
/-- Exponentials below a row's bound. -/
def bexp (s : FVec F S128x128 .f32) (m : FVec F S128x1 .f32) : FVec F S128x128 .f32 :=
  exp (subf s (broadcastTo S128x128 m (by decide)))
/-- The normaliser. -/
def bden (sp sc : FVec F S128x128 .f32) : FVec F S128x1 .f32 :=
  addf (rsum (bexp sp (bmax sp sc))) (rsum (bexp sc (bmax sp sc)))
/-- The block's output. -/
def bout (sp sc : FVec F S128x128 .f32) (vp vc : FVec F S128x128 .bf16) : FVec F S1x128x128 .bf16 :=
  shapeCast S1x128x128 (truncf .bf16 (divf
    (addf (matmul dotPV none (truncf .bf16 (bexp sp (bmax sp sc)) (by decide)) vp (constant S128x128 .f32 0x00000000#32))
      (matmul dotPV none (truncf .bf16 (bexp sc (bmax sp sc)) (by decide)) vc (constant S128x128 .f32 0x00000000#32)))
    (broadcastTo S128x128 (bden sp sc) (by decide))) (by decide) : FVec F S128x128 .bf16) (by decide)
/-- The block's log normaliser, on every lane. -/
def blse (sp sc : FVec F S128x128 .f32) : FVec F S1x128x128 .f32 :=
  shapeCast S1x128x128 (broadcastTo S128x128 (shapeCast S128x1 (addf (bmax sp sc) (log (bden sp sc))) (by decide) : FVec F S128x1 .f32) (by decide) : FVec F S128x128 .f32)
    (by decide)

/-- 128 rows of 512 from row `o`. -/
def rows (o : ℕ) (h : S512x128.Slices ![o, 0] S128x128) (x : FVec F S512x128 .bf16) : FVec F S128x128 .bf16 :=
  extractStridedSlice S128x128 ![o, 0] x h
/-- A block of values without its leading axis. -/
def flat (x : Vec F S1x128x128 .bf16) : FVec F S128x128 .bf16 := shapeCast S128x128 x (by decide)

end

/-- The row numbers of a block. -/
def qi : IVec S128x128 32 := iota .tc S128x128 32 [0] (by decide)
/-- The column numbers of a block. -/
def ki : IVec S128x128 32 := iota .tc S128x128 32 [1] (by decide)
/-- Keys at or before the query, in its own block. -/
def maskCur : IVec S128x128 1 := cmpi .sle ki qi
/-- Keys at most 128 before the query, in the block before. -/
def maskPrev : IVec S128x128 1 := cmpi .sge ki qi
/-- The same, and nothing at all in block 0. -/
def maskHalo (n : ℕ) : IVec S128x128 1 :=
  cmpi .sge ki (addi qi (broadcast S128x128 (Scalar.select (Scalar.cmpi .sgt (BitVec.ofNat 32 n) 0#32) 0#32 256#32)))

/-! ## At an index -/

theorem norm512_apply (x : Vec Ideal S1x512x128 .bf16) (g : Vec Ideal S1x128 .f32) (a : Fin 512) (d : Fin 128) :
    norm512 (F := Ideal) x g (ix2 a d) = normed (fun e => x (ix3 0 a e)) (fun e => g (ix2 0 e)) d := by
  unfold norm512 normed
  simp only [pointwise]
  simp

theorem norm128_apply (x : Vec Ideal S1x128x128 .bf16) (g : Vec Ideal S1x128 .f32) (a : Fin 128) (d : Fin 128) :
    norm128 (F := Ideal) x g (ix2 a d) = normed (fun e => x (ix3 0 a e)) (fun e => g (ix2 0 e)) d := by
  unfold norm128 normed
  simp only [pointwise]
  simp

theorem qn512_apply (x : Vec Ideal S1x512x128 .bf16) (g : Vec Ideal S1x128 .f32) (a : Fin 512) (d : Fin 128) :
    qn512 (F := Ideal) x g (ix2 a d) = normed (fun e => x (ix3 0 a e)) (fun e => g (ix2 0 e)) d * cscale := by
  rw [← norm512_apply]; rfl

theorem kn512_apply (x : Vec Ideal S1x512x128 .bf16) (g : Vec Ideal S1x128 .f32) (a : Fin 512) (d : Fin 128) :
    kn512 (F := Ideal) x g (ix2 a d) = normed (fun e => x (ix3 0 a e)) (fun e => g (ix2 0 e)) d := by
  rw [← norm512_apply]; rfl

theorem kn128_apply (x : Vec Ideal S1x128x128 .bf16) (g : Vec Ideal S1x128 .f32) (a : Fin 128) (d : Fin 128) :
    kn128 (F := Ideal) x g (ix2 a d) = normed (fun e => x (ix3 0 a e)) (fun e => g (ix2 0 e)) d := by
  rw [← norm128_apply]; rfl

theorem score_apply (mask : IVec S128x128 1) (q k : FVec Ideal S128x128 .bf16) (a b : Fin 128) :
    score (F := Ideal) mask q k (ix2 a b) = if mask (ix2 a b) = 1#1 then ∑ d : Fin 128, q (ix2 a d) * k (ix2 b d) else cbot := by
  unfold score
  simp only [pointwise, zero_add, Scalar.select]
  rfl

theorem bout_apply (sp sc : FVec Ideal S128x128 .f32) (vp vc : FVec Ideal S128x128 .bf16) (a d : Fin 128) :
    bout (F := Ideal) sp sc vp vc (ix3 0 a d)
      = attnO (fun k => sp (ix2 a k)) (fun k => sc (ix2 a k)) (fun k => vp (ix2 k d)) (fun k => vc (ix2 k d)) := by
  unfold bout bden rsum bexp bmax rmax attnO attnDen attnM rowMax
  simp only [pointwise]
  simp

theorem blse_apply (sp sc : FVec Ideal S128x128 .f32) (a d : Fin 128) :
    blse (F := Ideal) sp sc (ix3 0 a d) = attnL (fun k => sp (ix2 a k)) (fun k => sc (ix2 a k)) := by
  unfold blse bden rsum bexp bmax rmax attnL attnDen attnM rowMax
  simp only [pointwise]
  simp

theorem rows_apply (o : ℕ) (h : S512x128.Slices ![o, 0] S128x128) (x : FVec Ideal S512x128 .bf16) (a d : Fin 128)
    (ho : o + a.val < 512) : rows (F := Ideal) o h x (ix2 a d) = x (ix2 ⟨o + a.val, ho⟩ d) := by
  unfold rows
  simp only [pointwise]
  congr 1
  exact congrArg₂ ix2 rfl (Fin.ext (Nat.zero_add d.val))

theorem flat_apply (x : Vec Ideal S1x128x128 .bf16) (a d : Fin 128) :
    flat (F := Ideal) x (ix2 a d) = x (ix3 0 a d) := by
  unfold flat
  simp only [pointwise]

theorem toInt_small (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

theorem qi_apply (a b : Fin 128) : qi (ix2 a b) = BitVec.ofNat 32 a.val := by
  unfold qi
  simp only [pointwise]
  simp [ix2]

theorem ki_apply (a b : Fin 128) : ki (ix2 a b) = BitVec.ofNat 32 b.val := by
  unfold ki
  simp only [pointwise]
  simp [ix2]

theorem maskCur_iff (a b : Fin 128) : maskCur (ix2 a b) = 1#1 ↔ b ≤ a := by
  show IntOp.cmpi .sle (ki (ix2 a b)) (qi (ix2 a b)) = 1#1 ↔ _
  rw [qi_apply, ki_apply, IntOp.cmpi_sle, toInt_small _ (by omega), toInt_small _ (by omega)]
  exact ⟨fun h => by exact_mod_cast h, fun h => by exact_mod_cast h⟩

theorem maskPrev_iff (a b : Fin 128) : maskPrev (ix2 a b) = 1#1 ↔ a ≤ b := by
  show IntOp.cmpi .sge (ki (ix2 a b)) (qi (ix2 a b)) = 1#1 ↔ _
  rw [qi_apply, ki_apply, IntOp.cmpi_sge, toInt_small _ (by omega), toInt_small _ (by omega)]
  exact ⟨fun h => by exact_mod_cast h, fun h => by exact_mod_cast h⟩

theorem maskHalo_iff (n : ℕ) (hn : n < 2 ^ 16) (a b : Fin 128) : maskHalo n (ix2 a b) = 1#1 ↔ a ≤ b ∧ 0 < n := by
  show IntOp.cmpi .sge (ki (ix2 a b)) (qi (ix2 a b) + Scalar.select (IntOp.cmpi .sgt (BitVec.ofNat 32 n) 0#32) 0#32 256#32) = 1#1 ↔ _
  rw [qi_apply, ki_apply, IntOp.cmpi_sge]
  rcases Nat.eq_zero_or_pos n with h | h
  · subst h
    have : Scalar.select (IntOp.cmpi .sgt (BitVec.ofNat 32 0) 0#32) 0#32 256#32 = BitVec.ofNat 32 256 := rfl
    rw [this, ← BitVec.ofNat_add, toInt_small _ (by omega), toInt_small _ (by omega)]
    constructor
    · intro h; omega
    · intro h; omega
  · have hc : IntOp.cmpi .sgt (BitVec.ofNat 32 n) 0#32 = 1#1 := by
      rw [IntOp.cmpi_sgt, toInt_small n (by omega)]
      show (0 : ℤ) < n
      exact_mod_cast h
    rw [hc]
    have : Scalar.select (1#1) 0#32 256#32 = 0#32 := rfl
    rw [this, BitVec.add_zero, toInt_small _ (by omega), toInt_small _ (by omega)]
    exact ⟨fun h' => ⟨by exact_mod_cast h', h⟩, fun h' => by exact_mod_cast h'.1⟩

/-! ## A block of a head against the row formula -/

section
variable {N : ℕ} (Q K V : Fin N → Fin 128 → Fin 128 → EReal) (gq gk : Fin 128 → EReal) (n : Fin N)
  (mp : IVec S128x128 1) (q kp kc vp vc : FVec Ideal S128x128 .bf16)

theorem scores_eq (hmp : ∀ a b, mp (ix2 a b) = 1#1 ↔ a ≤ b ∧ 0 < n.val)
    (hq : ∀ a e, q (ix2 a e) = normed (Q n a) gq e * cscale)
    (hkp : ∀ b e, kp (ix2 b e) = normed (K (prv n) b) gk e) (hkc : ∀ b e, kc (ix2 b e) = normed (K n b) gk e) (a : Fin 128) :
    (fun k => score (F := Ideal) mp q kp (ix2 a k)) = sPrev Q K gq gk n a
      ∧ (fun k => score (F := Ideal) maskCur q kc (ix2 a k)) = sCur Q K gq gk n a := by
  constructor <;> funext k <;> rw [score_apply]
  · unfold sPrev; simp only [hmp, hq, hkp]
  · unfold sCur; simp only [maskCur_iff, hq, hkc]

theorem bout_eq (hmp : ∀ a b, mp (ix2 a b) = 1#1 ↔ a ≤ b ∧ 0 < n.val)
    (hq : ∀ a e, q (ix2 a e) = normed (Q n a) gq e * cscale)
    (hkp : ∀ b e, kp (ix2 b e) = normed (K (prv n) b) gk e) (hkc : ∀ b e, kc (ix2 b e) = normed (K n b) gk e)
    (hvp : ∀ b d, vp (ix2 b d) = V (prv n) b d) (hvc : ∀ b d, vc (ix2 b d) = V n b d) (a d : Fin 128) :
    bout (F := Ideal) (score mp q kp) (score maskCur q kc) vp vc (ix3 0 a d) = blockO Q K V gq gk n a d := by
  obtain ⟨h1, h2⟩ := scores_eq Q K gq gk n mp q kp kc hmp hq hkp hkc a
  rw [bout_apply, h1, h2, blockO]
  simp only [hvp, hvc]

theorem blse_eq (hmp : ∀ a b, mp (ix2 a b) = 1#1 ↔ a ≤ b ∧ 0 < n.val)
    (hq : ∀ a e, q (ix2 a e) = normed (Q n a) gq e * cscale)
    (hkp : ∀ b e, kp (ix2 b e) = normed (K (prv n) b) gk e) (hkc : ∀ b e, kc (ix2 b e) = normed (K n b) gk e) (a d : Fin 128) :
    blse (F := Ideal) (score mp q kp) (score maskCur q kc) (ix3 0 a d) = blockL Q K gq gk n a := by
  obtain ⟨h1, h2⟩ := scores_eq Q K gq gk n mp q kp kc hmp hq hkp hkc a
  rw [blse_apply, h1, h2, blockL]

end

section
variable {N : ℕ} {Q K V : Fin N → Fin 128 → Fin 128 → EReal} {gq gk : Fin 128 → EReal} {B : Fin 4 → Fin N} {i : ℕ}
  {X0 X1 : Vec Ideal S1x512x128 .bf16} {G0 G1 : Vec Ideal S1x128 .f32} {VP VC KP : Vec Ideal S1x128x128 .bf16}

/-- What the head's loads hold: the queries, keys and gains at their four blocks of rows. -/
structure Loads (Q K : Fin N → Fin 128 → Fin 128 → EReal) (gq gk : Fin 128 → EReal) (B : Fin 4 → Fin N) (i : ℕ)
    (X0 X1 : Vec Ideal S1x512x128 .bf16) (G0 G1 : Vec Ideal S1x128 .f32) : Prop where
  hB : ∀ r, (B r).val = 4 * i + r.val
  hi : i < 2 ^ 16
  hX0 : ∀ (r : Fin 4) (a e : Fin 128), X0 (ix3 0 ⟨128 * r.val + a.val, by omega⟩ e) = Q (B r) a e
  hX1 : ∀ (r : Fin 4) (a e : Fin 128), X1 (ix3 0 ⟨128 * r.val + a.val, by omega⟩ e) = K (B r) a e
  hG0 : ∀ e, G0 (ix2 0 e) = gq e
  hG1 : ∀ e, G1 (ix2 0 e) = gk e

theorem Loads.q (L : Loads Q K gq gk B i X0 X1 G0 G1) (r : Fin 4) (o : ℕ) (ho : o = 128 * r.val)
    (hs : S512x128.Slices ![o, 0] S128x128) (a e : Fin 128) :
    rows (F := Ideal) o hs (qn512 X0 G0) (ix2 a e) = normed (Q (B r) a) gq e * cscale := by
  subst ho
  rw [rows_apply _ _ _ _ _ (by omega), qn512_apply]
  simp only [L.hX0, L.hG0]

theorem Loads.k (L : Loads Q K gq gk B i X0 X1 G0 G1) (r : Fin 4) (o : ℕ) (ho : o = 128 * r.val)
    (hs : S512x128.Slices ![o, 0] S128x128) (a e : Fin 128) :
    rows (F := Ideal) o hs (kn512 X1 G1) (ix2 a e) = normed (K (B r) a) gk e := by
  subst ho
  rw [rows_apply _ _ _ _ _ (by omega), kn512_apply]
  simp only [L.hX1, L.hG1]

theorem Loads.prv (L : Loads Q K gq gk B i X0 X1 G0 G1) (r r' : Fin 4) (hr : r.val = r'.val + 1) : RowMath.prv (B r) = B r' :=
  Fin.ext (by show (B r).val - 1 = _; rw [L.hB, L.hB]; omega)

theorem Loads.maskPrev (L : Loads Q K gq gk B i X0 X1 G0 G1) (r r' : Fin 4) (hr : r.val = r'.val + 1) (a b : Fin 128) :
    maskPrev (ix2 a b) = 1#1 ↔ a ≤ b ∧ 0 < (B r).val := by
  rw [maskPrev_iff, L.hB]
  exact ⟨fun h => ⟨h, by omega⟩, fun h => h.1⟩

theorem Loads.maskHalo (L : Loads Q K gq gk B i X0 X1 G0 G1) (a b : Fin 128) :
    maskHalo i (ix2 a b) = 1#1 ↔ a ≤ b ∧ 0 < (B 0).val := by
  rw [maskHalo_iff i L.hi, L.hB]
  exact ⟨fun h => ⟨h.1, by have := h.2; omega⟩, fun h => ⟨h.1, by have := h.2; simp at this; omega⟩⟩

/-- A block of rows after the first: the block before is the head's own. -/
theorem head_in (L : Loads Q K gq gk B i X0 X1 G0 G1) (r r' : Fin 4) (hr : r.val = r'.val + 1) (o o' : ℕ)
    (ho : o = 128 * r.val) (ho' : o' = 128 * r'.val) (hs : S512x128.Slices ![o, 0] S128x128) (hs' : S512x128.Slices ![o', 0] S128x128)
    (hvp : ∀ b d, VP (ix3 0 b d) = V (B r') b d) (hvc : ∀ b d, VC (ix3 0 b d) = V (B r) b d) (a d : Fin 128) :
    bout (F := Ideal) (score AttnBlock.maskPrev (rows o hs (qn512 X0 G0)) (rows o' hs' (kn512 X1 G1)))
      (score maskCur (rows o hs (qn512 X0 G0)) (rows o hs (kn512 X1 G1))) (flat VP) (flat VC) (ix3 0 a d)
      = blockO Q K V gq gk (B r) a d := by
  refine bout_eq Q K V gq gk (B r) _ _ _ _ _ _ (L.maskPrev r r' hr) (L.q r o ho hs) (fun b e => ?_) (L.k r o ho hs) (fun b d => ?_)
    (fun b d => ?_) a d
  · rw [L.prv r r' hr]; exact L.k r' o' ho' hs' b e
  · rw [L.prv r r' hr, flat_apply]; exact hvp b d
  · rw [flat_apply]; exact hvc b d

theorem head_in_lse (L : Loads Q K gq gk B i X0 X1 G0 G1) (r r' : Fin 4) (hr : r.val = r'.val + 1) (o o' : ℕ)
    (ho : o = 128 * r.val) (ho' : o' = 128 * r'.val) (hs : S512x128.Slices ![o, 0] S128x128) (hs' : S512x128.Slices ![o', 0] S128x128)
    (a d : Fin 128) :
    blse (F := Ideal) (score AttnBlock.maskPrev (rows o hs (qn512 X0 G0)) (rows o' hs' (kn512 X1 G1)))
      (score maskCur (rows o hs (qn512 X0 G0)) (rows o hs (kn512 X1 G1))) (ix3 0 a d)
      = blockL Q K gq gk (B r) a := by
  refine blse_eq Q K gq gk (B r) _ _ _ _ (L.maskPrev r r' hr) (L.q r o ho hs) (fun b e => ?_) (L.k r o ho hs) a d
  rw [L.prv r r' hr]; exact L.k r' o' ho' hs' b e

/-- The first block of rows: the block before comes by itself. -/
theorem head_halo (L : Loads Q K gq gk B i X0 X1 G0 G1) (hs : S512x128.Slices ![0, 0] S128x128)
    (hkp : ∀ b e, KP (ix3 0 b e) = K (RowMath.prv (B 0)) b e) (hvp : ∀ b d, VP (ix3 0 b d) = V (RowMath.prv (B 0)) b d)
    (hvc : ∀ b d, VC (ix3 0 b d) = V (B 0) b d) (a d : Fin 128) :
    bout (F := Ideal) (score (AttnBlock.maskHalo i) (rows 0 hs (qn512 X0 G0)) (kn128 KP G1))
      (score maskCur (rows 0 hs (qn512 X0 G0)) (rows 0 hs (kn512 X1 G1))) (flat VP) (flat VC) (ix3 0 a d)
      = blockO Q K V gq gk (B 0) a d := by
  refine bout_eq Q K V gq gk (B 0) _ _ _ _ _ _ L.maskHalo (L.q 0 0 rfl hs) (fun b e => ?_) (L.k 0 0 rfl hs) (fun b d => ?_)
    (fun b d => ?_) a d
  · rw [kn128_apply]; simp only [hkp, L.hG1]
  · rw [flat_apply]; exact hvp b d
  · rw [flat_apply]; exact hvc b d

theorem head_halo_lse (L : Loads Q K gq gk B i X0 X1 G0 G1) (hs : S512x128.Slices ![0, 0] S128x128)
    (hkp : ∀ b e, KP (ix3 0 b e) = K (RowMath.prv (B 0)) b e) (a d : Fin 128) :
    blse (F := Ideal) (score (AttnBlock.maskHalo i) (rows 0 hs (qn512 X0 G0)) (kn128 KP G1))
      (score maskCur (rows 0 hs (qn512 X0 G0)) (rows 0 hs (kn512 X1 G1))) (ix3 0 a d)
      = blockL Q K gq gk (B 0) a := by
  refine blse_eq Q K gq gk (B 0) _ _ _ _ L.maskHalo (L.q 0 0 rfl hs) (fun b e => ?_) (L.k 0 0 rfl hs) a d
  rw [kn128_apply]; simp only [hkp, L.hG1]

end

end Cert.AttnBlock

end
-- ==== Proof.KernelRead.lean ====
/- What the kernel's launch reads: the columns of the joined array and the gains, at an index, from the arguments. -/
module

public import proofs.«01_k».proof.Proof.AttnBlock
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.Pipeline

variable (m : (ℓ : Loc nD τ sig) → Buf (Elt Ideal) ℓ) (c : Dev nD)

theorem idx0 : ∀ t : Fin cfg0.N, win0_0.index t = ![t.val / 8, t.val % 8, 12] := by decide +kernel
theorem idx1 : ∀ t : Fin cfg0.N, win0_1.index t = ![t.val / 8, t.val % 8, 13] := by decide +kernel
theorem idx2 : ∀ t : Fin cfg0.N, win0_2.index t = ![t.val / 8, t.val % 8, 14] := by decide +kernel
theorem idx3 : ∀ t : Fin cfg0.N, win0_3.index t = ![t.val / 8, t.val % 8 * 4 - 1, 13] := by decide +kernel
theorem idx4 : ∀ t : Fin cfg0.N, win0_4.index t = ![t.val / 8, t.val % 8 * 4 - 1, 14] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val / 8, t.val % 8, 0] := by decide +kernel
theorem idx8 : ∀ t : Fin cfg0.N, win0_8.index t = ![t.val / 8, t.val % 8, 0] := by decide +kernel
theorem crd : ∀ t : Fin cfg0.N, (grid0.coords t 1).val = t.val % 8 := by decide +kernel

set_option maxRecDepth 65536 in
/-- The joined array's columns of the first group's queries. -/
theorem joined_q (b : Fin 2) (s : Fin 4096) (x : Fin 512) :
    V m c main_v5 (ix3 b s ⟨6144 + x.val, by omega⟩) = m ((c.tc : Thread nD τ).loc main_arg0) (ix3 b s ⟨2048 + x.val, by omega⟩) := by
  unfold V
  after_reads_at
  refine (dif_neg (by show ¬ 6144 + x.val < 2048; omega)).trans ((dif_neg (by show ¬ 6144 + x.val - 2048 < 4096; omega)).trans ((dif_pos (by show 6144 + x.val - 2048 - 4096 < 512; omega)).trans ?_))
  after_reads_at
  exact congrArg _ (congrArg (ix3 b s) (Fin.ext (by simp only []; omega)))

set_option maxRecDepth 65536 in
/-- The joined array's columns of the first group's keys. -/
theorem joined_k (b : Fin 2) (s : Fin 4096) (x : Fin 512) :
    V m c main_v5 (ix3 b s ⟨6656 + x.val, by omega⟩) = m ((c.tc : Thread nD τ).loc main_arg0) (ix3 b s ⟨3584 + x.val, by omega⟩) := by
  unfold V
  after_reads_at
  refine (dif_neg (by show ¬ 6656 + x.val < 2048; omega)).trans ((dif_neg (by show ¬ 6656 + x.val - 2048 < 4096; omega)).trans ((dif_neg (by show ¬ 6656 + x.val - 2048 - 4096 < 512; omega)).trans ((dif_pos (by show 6656 + x.val - 2048 - 4096 - 512 < 512; omega)).trans ?_)))
  after_reads_at
  exact congrArg _ (congrArg (ix3 b s) (Fin.ext (by simp only []; omega)))

set_option maxRecDepth 65536 in
/-- The joined array's columns of the first group's values. -/
theorem joined_v (b : Fin 2) (s : Fin 4096) (x : Fin 512) :
    V m c main_v5 (ix3 b s ⟨7168 + x.val, by omega⟩) = m ((c.tc : Thread nD τ).loc main_arg0) (ix3 b s ⟨5120 + x.val, by omega⟩) := by
  unfold V
  after_reads_at
  refine (dif_neg (by show ¬ 7168 + x.val < 2048; omega)).trans ((dif_neg (by show ¬ 7168 + x.val - 2048 < 4096; omega)).trans ((dif_neg (by show ¬ 7168 + x.val - 2048 - 4096 < 512; omega)).trans ((dif_neg (by show ¬ 7168 + x.val - 2048 - 4096 - 512 < 512; omega)).trans (?_))))
  after_reads_at
  exact congrArg _ (congrArg (ix3 b s) (Fin.ext (by simp only []; omega)))

theorem gain5 (x : Fin 512) : V m c main_v9 (ix2 0 x) = m ((c.tc : Thread nD τ).loc main_arg1) (ix2 ⟨x.val / 128, by omega⟩ ⟨x.val % 128, by omega⟩) := by
  unfold V
  after_reads_at

theorem gain6 (x : Fin 512) : V m c main_v11 (ix2 0 x) = m ((c.tc : Thread nD τ).loc main_arg2) (ix2 ⟨x.val / 128, by omega⟩ ⟨x.val % 128, by omega⟩) := by
  unfold V
  after_reads_at

theorem N16 : cfg0.N = 16 := by decide +kernel
/-- A point's batch. -/
def pb (t : Fin cfg0.N) : Fin 2 := ⟨t.val / 8, by have := t.isLt; have := N16; omega⟩
/-- A point's row of the sequence. -/
def pr (t : Fin cfg0.N) (a : Fin 512) : Fin 4096 := ⟨512 * (t.val % 8) + a.val, by omega⟩

/-- A row of the 128 rows before a point's (the first 128 for a sequence's first point). -/
def ph (t : Fin cfg0.N) (a : Fin 128) : Fin 4096 := ⟨128 * (t.val % 8 * 4 - 1) + a.val, by omega⟩

theorem rd0 (t : Fin cfg0.N) (a : Fin 512) (x : Fin 512) :
    iblk m c 0 t (ix3 0 a x) = m ((c.tc : Thread nD τ).loc main_arg0) (ix3 (pb t) (pr t a) ⟨2048 + x.val, by omega⟩) := by
  refine Eq.trans ?_ (joined_q m c (pb t) (pr t a) x)
  blk_ext [iblk, idx0 t, pb, pr]

theorem rd1 (t : Fin cfg0.N) (a : Fin 512) (x : Fin 512) :
    iblk m c 1 t (ix3 0 a x) = m ((c.tc : Thread nD τ).loc main_arg0) (ix3 (pb t) (pr t a) ⟨3584 + x.val, by omega⟩) := by
  refine Eq.trans ?_ (joined_k m c (pb t) (pr t a) x)
  blk_ext [iblk, idx1 t, pb, pr]

theorem rd2 (t : Fin cfg0.N) (a : Fin 512) (x : Fin 512) :
    iblk m c 2 t (ix3 0 a x) = m ((c.tc : Thread nD τ).loc main_arg0) (ix3 (pb t) (pr t a) ⟨5120 + x.val, by omega⟩) := by
  refine Eq.trans ?_ (joined_v m c (pb t) (pr t a) x)
  blk_ext [iblk, idx2 t, pb, pr]

theorem rd3 (t : Fin cfg0.N) (a : Fin 128) (x : Fin 512) :
    iblk m c 3 t (ix3 0 a x) = m ((c.tc : Thread nD τ).loc main_arg0) (ix3 (pb t) (ph t a) ⟨3584 + x.val, by omega⟩) := by
  refine Eq.trans ?_ (joined_k m c (pb t) (ph t a) x)
  blk_ext [iblk, idx3 t, pb, ph]

theorem rd4 (t : Fin cfg0.N) (a : Fin 128) (x : Fin 512) :
    iblk m c 4 t (ix3 0 a x) = m ((c.tc : Thread nD τ).loc main_arg0) (ix3 (pb t) (ph t a) ⟨5120 + x.val, by omega⟩) := by
  refine Eq.trans ?_ (joined_v m c (pb t) (ph t a) x)
  blk_ext [iblk, idx4 t, pb, ph]

theorem rd5 (t : Fin cfg0.N) (x : Fin 512) :
    iblk m c 5 t (ix2 0 x) = m ((c.tc : Thread nD τ).loc main_arg1) (ix2 ⟨x.val / 128, by omega⟩ ⟨x.val % 128, by omega⟩) := by
  refine Eq.trans ?_ (gain5 m c x)
  blk_ext [iblk, idx5 t]

theorem rd6 (t : Fin cfg0.N) (x : Fin 512) :
    iblk m c 6 t (ix2 0 x) = m ((c.tc : Thread nD τ).loc main_arg2) (ix2 ⟨x.val / 128, by omega⟩ ⟨x.val % 128, by omega⟩) := by
  refine Eq.trans ?_ (gain6 m c x)
  blk_ext [iblk, idx6 t]

end Cert.KernelIdeal.Attn

end
-- ==== Proof.AttnSpec.lean ====
/- The first group's attention as a function of the arguments: the projection and the two gains. -/
module

public import proofs.«01_k».proof.Proof.RowMath
public import Idealize.ShloMosaic.Lib.Pointwise
public import Idealize.ShloMosaic.Lib.ValueIdx

@[expose] public section

noncomputable section

namespace Cert.AttnSpec

open Idealize.ShloMosaic Cert.RowMath

abbrev SZ : Shape := ⟨3, ![2, 4096, 10752]⟩
abbrev SG : Shape := ⟨2, ![12, 128]⟩
abbrev SO : Shape := ⟨3, ![2, 4096, 512]⟩

variable (Z : SZ.Idx → EReal) (Gq Gk : SG.Idx → EReal)

/-- The queries of batch `b`, head `h`, by block and row. -/
def Qh (b : Fin 2) (h : Fin 4) (n : Fin 32) (a e : Fin 128) : EReal :=
  Z (ix3 b ⟨128 * n.val + a.val, by omega⟩ ⟨2048 + (128 * h.val + e.val), by omega⟩)
/-- The keys. -/
def Kh (b : Fin 2) (h : Fin 4) (n : Fin 32) (a e : Fin 128) : EReal :=
  Z (ix3 b ⟨128 * n.val + a.val, by omega⟩ ⟨3584 + (128 * h.val + e.val), by omega⟩)
/-- The values. -/
def Vh (b : Fin 2) (h : Fin 4) (n : Fin 32) (a e : Fin 128) : EReal :=
  Z (ix3 b ⟨128 * n.val + a.val, by omega⟩ ⟨5120 + (128 * h.val + e.val), by omega⟩)
/-- A head's gains. -/
def gh (G : SG.Idx → EReal) (h : Fin 4) (e : Fin 128) : EReal := G (ix2 ⟨h.val, by omega⟩ e)

/-- The block of an output row. -/
def jn (j : SO.Idx) : Fin 32 := ⟨(j 1).val / 128, by have h1 : (j 1).val < 4096 := (j 1).isLt; omega⟩
/-- Its row within the block. -/
def ja (j : SO.Idx) : Fin 128 := ⟨(j 1).val % 128, by omega⟩
/-- The head of an output column. -/
def jh (j : SO.Idx) : Fin 4 := ⟨(j 2).val / 128, by have h2 : (j 2).val < 512 := (j 2).isLt; omega⟩
/-- Its lane within the head. -/
def jd (j : SO.Idx) : Fin 128 := ⟨(j 2).val % 128, by omega⟩

/-- The attention's output. -/
def outO (j : SO.Idx) : EReal :=
  blockO (Qh Z (j 0) (jh j)) (Kh Z (j 0) (jh j)) (Vh Z (j 0) (jh j)) (gh Gq (jh j)) (gh Gk (jh j)) (jn j) (ja j) (jd j)
/-- The log normaliser, on every lane of its head. -/
def outL (j : SO.Idx) : EReal :=
  blockL (Qh Z (j 0) (jh j)) (Kh Z (j 0) (jh j)) (gh Gq (jh j)) (gh Gk (jh j)) (jn j) (ja j)

section
variable (j : SO.Idx) (b : Fin 2) (n : Fin 32) (h : Fin 4) (a d : Fin 128) (h0 : (j 0).val = b.val)
    (h1 : (j 1).val = 128 * n.val + a.val) (h2 : (j 2).val = 128 * h.val + d.val)
include h0 h1 h2

theorem coords : j 0 = b ∧ jn j = n ∧ ja j = a ∧ jh j = h ∧ jd j = d :=
  ⟨Fin.ext h0, Fin.ext (by show (j 1).val / 128 = n.val; omega), Fin.ext (by show (j 1).val % 128 = a.val; omega),
    Fin.ext (by show (j 2).val / 128 = h.val; omega), Fin.ext (by show (j 2).val % 128 = d.val; omega)⟩

theorem outO_at : outO Z Gq Gk j = blockO (Qh Z b h) (Kh Z b h) (Vh Z b h) (gh Gq h) (gh Gk h) n a d := by
  obtain ⟨e0, e1, e2, e3, e4⟩ := coords j b n h a d h0 h1 h2
  unfold outO
  rw [e0, e1, e2, e3, e4]

theorem outL_at : outL Z Gq Gk j = blockL (Qh Z b h) (Kh Z b h) (gh Gq h) (gh Gk h) n a := by
  obtain ⟨e0, e1, e2, e3, e4⟩ := coords j b n h a d h0 h1 h2
  unfold outL
  rw [e0, e1, e2, e3]

end

end Cert.AttnSpec

end
-- ==== Proof.KernelVal.lean ====
/- The kernel's two result arrays after the launch: the attention's output and log normaliser, index by index. -/
module

public import proofs.«01_k».proof.Proof.KernelRead
public import proofs.«01_k».proof.Proof.AttnSpec

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.Pipeline
open Cert.AttnBlock (Loads head_in head_in_lse head_halo head_halo_lse)
open Cert.AttnSpec

variable (m : (ℓ : Loc nD τ sig) → Buf (Elt Ideal) ℓ) (c : Dev nD)

/-- The four blocks of a point. -/
def pB (t : Fin cfg0.N) (r : Fin 4) : Fin 32 := ⟨4 * (t.val % 8) + r.val, by omega⟩

abbrev Z : SZ.Idx → EReal := m ((c.tc : Thread nD τ).loc main_arg0)
abbrev Gq : SG.Idx → EReal := m ((c.tc : Thread nD τ).loc main_arg1)
abbrev Gk : SG.Idx → EReal := m ((c.tc : Thread nD τ).loc main_arg2)

/-- What a head's loads hold, from what the blocks hold at an index. -/
theorem loads (t : Fin cfg0.N) (h : Fin 4) (X0 X1 : Vec Ideal Cert.AttnBlock.S1x512x128 .bf16) (G0 G1 : Vec Ideal Cert.AttnBlock.S1x128 .f32)
    (h0 : ∀ a e, X0 (ix3 0 a e) = iblk m c 0 t (ix3 0 a ⟨128 * h.val + e.val, by omega⟩))
    (h1 : ∀ a e, X1 (ix3 0 a e) = iblk m c 1 t (ix3 0 a ⟨128 * h.val + e.val, by omega⟩))
    (h5 : ∀ e, G0 (ix2 0 e) = iblk m c 5 t (ix2 0 ⟨128 * h.val + e.val, by omega⟩))
    (h6 : ∀ e, G1 (ix2 0 e) = iblk m c 6 t (ix2 0 ⟨128 * h.val + e.val, by omega⟩)) :
    Loads (Qh (Z m c) (pb t) h) (Kh (Z m c) (pb t) h) (gh (Gq m c) h) (gh (Gk m c) h) (pB t) (grid0.coords t 1).val X0 X1 G0 G1 where
  hB r := by rw [crd]; rfl
  hi := by rw [crd]; omega
  hX0 r a e := by
    rw [h0, rd0]
    exact congrArg _ (congrArg₂ (ix3 (pb t)) (Fin.ext (by show _ = 128 * (4 * (t.val % 8) + r.val) + a.val; simp only [pr]; omega)) rfl)
  hX1 r a e := by
    rw [h1, rd1]
    exact congrArg _ (congrArg₂ (ix3 (pb t)) (Fin.ext (by show _ = 128 * (4 * (t.val % 8) + r.val) + a.val; simp only [pr]; omega)) rfl)
  hG0 e := by
    rw [h5, rd5]
    exact congrArg _ (congrArg₂ ix2 (Fin.ext (by show (128 * h.val + e.val) / 128 = h.val; omega)) (Fin.ext (by show (128 * h.val + e.val) % 128 = e.val; omega)))
  hG1 e := by
    rw [h6, rd6]
    exact congrArg _ (congrArg₂ ix2 (Fin.ext (by show (128 * h.val + e.val) / 128 = h.val; omega)) (Fin.ext (by show (128 * h.val + e.val) % 128 = e.val; omega)))

theorem ix3_of (y : S1x128x128.Idx) : y = ix3 0 (y 1) (y 2) := by
  funext a
  match a with
  | ⟨0, _⟩ => exact Fin.ext (by have h : (y 0).val < 1 := (y 0).isLt; show (y 0).val = 0; omega)
  | ⟨1, _⟩ => rfl
  | ⟨2, _⟩ => rfl

theorem vhead (t : Fin cfg0.N) (h r : Fin 4) (b d : Fin 128) :
    iblk m c 2 t (ix3 0 ⟨128 * r.val + b.val, by omega⟩ ⟨128 * h.val + d.val, by omega⟩) = Vh (Z m c) (pb t) h (pB t r) b d := by
  rw [rd2]
  exact congrArg _ (congrArg₂ (ix3 (pb t)) (Fin.ext (by show _ = 128 * (4 * (t.val % 8) + r.val) + b.val; simp only [pr]; omega)) rfl)

theorem khalo (t : Fin cfg0.N) (h : Fin 4) (b d : Fin 128) :
    iblk m c 3 t (ix3 0 b ⟨128 * h.val + d.val, by omega⟩) = Kh (Z m c) (pb t) h (RowMath.prv (pB t 0)) b d := by
  rw [rd3]
  exact congrArg _ (congrArg₂ (ix3 (pb t)) (Fin.ext (by
    show 128 * (t.val % 8 * 4 - 1) + b.val = 128 * (4 * (t.val % 8) + 0 - 1) + b.val; omega)) rfl)

theorem vhalo (t : Fin cfg0.N) (h : Fin 4) (b d : Fin 128) :
    iblk m c 4 t (ix3 0 b ⟨128 * h.val + d.val, by omega⟩) = Vh (Z m c) (pb t) h (RowMath.prv (pB t 0)) b d := by
  rw [rd4]
  exact congrArg _ (congrArg₂ (ix3 (pb t)) (Fin.ext (by
    show 128 * (t.val % 8 * 4 - 1) + b.val = 128 * (4 * (t.val % 8) + 0 - 1) + b.val; omega)) rfl)

set_option maxHeartbeats 4000000 in
theorem point7 (t : Fin cfg0.N) (y : S1x512x512.Idx) :
    out0_7 (grid0.coords t) (iblk m c 0 t) (iblk m c 1 t) (iblk m c 2 t) (iblk m c 3 t) (iblk m c 4 t) (iblk m c 5 t) (iblk m c 6 t) y
      = outO (Z m c) (Gq m c) (Gk m c) (((cfg0.win 7).blk t).view.emb y) := by
  unfold_out out0_7
  canon_tiles y h
  case piece0 =>
    obtain ⟨a, d, rfl⟩ : ∃ a d : Fin 128, y = ix3 0 a d := ⟨y 1, y 2, ix3_of y⟩
    refine Eq.trans ?_ (outO_at (Z m c) (Gq m c) (Gk m c) _ (pb t) (pB t 3) 3 a d ?_ ?_ ?_).symm
    · refine Eq.trans (head_in (V := Vh (Z m c) (pb t) 3) (loads m c t 3 _ _ _ _ ?_ ?_ ?_ ?_) 3 2 rfl 384 256 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 3 2 b d)
      · exact fun b d => Eq.trans (View.ld_unit_apply_of _ _ _ _ _ _ (fun q => by match q with | ⟨0, _⟩ => rfl | ⟨1, _⟩ => rfl | ⟨2, _⟩ => rfl)) (vhead m c t 3 3 b d)
    · blk_simp [idx7 t, pb, pB]
    · blk_simp [idx7 t, pb, pB]
      change _ = 384 + a.val at h1
      show _ = 128 * (4 * (t.val % 8) + 3) + a.val
      omega
    · blk_simp [idx7 t, pb, pB]
      exact h2
  case piece1 =>
    obtain ⟨a, d, rfl⟩ : ∃ a d : Fin 128, y = ix3 0 a d := ⟨y 1, y 2, ix3_of y⟩
    refine Eq.trans ?_ (outO_at (Z m c) (Gq m c) (Gk m c) _ (pb t) (pB t 2) 3 a d ?_ ?_ ?_).symm
    · refine Eq.trans (head_in (V := Vh (Z m c) (pb t) 3) (loads m c t 3 _ _ _ _ ?_ ?_ ?_ ?_) 2 1 rfl 256 128 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 3 1 b d)
      · exact fun b d => Eq.trans (View.ld_unit_apply_of _ _ _ _ _ _ (fun q => by match q with | ⟨0, _⟩ => rfl | ⟨1, _⟩ => rfl | ⟨2, _⟩ => rfl)) (vhead m c t 3 2 b d)
    · blk_simp [idx7 t, pb, pB]
    · blk_simp [idx7 t, pb, pB]
      change _ = 256 + a.val at h1
      show _ = 128 * (4 * (t.val % 8) + 2) + a.val
      omega
    · blk_simp [idx7 t, pb, pB]
      exact h2
  case piece2 =>
    obtain ⟨a, d, rfl⟩ : ∃ a d : Fin 128, y = ix3 0 a d := ⟨y 1, y 2, ix3_of y⟩
    refine Eq.trans ?_ (outO_at (Z m c) (Gq m c) (Gk m c) _ (pb t) (pB t 1) 3 a d ?_ ?_ ?_).symm
    · refine Eq.trans (head_in (V := Vh (Z m c) (pb t) 3) (loads m c t 3 _ _ _ _ ?_ ?_ ?_ ?_) 1 0 rfl 128 0 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 3 0 b d)
      · exact fun b d => Eq.trans (View.ld_unit_apply_of _ _ _ _ _ _ (fun q => by match q with | ⟨0, _⟩ => rfl | ⟨1, _⟩ => rfl | ⟨2, _⟩ => rfl)) (vhead m c t 3 1 b d)
    · blk_simp [idx7 t, pb, pB]
    · blk_simp [idx7 t, pb, pB]
      change _ = 128 + a.val at h1
      show _ = 128 * (4 * (t.val % 8) + 1) + a.val
      omega
    · blk_simp [idx7 t, pb, pB]
      exact h2
  case piece3 =>
    obtain ⟨a, d, rfl⟩ : ∃ a d : Fin 128, y = ix3 0 a d := ⟨y 1, y 2, ix3_of y⟩
    refine Eq.trans ?_ (outO_at (Z m c) (Gq m c) (Gk m c) _ (pb t) (pB t 0) 3 a d ?_ ?_ ?_).symm
    · refine Eq.trans (head_halo (V := Vh (Z m c) (pb t) 3) (loads m c t 3 _ _ _ _ ?_ ?_ ?_ ?_) (by decide) ?_ ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => exact (Nat.zero_add _).symm | ⟨2, _⟩ => rfl)) (khalo m c t 3 b d)
      · exact fun b d => Eq.trans (View.ld_unit_apply_of _ _ _ _ _ _ (fun q => by match q with | ⟨0, _⟩ => rfl | ⟨1, _⟩ => exact (Nat.zero_add _).symm | ⟨2, _⟩ => rfl)) (vhalo m c t 3 b d)
      · exact fun b d => Eq.trans (View.ld_unit_apply_of _ _ _ _ _ _ (fun q => by match q with | ⟨0, _⟩ => rfl | ⟨1, _⟩ => rfl | ⟨2, _⟩ => rfl)) (vhead m c t 3 0 b d)
    · blk_simp [idx7 t, pb, pB]
    · blk_simp [idx7 t, pb, pB]
      change _ = a.val at h1
      show _ = 128 * (4 * (t.val % 8) + 0) + a.val
      omega
    · blk_simp [idx7 t, pb, pB]
      exact h2
  case piece4 =>
    obtain ⟨a, d, rfl⟩ : ∃ a d : Fin 128, y = ix3 0 a d := ⟨y 1, y 2, ix3_of y⟩
    refine Eq.trans ?_ (outO_at (Z m c) (Gq m c) (Gk m c) _ (pb t) (pB t 3) 2 a d ?_ ?_ ?_).symm
    · refine Eq.trans (head_in (V := Vh (Z m c) (pb t) 2) (loads m c t 2 _ _ _ _ ?_ ?_ ?_ ?_) 3 2 rfl 384 256 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 2 2 b d)
      · exact fun b d => Eq.trans (View.ld_unit_apply_of _ _ _ _ _ _ (fun q => by match q with | ⟨0, _⟩ => rfl | ⟨1, _⟩ => rfl | ⟨2, _⟩ => rfl)) (vhead m c t 2 3 b d)
    · blk_simp [idx7 t, pb, pB]
    · blk_simp [idx7 t, pb, pB]
      change _ = 384 + a.val at h1
      show _ = 128 * (4 * (t.val % 8) + 3) + a.val
      omega
    · blk_simp [idx7 t, pb, pB]
      exact h2
  case piece5 =>
    obtain ⟨a, d, rfl⟩ : ∃ a d : Fin 128, y = ix3 0 a d := ⟨y 1, y 2, ix3_of y⟩
    refine Eq.trans ?_ (outO_at (Z m c) (Gq m c) (Gk m c) _ (pb t) (pB t 2) 2 a d ?_ ?_ ?_).symm
    · refine Eq.trans (head_in (V := Vh (Z m c) (pb t) 2) (loads m c t 2 _ _ _ _ ?_ ?_ ?_ ?_) 2 1 rfl 256 128 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 2 1 b d)
      · exact fun b d => Eq.trans (View.ld_unit_apply_of _ _ _ _ _ _ (fun q => by match q with | ⟨0, _⟩ => rfl | ⟨1, _⟩ => rfl | ⟨2, _⟩ => rfl)) (vhead m c t 2 2 b d)
    · blk_simp [idx7 t, pb, pB]
    · blk_simp [idx7 t, pb, pB]
      change _ = 256 + a.val at h1
      show _ = 128 * (4 * (t.val % 8) + 2) + a.val
      omega
    · blk_simp [idx7 t, pb, pB]
      exact h2
  case piece6 =>
    obtain ⟨a, d, rfl⟩ : ∃ a d : Fin 128, y = ix3 0 a d := ⟨y 1, y 2, ix3_of y⟩
    refine Eq.trans ?_ (outO_at (Z m c) (Gq m c) (Gk m c) _ (pb t) (pB t 1) 2 a d ?_ ?_ ?_).symm
    · refine Eq.trans (head_in (V := Vh (Z m c) (pb t) 2) (loads m c t 2 _ _ _ _ ?_ ?_ ?_ ?_) 1 0 rfl 128 0 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 2 0 b d)
      · exact fun b d => Eq.trans (View.ld_unit_apply_of _ _ _ _ _ _ (fun q => by match q with | ⟨0, _⟩ => rfl | ⟨1, _⟩ => rfl | ⟨2, _⟩ => rfl)) (vhead m c t 2 1 b d)
    · blk_simp [idx7 t, pb, pB]
    · blk_simp [idx7 t, pb, pB]
      change _ = 128 + a.val at h1
      show _ = 128 * (4 * (t.val % 8) + 1) + a.val
      omega
    · blk_simp [idx7 t, pb, pB]
      exact h2
  case piece7 =>
    obtain ⟨a, d, rfl⟩ : ∃ a d : Fin 128, y = ix3 0 a d := ⟨y 1, y 2, ix3_of y⟩
    refine Eq.trans ?_ (outO_at (Z m c) (Gq m c) (Gk m c) _ (pb t) (pB t 0) 2 a d ?_ ?_ ?_).symm
    · refine Eq.trans (head_halo (V := Vh (Z m c) (pb t) 2) (loads m c t 2 _ _ _ _ ?_ ?_ ?_ ?_) (by decide) ?_ ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => exact (Nat.zero_add _).symm | ⟨2, _⟩ => rfl)) (khalo m c t 2 b d)
      · exact fun b d => Eq.trans (View.ld_unit_apply_of _ _ _ _ _ _ (fun q => by match q with | ⟨0, _⟩ => rfl | ⟨1, _⟩ => exact (Nat.zero_add _).symm | ⟨2, _⟩ => rfl)) (vhalo m c t 2 b d)
      · exact fun b d => Eq.trans (View.ld_unit_apply_of _ _ _ _ _ _ (fun q => by match q with | ⟨0, _⟩ => rfl | ⟨1, _⟩ => rfl | ⟨2, _⟩ => rfl)) (vhead m c t 2 0 b d)
    · blk_simp [idx7 t, pb, pB]
    · blk_simp [idx7 t, pb, pB]
      change _ = a.val at h1
      show _ = 128 * (4 * (t.val % 8) + 0) + a.val
      omega
    · blk_simp [idx7 t, pb, pB]
      exact h2
  case piece8 =>
    obtain ⟨a, d, rfl⟩ : ∃ a d : Fin 128, y = ix3 0 a d := ⟨y 1, y 2, ix3_of y⟩
    refine Eq.trans ?_ (outO_at (Z m c) (Gq m c) (Gk m c) _ (pb t) (pB t 3) 1 a d ?_ ?_ ?_).symm
    · refine Eq.trans (head_in (V := Vh (Z m c) (pb t) 1) (loads m c t 1 _ _ _ _ ?_ ?_ ?_ ?_) 3 2 rfl 384 256 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 1 2 b d)
      · exact fun b d => Eq.trans (View.ld_unit_apply_of _ _ _ _ _ _ (fun q => by match q with | ⟨0, _⟩ => rfl | ⟨1, _⟩ => rfl | ⟨2, _⟩ => rfl)) (vhead m c t 1 3 b d)
    · blk_simp [idx7 t, pb, pB]
    · blk_simp [idx7 t, pb, pB]
      change _ = 384 + a.val at h1
      show _ = 128 * (4 * (t.val % 8) + 3) + a.val
      omega
    · blk_simp [idx7 t, pb, pB]
      exact h2
  case piece9 =>
    obtain ⟨a, d, rfl⟩ : ∃ a d : Fin 128, y = ix3 0 a d := ⟨y 1, y 2, ix3_of y⟩
    refine Eq.trans ?_ (outO_at (Z m c) (Gq m c) (Gk m c) _ (pb t) (pB t 2) 1 a d ?_ ?_ ?_).symm
    · refine Eq.trans (head_in (V := Vh (Z m c) (pb t) 1) (loads m c t 1 _ _ _ _ ?_ ?_ ?_ ?_) 2 1 rfl 256 128 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 1 1 b d)
      · exact fun b d => Eq.trans (View.ld_unit_apply_of _ _ _ _ _ _ (fun q => by match q with | ⟨0, _⟩ => rfl | ⟨1, _⟩ => rfl | ⟨2, _⟩ => rfl)) (vhead m c t 1 2 b d)
    · blk_simp [idx7 t, pb, pB]
    · blk_simp [idx7 t, pb, pB]
      change _ = 256 + a.val at h1
      show _ = 128 * (4 * (t.val % 8) + 2) + a.val
      omega
    · blk_simp [idx7 t, pb, pB]
      exact h2
  case piece10 =>
    obtain ⟨a, d, rfl⟩ : ∃ a d : Fin 128, y = ix3 0 a d := ⟨y 1, y 2, ix3_of y⟩
    refine Eq.trans ?_ (outO_at (Z m c) (Gq m c) (Gk m c) _ (pb t) (pB t 1) 1 a d ?_ ?_ ?_).symm
    · refine Eq.trans (head_in (V := Vh (Z m c) (pb t) 1) (loads m c t 1 _ _ _ _ ?_ ?_ ?_ ?_) 1 0 rfl 128 0 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 1 0 b d)
      · exact fun b d => Eq.trans (View.ld_unit_apply_of _ _ _ _ _ _ (fun q => by match q with | ⟨0, _⟩ => rfl | ⟨1, _⟩ => rfl | ⟨2, _⟩ => rfl)) (vhead m c t 1 1 b d)
    · blk_simp [idx7 t, pb, pB]
    · blk_simp [idx7 t, pb, pB]
      change _ = 128 + a.val at h1
      show _ = 128 * (4 * (t.val % 8) + 1) + a.val
      omega
    · blk_simp [idx7 t, pb, pB]
      exact h2
  case piece11 =>
    obtain ⟨a, d, rfl⟩ : ∃ a d : Fin 128, y = ix3 0 a d := ⟨y 1, y 2, ix3_of y⟩
    refine Eq.trans ?_ (outO_at (Z m c) (Gq m c) (Gk m c) _ (pb t) (pB t 0) 1 a d ?_ ?_ ?_).symm
    · refine Eq.trans (head_halo (V := Vh (Z m c) (pb t) 1) (loads m c t 1 _ _ _ _ ?_ ?_ ?_ ?_) (by decide) ?_ ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => exact (Nat.zero_add _).symm | ⟨2, _⟩ => rfl)) (khalo m c t 1 b d)
      · exact fun b d => Eq.trans (View.ld_unit_apply_of _ _ _ _ _ _ (fun q => by match q with | ⟨0, _⟩ => rfl | ⟨1, _⟩ => exact (Nat.zero_add _).symm | ⟨2, _⟩ => rfl)) (vhalo m c t 1 b d)
      · exact fun b d => Eq.trans (View.ld_unit_apply_of _ _ _ _ _ _ (fun q => by match q with | ⟨0, _⟩ => rfl | ⟨1, _⟩ => rfl | ⟨2, _⟩ => rfl)) (vhead m c t 1 0 b d)
    · blk_simp [idx7 t, pb, pB]
    · blk_simp [idx7 t, pb, pB]
      change _ = a.val at h1
      show _ = 128 * (4 * (t.val % 8) + 0) + a.val
      omega
    · blk_simp [idx7 t, pb, pB]
      exact h2
  case piece12 =>
    obtain ⟨a, d, rfl⟩ : ∃ a d : Fin 128, y = ix3 0 a d := ⟨y 1, y 2, ix3_of y⟩
    refine Eq.trans ?_ (outO_at (Z m c) (Gq m c) (Gk m c) _ (pb t) (pB t 3) 0 a d ?_ ?_ ?_).symm
    · refine Eq.trans (head_in (V := Vh (Z m c) (pb t) 0) (loads m c t 0 _ _ _ _ ?_ ?_ ?_ ?_) 3 2 rfl 384 256 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 0 2 b d)
      · exact fun b d => Eq.trans (View.ld_unit_apply_of _ _ _ _ _ _ (fun q => by match q with | ⟨0, _⟩ => rfl | ⟨1, _⟩ => rfl | ⟨2, _⟩ => rfl)) (vhead m c t 0 3 b d)
    · blk_simp [idx7 t, pb, pB]
    · blk_simp [idx7 t, pb, pB]
      change _ = 384 + a.val at h1
      show _ = 128 * (4 * (t.val % 8) + 3) + a.val
      omega
    · blk_simp [idx7 t, pb, pB]
      exact h2.trans (Nat.zero_add _).symm
  case piece13 =>
    obtain ⟨a, d, rfl⟩ : ∃ a d : Fin 128, y = ix3 0 a d := ⟨y 1, y 2, ix3_of y⟩
    refine Eq.trans ?_ (outO_at (Z m c) (Gq m c) (Gk m c) _ (pb t) (pB t 2) 0 a d ?_ ?_ ?_).symm
    · refine Eq.trans (head_in (V := Vh (Z m c) (pb t) 0) (loads m c t 0 _ _ _ _ ?_ ?_ ?_ ?_) 2 1 rfl 256 128 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 0 1 b d)
      · exact fun b d => Eq.trans (View.ld_unit_apply_of _ _ _ _ _ _ (fun q => by match q with | ⟨0, _⟩ => rfl | ⟨1, _⟩ => rfl | ⟨2, _⟩ => rfl)) (vhead m c t 0 2 b d)
    · blk_simp [idx7 t, pb, pB]
    · blk_simp [idx7 t, pb, pB]
      change _ = 256 + a.val at h1
      show _ = 128 * (4 * (t.val % 8) + 2) + a.val
      omega
    · blk_simp [idx7 t, pb, pB]
      exact h2.trans (Nat.zero_add _).symm
  case piece14 =>
    obtain ⟨a, d, rfl⟩ : ∃ a d : Fin 128, y = ix3 0 a d := ⟨y 1, y 2, ix3_of y⟩
    refine Eq.trans ?_ (outO_at (Z m c) (Gq m c) (Gk m c) _ (pb t) (pB t 1) 0 a d ?_ ?_ ?_).symm
    · refine Eq.trans (head_in (V := Vh (Z m c) (pb t) 0) (loads m c t 0 _ _ _ _ ?_ ?_ ?_ ?_) 1 0 rfl 128 0 rfl rfl (by decide) (by decide) ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => rfl | ⟨2, _⟩ => rfl)) (vhead m c t 0 0 b d)
      · exact fun b d => Eq.trans (View.ld_unit_apply_of _ _ _ _ _ _ (fun q => by match q with | ⟨0, _⟩ => rfl | ⟨1, _⟩ => rfl | ⟨2, _⟩ => rfl)) (vhead m c t 0 1 b d)
    · blk_simp [idx7 t, pb, pB]
    · blk_simp [idx7 t, pb, pB]
      change _ = 128 + a.val at h1
      show _ = 128 * (4 * (t.val % 8) + 1) + a.val
      omega
    · blk_simp [idx7 t, pb, pB]
      exact h2.trans (Nat.zero_add _).symm
  case piece15 =>
    obtain ⟨a, d, rfl⟩ : ∃ a d : Fin 128, y = ix3 0 a d := ⟨y 1, y 2, ix3_of y⟩
    refine Eq.trans ?_ (outO_at (Z m c) (Gq m c) (Gk m c) _ (pb t) (pB t 0) 0 a d ?_ ?_ ?_).symm
    · refine Eq.trans (head_halo (V := Vh (Z m c) (pb t) 0) (loads m c t 0 _ _ _ _ ?_ ?_ ?_ ?_) (by decide) ?_ ?_ ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => exact (Nat.zero_add _).symm | ⟨2, _⟩ => rfl)) (khalo m c t 0 b d)
      · exact fun b d => Eq.trans (View.ld_unit_apply_of _ _ _ _ _ _ (fun q => by match q with | ⟨0, _⟩ => rfl | ⟨1, _⟩ => exact (Nat.zero_add _).symm | ⟨2, _⟩ => rfl)) (vhalo m c t 0 b d)
      · exact fun b d => Eq.trans (View.ld_unit_apply_of _ _ _ _ _ _ (fun q => by match q with | ⟨0, _⟩ => rfl | ⟨1, _⟩ => rfl | ⟨2, _⟩ => rfl)) (vhead m c t 0 0 b d)
    · blk_simp [idx7 t, pb, pB]
    · blk_simp [idx7 t, pb, pB]
      change _ = a.val at h1
      show _ = 128 * (4 * (t.val % 8) + 0) + a.val
      omega
    · blk_simp [idx7 t, pb, pB]
      exact h2.trans (Nat.zero_add _).symm

set_option maxHeartbeats 1000000 in
theorem final7 : (dats m 0 c).arrAt 7 (cfgs 0).N = outO (Z m c) (Gq m c) (Gk m c) := by
  refine (dats m 0 c).arrAt_eq_of_covers 7 _ (by decide +kernel) fun t hf y => ?_
  rw [after0_7]
  exact point7 m c t y

set_option maxHeartbeats 4000000 in
theorem point8 (t : Fin cfg0.N) (y : S1x512x512.Idx) :
    out0_8 (grid0.coords t) (iblk m c 0 t) (iblk m c 1 t) (iblk m c 2 t) (iblk m c 3 t) (iblk m c 4 t) (iblk m c 5 t) (iblk m c 6 t) y
      = outL (Z m c) (Gq m c) (Gk m c) (((cfg0.win 8).blk t).view.emb y) := by
  unfold_out out0_8
  canon_tiles y h
  case piece0 =>
    obtain ⟨a, d, rfl⟩ : ∃ a d : Fin 128, y = ix3 0 a d := ⟨y 1, y 2, ix3_of y⟩
    refine Eq.trans ?_ (outL_at (Z m c) (Gq m c) (Gk m c) _ (pb t) (pB t 3) 3 a d ?_ ?_ ?_).symm
    · refine Eq.trans (head_in_lse (loads m c t 3 _ _ _ _ ?_ ?_ ?_ ?_) 3 2 rfl 384 256 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 384 + a.val at h1
      show _ = 128 * (4 * (t.val % 8) + 3) + a.val
      omega
    · blk_simp [idx8 t, pb, pB]
      exact h2
  case piece1 =>
    obtain ⟨a, d, rfl⟩ : ∃ a d : Fin 128, y = ix3 0 a d := ⟨y 1, y 2, ix3_of y⟩
    refine Eq.trans ?_ (outL_at (Z m c) (Gq m c) (Gk m c) _ (pb t) (pB t 2) 3 a d ?_ ?_ ?_).symm
    · refine Eq.trans (head_in_lse (loads m c t 3 _ _ _ _ ?_ ?_ ?_ ?_) 2 1 rfl 256 128 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 256 + a.val at h1
      show _ = 128 * (4 * (t.val % 8) + 2) + a.val
      omega
    · blk_simp [idx8 t, pb, pB]
      exact h2
  case piece2 =>
    obtain ⟨a, d, rfl⟩ : ∃ a d : Fin 128, y = ix3 0 a d := ⟨y 1, y 2, ix3_of y⟩
    refine Eq.trans ?_ (outL_at (Z m c) (Gq m c) (Gk m c) _ (pb t) (pB t 1) 3 a d ?_ ?_ ?_).symm
    · refine Eq.trans (head_in_lse (loads m c t 3 _ _ _ _ ?_ ?_ ?_ ?_) 1 0 rfl 128 0 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 128 + a.val at h1
      show _ = 128 * (4 * (t.val % 8) + 1) + a.val
      omega
    · blk_simp [idx8 t, pb, pB]
      exact h2
  case piece3 =>
    obtain ⟨a, d, rfl⟩ : ∃ a d : Fin 128, y = ix3 0 a d := ⟨y 1, y 2, ix3_of y⟩
    refine Eq.trans ?_ (outL_at (Z m c) (Gq m c) (Gk m c) _ (pb t) (pB t 0) 3 a d ?_ ?_ ?_).symm
    · refine Eq.trans (head_halo_lse (loads m c t 3 _ _ _ _ ?_ ?_ ?_ ?_) (by decide) ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => exact (Nat.zero_add _).symm | ⟨2, _⟩ => rfl)) (khalo m c t 3 b d)
    · blk_simp [idx8 t, pb, pB]
    · blk_simp [idx8 t, pb, pB]
      change _ = a.val at h1
      show _ = 128 * (4 * (t.val % 8) + 0) + a.val
      omega
    · blk_simp [idx8 t, pb, pB]
      exact h2
  case piece4 =>
    obtain ⟨a, d, rfl⟩ : ∃ a d : Fin 128, y = ix3 0 a d := ⟨y 1, y 2, ix3_of y⟩
    refine Eq.trans ?_ (outL_at (Z m c) (Gq m c) (Gk m c) _ (pb t) (pB t 3) 2 a d ?_ ?_ ?_).symm
    · refine Eq.trans (head_in_lse (loads m c t 2 _ _ _ _ ?_ ?_ ?_ ?_) 3 2 rfl 384 256 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 384 + a.val at h1
      show _ = 128 * (4 * (t.val % 8) + 3) + a.val
      omega
    · blk_simp [idx8 t, pb, pB]
      exact h2
  case piece5 =>
    obtain ⟨a, d, rfl⟩ : ∃ a d : Fin 128, y = ix3 0 a d := ⟨y 1, y 2, ix3_of y⟩
    refine Eq.trans ?_ (outL_at (Z m c) (Gq m c) (Gk m c) _ (pb t) (pB t 2) 2 a d ?_ ?_ ?_).symm
    · refine Eq.trans (head_in_lse (loads m c t 2 _ _ _ _ ?_ ?_ ?_ ?_) 2 1 rfl 256 128 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 256 + a.val at h1
      show _ = 128 * (4 * (t.val % 8) + 2) + a.val
      omega
    · blk_simp [idx8 t, pb, pB]
      exact h2
  case piece6 =>
    obtain ⟨a, d, rfl⟩ : ∃ a d : Fin 128, y = ix3 0 a d := ⟨y 1, y 2, ix3_of y⟩
    refine Eq.trans ?_ (outL_at (Z m c) (Gq m c) (Gk m c) _ (pb t) (pB t 1) 2 a d ?_ ?_ ?_).symm
    · refine Eq.trans (head_in_lse (loads m c t 2 _ _ _ _ ?_ ?_ ?_ ?_) 1 0 rfl 128 0 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 128 + a.val at h1
      show _ = 128 * (4 * (t.val % 8) + 1) + a.val
      omega
    · blk_simp [idx8 t, pb, pB]
      exact h2
  case piece7 =>
    obtain ⟨a, d, rfl⟩ : ∃ a d : Fin 128, y = ix3 0 a d := ⟨y 1, y 2, ix3_of y⟩
    refine Eq.trans ?_ (outL_at (Z m c) (Gq m c) (Gk m c) _ (pb t) (pB t 0) 2 a d ?_ ?_ ?_).symm
    · refine Eq.trans (head_halo_lse (loads m c t 2 _ _ _ _ ?_ ?_ ?_ ?_) (by decide) ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => exact (Nat.zero_add _).symm | ⟨2, _⟩ => rfl)) (khalo m c t 2 b d)
    · blk_simp [idx8 t, pb, pB]
    · blk_simp [idx8 t, pb, pB]
      change _ = a.val at h1
      show _ = 128 * (4 * (t.val % 8) + 0) + a.val
      omega
    · blk_simp [idx8 t, pb, pB]
      exact h2
  case piece8 =>
    obtain ⟨a, d, rfl⟩ : ∃ a d : Fin 128, y = ix3 0 a d := ⟨y 1, y 2, ix3_of y⟩
    refine Eq.trans ?_ (outL_at (Z m c) (Gq m c) (Gk m c) _ (pb t) (pB t 3) 1 a d ?_ ?_ ?_).symm
    · refine Eq.trans (head_in_lse (loads m c t 1 _ _ _ _ ?_ ?_ ?_ ?_) 3 2 rfl 384 256 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 384 + a.val at h1
      show _ = 128 * (4 * (t.val % 8) + 3) + a.val
      omega
    · blk_simp [idx8 t, pb, pB]
      exact h2
  case piece9 =>
    obtain ⟨a, d, rfl⟩ : ∃ a d : Fin 128, y = ix3 0 a d := ⟨y 1, y 2, ix3_of y⟩
    refine Eq.trans ?_ (outL_at (Z m c) (Gq m c) (Gk m c) _ (pb t) (pB t 2) 1 a d ?_ ?_ ?_).symm
    · refine Eq.trans (head_in_lse (loads m c t 1 _ _ _ _ ?_ ?_ ?_ ?_) 2 1 rfl 256 128 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 256 + a.val at h1
      show _ = 128 * (4 * (t.val % 8) + 2) + a.val
      omega
    · blk_simp [idx8 t, pb, pB]
      exact h2
  case piece10 =>
    obtain ⟨a, d, rfl⟩ : ∃ a d : Fin 128, y = ix3 0 a d := ⟨y 1, y 2, ix3_of y⟩
    refine Eq.trans ?_ (outL_at (Z m c) (Gq m c) (Gk m c) _ (pb t) (pB t 1) 1 a d ?_ ?_ ?_).symm
    · refine Eq.trans (head_in_lse (loads m c t 1 _ _ _ _ ?_ ?_ ?_ ?_) 1 0 rfl 128 0 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 128 + a.val at h1
      show _ = 128 * (4 * (t.val % 8) + 1) + a.val
      omega
    · blk_simp [idx8 t, pb, pB]
      exact h2
  case piece11 =>
    obtain ⟨a, d, rfl⟩ : ∃ a d : Fin 128, y = ix3 0 a d := ⟨y 1, y 2, ix3_of y⟩
    refine Eq.trans ?_ (outL_at (Z m c) (Gq m c) (Gk m c) _ (pb t) (pB t 0) 1 a d ?_ ?_ ?_).symm
    · refine Eq.trans (head_halo_lse (loads m c t 1 _ _ _ _ ?_ ?_ ?_ ?_) (by decide) ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => exact (Nat.zero_add _).symm | ⟨2, _⟩ => rfl)) (khalo m c t 1 b d)
    · blk_simp [idx8 t, pb, pB]
    · blk_simp [idx8 t, pb, pB]
      change _ = a.val at h1
      show _ = 128 * (4 * (t.val % 8) + 0) + a.val
      omega
    · blk_simp [idx8 t, pb, pB]
      exact h2
  case piece12 =>
    obtain ⟨a, d, rfl⟩ : ∃ a d : Fin 128, y = ix3 0 a d := ⟨y 1, y 2, ix3_of y⟩
    refine Eq.trans ?_ (outL_at (Z m c) (Gq m c) (Gk m c) _ (pb t) (pB t 3) 0 a d ?_ ?_ ?_).symm
    · refine Eq.trans (head_in_lse (loads m c t 0 _ _ _ _ ?_ ?_ ?_ ?_) 3 2 rfl 384 256 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 384 + a.val at h1
      show _ = 128 * (4 * (t.val % 8) + 3) + a.val
      omega
    · blk_simp [idx8 t, pb, pB]
      exact h2.trans (Nat.zero_add _).symm
  case piece13 =>
    obtain ⟨a, d, rfl⟩ : ∃ a d : Fin 128, y = ix3 0 a d := ⟨y 1, y 2, ix3_of y⟩
    refine Eq.trans ?_ (outL_at (Z m c) (Gq m c) (Gk m c) _ (pb t) (pB t 2) 0 a d ?_ ?_ ?_).symm
    · refine Eq.trans (head_in_lse (loads m c t 0 _ _ _ _ ?_ ?_ ?_ ?_) 2 1 rfl 256 128 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 256 + a.val at h1
      show _ = 128 * (4 * (t.val % 8) + 2) + a.val
      omega
    · blk_simp [idx8 t, pb, pB]
      exact h2.trans (Nat.zero_add _).symm
  case piece14 =>
    obtain ⟨a, d, rfl⟩ : ∃ a d : Fin 128, y = ix3 0 a d := ⟨y 1, y 2, ix3_of y⟩
    refine Eq.trans ?_ (outL_at (Z m c) (Gq m c) (Gk m c) _ (pb t) (pB t 1) 0 a d ?_ ?_ ?_).symm
    · refine Eq.trans (head_in_lse (loads m c t 0 _ _ _ _ ?_ ?_ ?_ ?_) 1 0 rfl 128 0 rfl rfl (by decide) (by decide) a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
    · blk_simp [idx8 t, pb, pB]
    · blk_simp [idx8 t, pb, pB]
      change _ = 128 + a.val at h1
      show _ = 128 * (4 * (t.val % 8) + 1) + a.val
      omega
    · blk_simp [idx8 t, pb, pB]
      exact h2.trans (Nat.zero_add _).symm
  case piece15 =>
    obtain ⟨a, d, rfl⟩ : ∃ a d : Fin 128, y = ix3 0 a d := ⟨y 1, y 2, ix3_of y⟩
    refine Eq.trans ?_ (outL_at (Z m c) (Gq m c) (Gk m c) _ (pb t) (pB t 0) 0 a d ?_ ?_ ?_).symm
    · refine Eq.trans (head_halo_lse (loads m c t 0 _ _ _ _ ?_ ?_ ?_ ?_) (by decide) ?_ a d) rfl
      iterate 2 exact fun a e => View.ld_unit_apply_of _ _ _ _ _ _ (fun q => by match q with | ⟨0, _⟩ => rfl | ⟨1, _⟩ => exact (Nat.zero_add _).symm | ⟨2, _⟩ => rfl)
      iterate 2 exact fun e => View.ld_unit_apply_of _ _ _ _ _ _ (fun q => by match q with | ⟨0, _⟩ => rfl | ⟨1, _⟩ => rfl)
      · exact fun b d => Eq.trans (View.ld_unit_apply_of _ _ _ _ _ _ (fun q => by match q with | ⟨0, _⟩ => rfl | ⟨1, _⟩ => exact (Nat.zero_add _).symm | ⟨2, _⟩ => rfl)) (khalo m c t 0 b d)
    · blk_simp [idx8 t, pb, pB]
    · blk_simp [idx8 t, pb, pB]
      change _ = a.val at h1
      show _ = 128 * (4 * (t.val % 8) + 0) + a.val
      omega
    · blk_simp [idx8 t, pb, pB]
      exact h2.trans (Nat.zero_add _).symm

set_option maxHeartbeats 1000000 in
theorem final8 : (dats m 0 c).arrAt 8 (cfgs 0).N = outL (Z m c) (Gq m c) (Gk m c) := by
  refine (dats m 0 c).arrAt_eq_of_covers 8 _ (by decide +kernel) fun t hf y => ?_
  rw [after0_8]
  exact point8 m c t y

end Cert.KernelIdeal.Attn

end
-- ==== Proof.RefBand.lean ====
/- The reference's normalised queries and keys, and the band of keys and values of a block, read at an index. -/
module

public import proofs.«01_k».proof.Proof.Gen.ReferenceIdeal.Read
public import proofs.«01_k».proof.Proof.AttnSpec
public import Idealize.ShloMosaic.Lib.ValueIdxRank6
public import Idealize.ShloMosaic.Lib.KernelVsHost

@[expose] public section

noncomputable section

namespace Cert.ReferenceIdeal.Attn

open Cert.ReferenceIdeal Cert.ReferenceIdeal.Read Idealize.ShloMosaic Cert.AttnSpec Cert.RowMath

variable (x0 : SZ.Idx → EReal) (x1 x2 : SG.Idx → EReal)

theorem ext2 {d : Fin 2 → ℕ} {i j : (⟨2, d⟩ : Shape).Idx} (h0 : (i 0).val = (j 0).val) (h1 : (i 1).val = (j 1).val) : i = j :=
  funext fun a => Fin.ext (match a with | ⟨0, _⟩ => h0 | ⟨1, _⟩ => h1)

theorem ext3 {d : Fin 3 → ℕ} {i j : (⟨3, d⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

theorem v2_at (i : S2x4096x12x128.Idx) :
    val_main_v2 (F := Ideal) x0 i = x0 (ix3 (i 0) (i 1) ⟨2048 + (128 * (i 2).val + (i 3).val), by have : (i 2).val < 12 := (i 2).isLt; have : (i 3).val < 128 := (i 3).isLt; omega⟩) := by
  have h0 : (i 0).val < 2 := (i 0).isLt
  have h1 : (i 1).val < 4096 := (i 1).isLt
  have h2 : (i 2).val < 12 := (i 2).isLt
  have h3 : (i 3).val < 128 := (i 3).isLt
  refine Eq.trans (show val_main_v2 (F := Ideal) x0 i = val_main_v1 (F := Ideal) x0 i from rfl) ?_
  refine (shapeCast_apply _ _ i (ix3 (i 0) (i 1) (⟨128 * (i 2).val + (i 3).val, by omega⟩ : Fin 1536)) ?_).trans ?_
  · rw [Shape.rowMajor_val_three, Shape.rowMajor_val_four]
    show ((i 0).val * 4096 + (i 1).val) * 1536 + (128 * (i 2).val + (i 3).val) = (((i 0).val * 4096 + (i 1).val) * 12 + (i 2).val) * 128 + (i 3).val
    omega
  · exact (val_main_v0_apply (F := Ideal) x0 _).trans (congrArg x0 (ext3 rfl rfl rfl))

theorem v18_at (i : S2x4096x12x128.Idx) :
    val_main_v18 (F := Ideal) x0 i = x0 (ix3 (i 0) (i 1) ⟨3584 + (128 * (i 2).val + (i 3).val), by have : (i 2).val < 12 := (i 2).isLt; have : (i 3).val < 128 := (i 3).isLt; omega⟩) := by
  have h0 : (i 0).val < 2 := (i 0).isLt
  have h1 : (i 1).val < 4096 := (i 1).isLt
  have h2 : (i 2).val < 12 := (i 2).isLt
  have h3 : (i 3).val < 128 := (i 3).isLt
  refine Eq.trans (show val_main_v18 (F := Ideal) x0 i = val_main_v17 (F := Ideal) x0 i from rfl) ?_
  refine (shapeCast_apply _ _ i (ix3 (i 0) (i 1) (⟨128 * (i 2).val + (i 3).val, by omega⟩ : Fin 1536)) ?_).trans ?_
  · rw [Shape.rowMajor_val_three, Shape.rowMajor_val_four]
    show ((i 0).val * 4096 + (i 1).val) * 1536 + (128 * (i 2).val + (i 3).val) = (((i 0).val * 4096 + (i 1).val) * 12 + (i 2).val) * 128 + (i 3).val
    omega
  · exact (val_main_v16_apply (F := Ideal) x0 _).trans (congrArg x0 (ext3 rfl rfl rfl))

theorem v34_at (i : S2x4096x12x128.Idx) :
    val_main_v34 (F := Ideal) x0 i = x0 (ix3 (i 0) (i 1) ⟨5120 + (128 * (i 2).val + (i 3).val), by have : (i 2).val < 12 := (i 2).isLt; have : (i 3).val < 128 := (i 3).isLt; omega⟩) := by
  have h0 : (i 0).val < 2 := (i 0).isLt
  have h1 : (i 1).val < 4096 := (i 1).isLt
  have h2 : (i 2).val < 12 := (i 2).isLt
  have h3 : (i 3).val < 128 := (i 3).isLt
  refine Eq.trans (show val_main_v34 (F := Ideal) x0 i = val_main_v33 (F := Ideal) x0 i from rfl) ?_
  refine (shapeCast_apply _ _ i (ix3 (i 0) (i 1) (⟨128 * (i 2).val + (i 3).val, by omega⟩ : Fin 1536)) ?_).trans ?_
  · rw [Shape.rowMajor_val_three, Shape.rowMajor_val_four]
    show ((i 0).val * 4096 + (i 1).val) * 1536 + (128 * (i 2).val + (i 3).val) = (((i 0).val * 4096 + (i 1).val) * 12 + (i 2).val) * 128 + (i 3).val
    omega
  · exact (val_main_v32_apply (F := Ideal) x0 _).trans (congrArg x0 (ext3 rfl rfl rfl))

/-- The queries after their norm. -/
theorem v15_at (i : S2x4096x12x128.Idx) :
    val_main_v15 (F := Ideal) x0 x1 i = normed (fun e => x0 (ix3 (i 0) (i 1) ⟨2048 + (128 * (i 2).val + e.val), by have : (i 2).val < 12 := (i 2).isLt; omega⟩)) (fun e => x1 (ix2 (i 2) e)) (i 3) := by
  rw [val_main_v15_apply, val_main_v12_apply, val_main_v11_apply, val_main_v10_apply, val_main_v9_apply, val_main_v7_apply,
    val_main_v5_apply, val_main_v4_apply, val_main_v14_apply, val_main_v13_apply, v2_at]
  simp only [val_main_v3_apply, v2_at]
  show (_ * Ideal.rsqrt (Ideal.div (Ideal.ofBits .f32 0x00000000#32 + _) c128 + ceps)) * _ = _
  rw [Ideal.ofBits_zero_f32, zero_add]
  exact congrArg _ (congrArg x1 (ext2 rfl rfl))

/-- The keys after their norm. -/
theorem v31_at (i : S2x4096x12x128.Idx) :
    val_main_v31 (F := Ideal) x0 x2 i = normed (fun e => x0 (ix3 (i 0) (i 1) ⟨3584 + (128 * (i 2).val + e.val), by have : (i 2).val < 12 := (i 2).isLt; omega⟩)) (fun e => x2 (ix2 (i 2) e)) (i 3) := by
  rw [val_main_v31_apply, val_main_v28_apply, val_main_v27_apply, val_main_v26_apply, val_main_v25_apply, val_main_v23_apply,
    val_main_v21_apply, val_main_v20_apply, val_main_v30_apply, val_main_v29_apply, v18_at]
  simp only [val_main_v19_apply, v18_at]
  show (_ * Ideal.rsqrt (Ideal.div (Ideal.ofBits .f32 0x00000000#32 + _) c128 + ceps)) * _ = _
  rw [Ideal.ofBits_zero_f32, zero_add]
  exact congrArg _ (congrArg x2 (ext2 rfl rfl))

/-! ### The blocks of queries and the band -/

theorem v38_at (i : S2x4096x1x4x128.Idx) :
    val_main_v38 (F := Ideal) x0 x1 i = val_main_v35 (F := Ideal) x0 x1 (ix4 (i 0) (i 1) (i 3) (i 4)) := by
  have h2 : (i 2).val < 1 := (i 2).isLt
  refine shapeCast_apply _ _ i (ix4 (i 0) (i 1) (i 3) (i 4)) ?_
  rw [Shape.rowMajor_val_four, Shape.rowMajor_val_five]
  show (((i 0).val * 4096 + (i 1).val) * 4 + (i 3).val) * 128 + (i 4).val = ((((i 0).val * 4096 + (i 1).val) * 1 + (i 2).val) * 4 + (i 3).val) * 128 + (i 4).val
  omega

theorem v41_at (i : S2x4096x1x4x128.Idx) :
    val_main_v41 (F := Ideal) x0 x2 i = val_main_v36 (F := Ideal) x0 x2 (ix4 (i 0) (i 1) (i 3) (i 4)) := by
  have h2 : (i 2).val < 1 := (i 2).isLt
  refine shapeCast_apply _ _ i (ix4 (i 0) (i 1) (i 3) (i 4)) ?_
  rw [Shape.rowMajor_val_four, Shape.rowMajor_val_five]
  show (((i 0).val * 4096 + (i 1).val) * 4 + (i 3).val) * 128 + (i 4).val = ((((i 0).val * 4096 + (i 1).val) * 1 + (i 2).val) * 4 + (i 3).val) * 128 + (i 4).val
  omega

theorem v48_at (i : S2x4096x1x4x128.Idx) :
    val_main_v48 (F := Ideal) x0 i = val_main_v37 (F := Ideal) x0 (ix4 (i 0) (i 1) (i 3) (i 4)) := by
  have h2 : (i 2).val < 1 := (i 2).isLt
  refine shapeCast_apply _ _ i (ix4 (i 0) (i 1) (i 3) (i 4)) ?_
  rw [Shape.rowMajor_val_four, Shape.rowMajor_val_five]
  show (((i 0).val * 4096 + (i 1).val) * 4 + (i 3).val) * 128 + (i 4).val = ((((i 0).val * 4096 + (i 1).val) * 1 + (i 2).val) * 4 + (i 3).val) * 128 + (i 4).val
  omega

theorem v39_at (i : S2x4096x1x4x128.Idx) : val_main_v39 (F := Ideal) x0 x1 i = val_main_v38 (F := Ideal) x0 x1 i :=
  pad_apply_of_inside _ _ _ _ _ _ _ i i (fun a => match a with | ⟨0, _⟩ => (by show (i 0).val = 0 + (i 0).val * (0 + 1); omega) | ⟨1, _⟩ => (by show (i 1).val = 0 + (i 1).val * (0 + 1); omega) | ⟨2, _⟩ => (by show (i 2).val = 0 + (i 2).val * (0 + 1); omega) | ⟨3, _⟩ => (by show (i 3).val = 0 + (i 3).val * (0 + 1); omega) | ⟨4, _⟩ => (by show (i 4).val = 0 + (i 4).val * (0 + 1); omega))

theorem v42_at (i : S2x4096x1x4x128.Idx) : val_main_v42 (F := Ideal) x0 x2 i = val_main_v41 (F := Ideal) x0 x2 i :=
  pad_apply_of_inside _ _ _ _ _ _ _ i i (fun a => match a with | ⟨0, _⟩ => (by show (i 0).val = 0 + (i 0).val * (0 + 1); omega) | ⟨1, _⟩ => (by show (i 1).val = 0 + (i 1).val * (0 + 1); omega) | ⟨2, _⟩ => (by show (i 2).val = 0 + (i 2).val * (0 + 1); omega) | ⟨3, _⟩ => (by show (i 3).val = 0 + (i 3).val * (0 + 1); omega) | ⟨4, _⟩ => (by show (i 4).val = 0 + (i 4).val * (0 + 1); omega))

theorem v49_at (i : S2x4096x1x4x128.Idx) : val_main_v49 (F := Ideal) x0 i = val_main_v48 (F := Ideal) x0 i :=
  pad_apply_of_inside _ _ _ _ _ _ _ i i (fun a => match a with | ⟨0, _⟩ => (by show (i 0).val = 0 + (i 0).val * (0 + 1); omega) | ⟨1, _⟩ => (by show (i 1).val = 0 + (i 1).val * (0 + 1); omega) | ⟨2, _⟩ => (by show (i 2).val = 0 + (i 2).val * (0 + 1); omega) | ⟨3, _⟩ => (by show (i 3).val = 0 + (i 3).val * (0 + 1); omega) | ⟨4, _⟩ => (by show (i 4).val = 0 + (i 4).val * (0 + 1); omega))

theorem v43_at (i : S2x4224x1x4x128.Idx) (h : 128 ≤ (i 1).val) : val_main_v43 (F := Ideal) x0 x2 i = val_main_v42 (F := Ideal) x0 x2
    (ix5 (i 0) (⟨(i 1).val - 128, by have : (i 1).val < 4224 := (i 1).isLt; omega⟩ : Fin 4096) (i 2) (i 3) (i 4)) :=
  pad_apply_of_inside _ _ _ _ _ _ _ i _ (fun a => match a with | ⟨0, _⟩ => (by show (i 0).val = 0 + (i 0).val * (0 + 1); omega) | ⟨1, _⟩ => (by show (i 1).val = 128 + ((i 1).val - 128) * (0 + 1); omega) | ⟨2, _⟩ => (by show (i 2).val = 0 + (i 2).val * (0 + 1); omega) | ⟨3, _⟩ => (by show (i 3).val = 0 + (i 3).val * (0 + 1); omega) | ⟨4, _⟩ => (by show (i 4).val = 0 + (i 4).val * (0 + 1); omega))

theorem v50_at (i : S2x4224x1x4x128.Idx) (h : 128 ≤ (i 1).val) : val_main_v50 (F := Ideal) x0 i = val_main_v49 (F := Ideal) x0
    (ix5 (i 0) (⟨(i 1).val - 128, by have : (i 1).val < 4224 := (i 1).isLt; omega⟩ : Fin 4096) (i 2) (i 3) (i 4)) :=
  pad_apply_of_inside _ _ _ _ _ _ _ i _ (fun a => match a with | ⟨0, _⟩ => (by show (i 0).val = 0 + (i 0).val * (0 + 1); omega) | ⟨1, _⟩ => (by show (i 1).val = 128 + ((i 1).val - 128) * (0 + 1); omega) | ⟨2, _⟩ => (by show (i 2).val = 0 + (i 2).val * (0 + 1); omega) | ⟨3, _⟩ => (by show (i 3).val = 0 + (i 3).val * (0 + 1); omega) | ⟨4, _⟩ => (by show (i 4).val = 0 + (i 4).val * (0 + 1); omega))

theorem v40_at (i : S2x32x128x1x4x128.Idx) :
    val_main_v40 (F := Ideal) x0 x1 i = val_main_v39 (F := Ideal) x0 x1
      (ix5 (i 0) (⟨128 * (i 1).val + (i 2).val, by have : (i 1).val < 32 := (i 1).isLt; have : (i 2).val < 128 := (i 2).isLt; omega⟩ : Fin 4096) (0 : Fin 1) (i 4) (i 5)) := by
  have h1 : (i 1).val < 32 := (i 1).isLt
  have h2 : (i 2).val < 128 := (i 2).isLt
  have h3 : (i 3).val < 1 := (i 3).isLt
  refine shapeCast_apply _ _ i _ ?_
  rw [Shape.rowMajor_val_five, Shape.rowMajor_val_six]
  show ((((i 0).val * 4096 + (128 * (i 1).val + (i 2).val)) * 1 + 0) * 4 + (i 4).val) * 128 + (i 5).val = (((((i 0).val * 32 + (i 1).val) * 128 + (i 2).val) * 1 + (i 3).val) * 4 + (i 4).val) * 128 + (i 5).val
  omega

theorem v44_at (i : S2x33x128x1x4x128.Idx) :
    val_main_v44 (F := Ideal) x0 x2 i = val_main_v43 (F := Ideal) x0 x2
      (ix5 (i 0) (⟨128 * (i 1).val + (i 2).val, by have : (i 1).val < 33 := (i 1).isLt; have : (i 2).val < 128 := (i 2).isLt; omega⟩ : Fin 4224) (0 : Fin 1) (i 4) (i 5)) := by
  have h1 : (i 1).val < 33 := (i 1).isLt
  have h2 : (i 2).val < 128 := (i 2).isLt
  have h3 : (i 3).val < 1 := (i 3).isLt
  refine shapeCast_apply _ _ i _ ?_
  rw [Shape.rowMajor_val_five, Shape.rowMajor_val_six]
  show ((((i 0).val * 4224 + (128 * (i 1).val + (i 2).val)) * 1 + 0) * 4 + (i 4).val) * 128 + (i 5).val = (((((i 0).val * 33 + (i 1).val) * 128 + (i 2).val) * 1 + (i 3).val) * 4 + (i 4).val) * 128 + (i 5).val
  omega

theorem v51_at (i : S2x33x128x1x4x128.Idx) :
    val_main_v51 (F := Ideal) x0 i = val_main_v50 (F := Ideal) x0
      (ix5 (i 0) (⟨128 * (i 1).val + (i 2).val, by have : (i 1).val < 33 := (i 1).isLt; have : (i 2).val < 128 := (i 2).isLt; omega⟩ : Fin 4224) (0 : Fin 1) (i 4) (i 5)) := by
  have h1 : (i 1).val < 33 := (i 1).isLt
  have h2 : (i 2).val < 128 := (i 2).isLt
  have h3 : (i 3).val < 1 := (i 3).isLt
  refine shapeCast_apply _ _ i _ ?_
  rw [Shape.rowMajor_val_five, Shape.rowMajor_val_six]
  show ((((i 0).val * 4224 + (128 * (i 1).val + (i 2).val)) * 1 + 0) * 4 + (i 4).val) * 128 + (i 5).val = (((((i 0).val * 33 + (i 1).val) * 128 + (i 2).val) * 1 + (i 3).val) * 4 + (i 4).val) * 128 + (i 5).val
  omega

/-- A query of a block. -/
theorem q_at (i : S2x32x128x1x4x128.Idx) :
    val_main_v40 (F := Ideal) x0 x1 i = normed (Qh x0 (i 0) (i 4) (i 1) (i 2)) (gh x1 (i 4)) (i 5) := by
  rw [v40_at, v39_at, v38_at, val_main_v35_apply, v15_at]
  rfl

/-- A key of the padded sequence past the padding. -/
theorem k_at (i : S2x33x128x1x4x128.Idx) (n : Fin 32) (h : n.val + 1 = (i 1).val) :
    val_main_v44 (F := Ideal) x0 x2 i = normed (Kh x0 (i 0) (i 4) n (i 2)) (gh x2 (i 4)) (i 5) := by
  rw [v44_at, v43_at _ _ _ (by show 128 ≤ 128 * (i 1).val + (i 2).val; omega), v42_at, v41_at, val_main_v36_apply, v31_at]
  have e : ∀ p, (⟨128 * (i 1).val + (i 2).val - 128, p⟩ : Fin 4096) = ⟨128 * n.val + (i 2).val, by have : (i 2).val < 128 := (i 2).isLt; omega⟩ :=
    fun p => Fin.ext (by show 128 * (i 1).val + (i 2).val - 128 = 128 * n.val + (i 2).val; omega)
  exact congrArg₂ (fun x g => normed x g (i 5)) (funext fun c => congrArg x0 (ext3 rfl (congrArg Fin.val (e _)) rfl)) rfl

/-- A value of the padded sequence past the padding. -/
theorem v_at (i : S2x33x128x1x4x128.Idx) (n : Fin 32) (h : n.val + 1 = (i 1).val) :
    val_main_v51 (F := Ideal) x0 i = Vh x0 (i 0) (i 4) n (i 2) (i 5) := by
  rw [v51_at, v50_at _ _ (by show 128 ≤ 128 * (i 1).val + (i 2).val; omega), v49_at, v48_at, val_main_v37_apply, v34_at]
  exact congrArg x0 (ext3 rfl (by show 128 * (i 1).val + (i 2).val - 128 = 128 * n.val + (i 2).val; omega) rfl)

/-- The band's keys, the previous block. -/
theorem v47_lo (i : S2x32x256x1x4x128.Idx) (k : Fin 128) (hk : (i 2).val = k.val) (n : Fin 32) (hn : n.val + 1 = (i 1).val) :
    val_main_v47 (F := Ideal) x0 x2 i = normed (Kh x0 (i 0) (i 4) n k) (gh x2 (i 4)) (i 5) := by
  unfold val_main_v47
  refine Eq.trans (concatenate_apply_piece 2 _ _ i 0 (by show 0 < 2; decide) S2x32x128x1x4x128 _ rfl rfl 0 rfl
    (ix6 (i 0) (i 1) k (i 3) (i 4) (i 5)) (fun b => match b with | ⟨0, _⟩ => fun _ => rfl | ⟨1, _⟩ => fun _ => rfl | ⟨2, _⟩ => fun hb => absurd rfl hb | ⟨3, _⟩ => fun _ => rfl | ⟨4, _⟩ => fun _ => rfl | ⟨5, _⟩ => fun _ => rfl) (by show 0 + k.val = (i 2).val; omega)) ?_
  rw [val_main_v45_apply, k_at _ _ _ n hn]
  rfl

/-- The band's keys, its own block. -/
theorem v47_hi (i : S2x32x256x1x4x128.Idx) (k : Fin 128) (hk : (i 2).val = 128 + k.val) :
    val_main_v47 (F := Ideal) x0 x2 i = normed (Kh x0 (i 0) (i 4) (i 1) k) (gh x2 (i 4)) (i 5) := by
  unfold val_main_v47
  refine Eq.trans (concatenate_apply_piece 2 _ _ i 1 (by show 1 < 2; decide) S2x32x128x1x4x128 _ rfl rfl 128 rfl
    (ix6 (i 0) (i 1) k (i 3) (i 4) (i 5)) (fun b => match b with | ⟨0, _⟩ => fun _ => rfl | ⟨1, _⟩ => fun _ => rfl | ⟨2, _⟩ => fun hb => absurd rfl hb | ⟨3, _⟩ => fun _ => rfl | ⟨4, _⟩ => fun _ => rfl | ⟨5, _⟩ => fun _ => rfl) (by show 128 + k.val = (i 2).val; omega)) ?_
  rw [val_main_v46_apply, k_at _ _ _ (i 1) (by show (i 1).val + 1 = 1 + (i 1).val; omega)]
  rfl

/-- The band's values, the previous block. -/
theorem v54_lo (i : S2x32x256x1x4x128.Idx) (k : Fin 128) (hk : (i 2).val = k.val) (n : Fin 32) (hn : n.val + 1 = (i 1).val) :
    val_main_v54 (F := Ideal) x0 i = Vh x0 (i 0) (i 4) n k (i 5) := by
  unfold val_main_v54
  refine Eq.trans (concatenate_apply_piece 2 _ _ i 0 (by show 0 < 2; decide) S2x32x128x1x4x128 _ rfl rfl 0 rfl
    (ix6 (i 0) (i 1) k (i 3) (i 4) (i 5)) (fun b => match b with | ⟨0, _⟩ => fun _ => rfl | ⟨1, _⟩ => fun _ => rfl | ⟨2, _⟩ => fun hb => absurd rfl hb | ⟨3, _⟩ => fun _ => rfl | ⟨4, _⟩ => fun _ => rfl | ⟨5, _⟩ => fun _ => rfl) (by show 0 + k.val = (i 2).val; omega)) ?_
  rw [val_main_v52_apply, v_at _ _ n hn]
  rfl

/-- The band's values, its own block. -/
theorem v54_hi (i : S2x32x256x1x4x128.Idx) (k : Fin 128) (hk : (i 2).val = 128 + k.val) :
    val_main_v54 (F := Ideal) x0 i = Vh x0 (i 0) (i 4) (i 1) k (i 5) := by
  unfold val_main_v54
  refine Eq.trans (concatenate_apply_piece 2 _ _ i 1 (by show 1 < 2; decide) S2x32x128x1x4x128 _ rfl rfl 128 rfl
    (ix6 (i 0) (i 1) k (i 3) (i 4) (i 5)) (fun b => match b with | ⟨0, _⟩ => fun _ => rfl | ⟨1, _⟩ => fun _ => rfl | ⟨2, _⟩ => fun hb => absurd rfl hb | ⟨3, _⟩ => fun _ => rfl | ⟨4, _⟩ => fun _ => rfl | ⟨5, _⟩ => fun _ => rfl) (by show 128 + k.val = (i 2).val; omega)) ?_
  rw [val_main_v53_apply, v_at _ _ (i 1) (by show (i 1).val + 1 = 1 + (i 1).val; omega)]
  rfl

end Cert.ReferenceIdeal.Attn
end
-- ==== Proof.RefMask.lean ====
/- The reference's band mask: a key within 128 places behind its query, and not before the sequence's start. -/
module

public import proofs.«01_k».proof.Proof.Gen.ReferenceIdeal.Read
public import Idealize.ShloMosaic.Lib.Affine
public import Idealize.ShloMosaic.Lib.Pointwise

@[expose] public section

noncomputable section

namespace Cert.ReferenceIdeal.Attn

open Cert.ReferenceIdeal Cert.ReferenceIdeal.Read Idealize.ShloMosaic

theorem nat_int (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- A query's distance ahead of a key. -/
theorem dist_int (i : S128x256.Idx) : (val_main_v66 (F := Ideal) i).toInt = ((i 0).val : ℤ) + 128 - (i 1).val := by
  have h0 : (i 0).val < 128 := (i 0).isLt
  have h1 : (i 1).val < 256 := (i 1).isLt
  rw [val_main_v66_apply, val_main_v64_apply, val_main_v63_apply, val_main_v59_apply, val_main_v58_apply, val_main_v62_apply,
    val_main_v65_apply, val_main_v61_apply, val_main_v60_apply]
  show (BitVec.ofNat 32 (i 0).val + BitVec.ofNat 32 128 - BitVec.ofNat 32 (i 1).val).toInt = _
  rw [← BitVec.ofNat_add, BitVec.toInt_sub, nat_int _ (by omega), nat_int _ (by omega)]
  rw [Int.bmod_eq_of_le (by push_cast; omega) (by push_cast; omega)]
  push_cast; rfl

/-- A key's place in the sequence. -/
theorem place_int (i : S32x1x256.Idx) : (val_main_v76 (F := Ideal) i).toInt = 128 * ((i 0).val : ℤ) + (i 2).val - 128 := by
  have h0 : (i 0).val < 32 := (i 0).isLt
  have h1 : (i 2).val < 256 := (i 2).isLt
  rw [val_main_v76_apply, val_main_v74_apply, val_main_v72_apply, val_main_v70_apply, val_main_v68_apply, val_main_v67_apply,
    val_main_v69_apply, val_main_v73_apply, val_main_v71_apply, val_main_v61_apply, val_main_v60_apply, val_main_v75_apply]
  show (BitVec.ofNat 32 (i 0).val * BitVec.ofNat 32 128 + BitVec.ofNat 32 (i 2).val - BitVec.ofNat 32 128).toInt = _
  rw [← BitVec.ofNat_mul, ← BitVec.ofNat_add, BitVec.toInt_sub, nat_int _ (by omega), nat_int _ (by omega)]
  rw [Int.bmod_eq_of_le (by push_cast; omega) (by push_cast; omega)]
  push_cast; omega

theorem and_one (x y : BitVec 1) : x &&& y = 1#1 ↔ x = 1#1 ∧ y = 1#1 := by
  revert x y; decide

/-- The mask. -/
theorem mask_iff (i : S1x32x1x1x128x256.Idx) : val_main_v89 (F := Ideal) i = 1#1
    ↔ ((i 5).val ≤ (i 4).val + 128 ∧ (i 4).val ≤ (i 5).val) ∧ 128 ≤ 128 * (i 1).val + (i 5).val := by
  rw [val_main_v89_apply, val_main_v88_apply]
  refine (and_one _ _).trans (and_congr ?_ ?_)
  · rw [val_main_v86_apply, val_main_v83_apply]
    refine (and_one _ _).trans (and_congr ?_ ?_)
    · rw [val_main_v79_apply, val_main_v78_apply, val_main_v77_apply]
      refine IntOp.cmpi_sge.trans ?_
      rw [dist_int]
      show ((0 : ℤ) ≤ ((i 4).val : ℤ) + 128 - (i 5).val) ↔ _
      omega
    · rw [val_main_v82_apply, val_main_v81_apply, val_main_v80_apply]
      refine IntOp.cmpi_sle.trans ?_
      rw [dist_int]
      show (((i 4).val : ℤ) + 128 - (i 5).val ≤ (128 : ℤ)) ↔ _
      omega
  · rw [val_main_v87_apply, val_main_v85_apply, val_main_v84_apply]
    refine IntOp.cmpi_sge.trans ?_
    rw [place_int]
    show ((0 : ℤ) ≤ 128 * ((i 1).val : ℤ) + (i 5).val - 128) ↔ _
    omega

end Cert.ReferenceIdeal.Attn
end
-- ==== Proof.RefVal.lean ====
/- The reference's two results are the attention's output and log normaliser, index by index. -/
module

public import proofs.«01_k».proof.Proof.RefBand
public import proofs.«01_k».proof.Proof.RefMask

@[expose] public section

noncomputable section

namespace Cert.ReferenceIdeal.Attn

open Cert.ReferenceIdeal Cert.ReferenceIdeal.Read Idealize.ShloMosaic Cert.AttnSpec Cert.RowMath

variable (x0 : SZ.Idx → EReal) (x1 x2 : SG.Idx → EReal)

theorem ext5 {d : Fin 5 → ℕ} {i j : (⟨5, d⟩ : Shape).Idx} (h0 : (i 0).val = (j 0).val) (h1 : (i 1).val = (j 1).val)
    (h2 : (i 2).val = (j 2).val) (h3 : (i 3).val = (j 3).val) (h4 : (i 4).val = (j 4).val) : i = j :=
  funext fun a => Fin.ext (match a with | ⟨0, _⟩ => h0 | ⟨1, _⟩ => h1 | ⟨2, _⟩ => h2 | ⟨3, _⟩ => h3 | ⟨4, _⟩ => h4)

theorem ext6 {d : Fin 6 → ℕ} {i j : (⟨6, d⟩ : Shape).Idx} (h0 : (i 0).val = (j 0).val) (h1 : (i 1).val = (j 1).val)
    (h2 : (i 2).val = (j 2).val) (h3 : (i 3).val = (j 3).val) (h4 : (i 4).val = (j 4).val) (h5 : (i 5).val = (j 5).val) : i = j :=
  funext fun a => Fin.ext (match a with | ⟨0, _⟩ => h0 | ⟨1, _⟩ => h1 | ⟨2, _⟩ => h2 | ⟨3, _⟩ => h3 | ⟨4, _⟩ => h4 | ⟨5, _⟩ => h5)

/-- A row of masked scores. -/
def row (b : Fin 2) (n : Fin 32) (h : Fin 4) (a : Fin 128) (k : Fin 256) : EReal :=
  val_main_v90 (F := Ideal) x0 x1 x2 (ix6 b n (0 : Fin 1) h a k)

theorem row_at (i : S2x32x1x4x128x256.Idx) : val_main_v90 (F := Ideal) x0 x1 x2 i = row x0 x1 x2 (i 0) (i 1) (i 3) (i 4) (i 5) :=
  congrArg _ (ext6 rfl rfl (by have : (i 2).val < 1 := (i 2).isLt; show (i 2).val = 0; omega) rfl rfl rfl)

theorem max_at (i : S2x32x1x4x128.Idx) : val_main_v91 (F := Ideal) x0 x1 x2 i = rowMax (row x0 x1 x2 (i 0) (i 1) (i 3) (i 4)) := by
  unfold val_main_v91
  refine Eq.trans (Host.reduce_eq_fold_single (max : EReal → EReal → EReal) _ _ _ (by decide : S2x32x1x4x128x256.Reduces [5] S2x32x1x4x128) _ i) ?_
  unfold rowMax
  refine congrArg (fun f => Finset.fold max cbot f Finset.univ) (funext fun k => ?_)
  exact (row_at x0 x1 x2 _).trans rfl

theorem exp_at (i : S2x32x1x4x128x256.Idx) : val_main_v95 (F := Ideal) x0 x1 x2 i
    = Ideal.exp (row x0 x1 x2 (i 0) (i 1) (i 3) (i 4) (i 5) - rowMax (row x0 x1 x2 (i 0) (i 1) (i 3) (i 4))) := by
  rw [val_main_v95_apply, val_main_v94_apply, val_main_v93_apply, val_main_v92_apply, max_at, row_at]
  rfl

theorem den_at (i : S2x32x1x4x128.Idx) : val_main_v96 (F := Ideal) x0 x1 x2 i = bandDen (row x0 x1 x2 (i 0) (i 1) (i 3) (i 4)) := by
  rw [val_main_v96_apply]
  simp only [exp_at]
  show Ideal.ofBits .f32 0x00000000#32 + _ = _
  rw [Ideal.ofBits_zero_f32, zero_add]
  rfl

theorem o_at (i : S2x32x1x4x128x128.Idx) : val_main_v100 (F := Ideal) x0 x1 x2 i
    = bandO (row x0 x1 x2 (i 0) (i 1) (i 3) (i 5)) (fun k => val_main_v54 (F := Ideal) x0 (ix6 (i 0) (i 1) k (i 2) (i 3) (i 4))) := by
  rw [val_main_v100_apply]
  unfold bandO
  refine Finset.sum_congr rfl fun k _ => ?_
  rw [val_main_v99_apply, val_main_v98_apply, val_main_v97_apply, den_at, exp_at]
  exact congrArg₂ (· * ·) (congrArg _ (ext6 rfl rfl rfl rfl rfl rfl)) rfl

theorem l_at (i : S2x32x1x4x128x1.Idx) : val_main_v103 (F := Ideal) x0 x1 x2 i = bandL (row x0 x1 x2 (i 0) (i 1) (i 3) (i 4)) := by
  rw [val_main_v103_apply, val_main_v102_apply, val_main_v97_apply, val_main_v92_apply, den_at, max_at]
  rfl

/-! ### The row's scores -/

theorem score_at (i : S2x32x1x4x128x256.Idx) : val_main_v57 (F := Ideal) x0 x1 x2 i
    = (∑ e : Fin 128, val_main_v40 (F := Ideal) x0 x1 (lidx_main_v55 i e) * val_main_v47 (F := Ideal) x0 x2 (ridx_main_v55 i e)) * cscale := by
  rw [val_main_v57_apply, val_main_v55_apply]
  rfl

theorem masked_at (i : S2x32x1x4x128x256.Idx) : val_main_v90 (F := Ideal) x0 x1 x2 i
    = if ((i 5).val ≤ (i 4).val + 128 ∧ (i 4).val ≤ (i 5).val) ∧ 128 ≤ 128 * (i 1).val + (i 5).val then val_main_v57 (F := Ideal) x0 x1 x2 i else cbot := by
  rw [val_main_v90_apply, val_main_call5_v1_apply]
  have hm := mask_iff (idx_main_call5_v1 i)
  by_cases h : val_main_v89 (F := Ideal) (idx_main_call5_v1 i) = 1#1
  · rw [if_pos (hm.mp h), h]; rfl
  · rw [if_neg (fun h' => h (hm.mpr h'))]
    exact if_neg h

variable (b : Fin 2) (n : Fin 32) (h : Fin 4) (a : Fin 128)

theorem row_lo (k : Fin 128) : row x0 x1 x2 b n h a (lo k)
    = if a ≤ k ∧ 0 < n.val then (∑ e, normed (Qh x0 b h n a) (gh x1 h) e * normed (Kh x0 b h (prv n) k) (gh x2 h) e) * cscale else cbot := by
  unfold row
  rw [masked_at]
  by_cases hc : a ≤ k ∧ 0 < n.val
  · rw [if_pos hc, if_pos ⟨⟨by show k.val ≤ a.val + 128; omega, hc.1⟩, by show 128 ≤ 128 * n.val + k.val; omega⟩, score_at]
    refine congrArg (· * cscale) (Finset.sum_congr rfl fun e _ => ?_)
    rw [q_at, v47_lo x0 x2 (ridx_main_v55 (ix6 b n (0 : Fin 1) h a (lo k)) e) k rfl (prv n)
      (by show n.val - 1 + 1 = n.val; omega)]
    rfl
  · rw [if_neg hc, if_neg]
    rintro ⟨⟨-, h2⟩, h3⟩
    have h3' : 128 ≤ 128 * n.val + k.val := h3
    exact hc ⟨h2, by omega⟩

theorem row_hi (k : Fin 128) : row x0 x1 x2 b n h a (hi k)
    = if k ≤ a then (∑ e, normed (Qh x0 b h n a) (gh x1 h) e * normed (Kh x0 b h n k) (gh x2 h) e) * cscale else cbot := by
  unfold row
  rw [masked_at]
  by_cases hc : k ≤ a
  · rw [if_pos hc, if_pos ⟨⟨by show 128 + k.val ≤ a.val + 128; have : k.val ≤ a.val := hc; omega, by show a.val ≤ 128 + k.val; omega⟩,
      by show 128 ≤ 128 * n.val + (128 + k.val); omega⟩, score_at]
    refine congrArg (· * cscale) (Finset.sum_congr rfl fun e _ => ?_)
    rw [q_at, v47_hi x0 x2 (ridx_main_v55 (ix6 b n (0 : Fin 1) h a (hi k)) e) k rfl]
    rfl
  · rw [if_neg hc, if_neg]
    rintro ⟨⟨h2, -⟩, -⟩
    have h2' : 128 + k.val ≤ a.val + 128 := h2
    exact hc (by show k.val ≤ a.val; omega)

section
variable (hgq : ∀ d, Fin' (gh x1 h d)) (hgk : ∀ d, Fin' (gh x2 h d))
include hgq hgk

theorem rowO (d : Fin 128) : val_main_v100 (F := Ideal) x0 x1 x2 (ix6 b n (0 : Fin 1) h d a)
    = blockO (Qh x0 b h) (Kh x0 b h) (Vh x0 b h) (gh x1 h) (gh x2 h) n a d := by
  rw [o_at]
  refine ((block_band (Qh x0 b h) (Kh x0 b h) (Vh x0 b h) (gh x1 h) (gh x2 h) hgq hgk n a _ (row_lo x0 x1 x2 b n h a)
    (row_hi x0 x1 x2 b n h a)).2 d _ (fun k hn => ?_) (fun k => ?_)).symm
  · exact v54_lo x0 _ k rfl (prv n) (by show n.val - 1 + 1 = n.val; omega)
  · exact v54_hi x0 _ k rfl

theorem rowL : bandL (row x0 x1 x2 b n h a) = blockL (Qh x0 b h) (Kh x0 b h) (gh x1 h) (gh x2 h) n a :=
  (block_band (Qh x0 b h) (Kh x0 b h) (Vh x0 b h) (gh x1 h) (gh x2 h) hgq hgk n a _ (row_lo x0 x1 x2 b n h a)
    (row_hi x0 x1 x2 b n h a)).1.symm

end

/-! ### The results -/

theorem v105_at (i : S2x4096x1x4x128.Idx) : val_main_v105 (F := Ideal) x0 x1 x2 i = val_main_v100 (F := Ideal) x0 x1 x2
    (ix6 (i 0) (⟨(i 1).val / 128, by have : (i 1).val < 4096 := (i 1).isLt; omega⟩ : Fin 32) (0 : Fin 1) (i 3) (i 4) (⟨(i 1).val % 128, by omega⟩ : Fin 128)) := by
  have h2 : (i 2).val < 1 := (i 2).isLt
  have h1 : (i 1).val < 4096 := (i 1).isLt
  refine Eq.trans (shapeCast_apply _ _ i (ix6 (i 0) (⟨(i 1).val / 128, by omega⟩ : Fin 32) (⟨(i 1).val % 128, by omega⟩ : Fin 128) (0 : Fin 1) (i 3) (i 4)) ?_) ?_
  · rw [Shape.rowMajor_val_five, Shape.rowMajor_val_six]
    show ((((((i 0).val * 32 + (i 1).val / 128) * 128 + (i 1).val % 128) * 1 + 0) * 4 + (i 3).val) * 128 + (i 4).val)
      = ((((i 0).val * 4096 + (i 1).val) * 1 + (i 2).val) * 4 + (i 3).val) * 128 + (i 4).val
    omega
  · exact (val_main_v101_apply (F := Ideal) x0 x1 x2 _).trans (congrArg _ (ext6 rfl rfl rfl rfl rfl rfl))

theorem v104_at (i : S2x32x1x4x128.Idx) : val_main_v104 (F := Ideal) x0 x1 x2 i = bandL (row x0 x1 x2 (i 0) (i 1) (i 3) (i 4)) := by
  refine Eq.trans (shapeCast_apply _ _ i (ix6 (i 0) (i 1) (i 2) (i 3) (i 4) (0 : Fin 1)) ?_) (l_at x0 x1 x2 _)
  rw [Shape.rowMajor_val_five, Shape.rowMajor_val_six]
  show (((((i 0).val * 32 + (i 1).val) * 1 + (i 2).val) * 4 + (i 3).val) * 128 + (i 4).val) * 1 + 0 = ((((i 0).val * 32 + (i 1).val) * 1 + (i 2).val) * 4 + (i 3).val) * 128 + (i 4).val
  omega

theorem v109_at (i : S2x4096x4.Idx) : val_main_v109 (F := Ideal) x0 x1 x2 i = bandL (row x0 x1 x2 (i 0)
    (⟨(i 1).val / 128, by have : (i 1).val < 4096 := (i 1).isLt; omega⟩ : Fin 32) (i 2) (⟨(i 1).val % 128, by omega⟩ : Fin 128)) := by
  have h0 : (i 0).val < 2 := (i 0).isLt
  have h1 : (i 1).val < 4096 := (i 1).isLt
  have h2 : (i 2).val < 4 := (i 2).isLt
  refine Eq.trans (shapeCast_apply _ _ i (ix4 (i 0) (i 1) (0 : Fin 1) (i 2)) ?_) ?_
  · refine (Shape.rowMajor_val_four _).trans (Eq.trans ?_ (Shape.rowMajor_val_three _).symm)
    show (((i 0).val * 4096 + (i 1).val) * 1 + 0) * 4 + (i 2).val = ((i 0).val * 4096 + (i 1).val) * 4 + (i 2).val
    omega
  · refine Eq.trans (shapeCast_apply _ _ _ (ix5 (i 0) (⟨(i 1).val / 128, by omega⟩ : Fin 32) (⟨(i 1).val % 128, by omega⟩ : Fin 128) (0 : Fin 1) (i 2)) ?_) ?_
    · refine (Shape.rowMajor_val_five _).trans (Eq.trans ?_ (Shape.rowMajor_val_four _).symm)
      show ((((i 0).val * 32 + (i 1).val / 128) * 128 + (i 1).val % 128) * 1 + 0) * 4 + (i 2).val = (((i 0).val * 4096 + (i 1).val) * 1 + 0) * 4 + (i 2).val
      omega
    · exact (val_main_v107_apply (F := Ideal) x0 x1 x2 _).trans ((v104_at x0 x1 x2 _).trans rfl)

variable (hgq : ∀ h d, Fin' (gh x1 h d)) (hgk : ∀ h d, Fin' (gh x2 h d))
include hgq hgk

/-- The attention's output. -/
theorem outO_ref (j : SO.Idx) : val_main_v111 (F := Ideal) x0 x1 x2 j = outO x0 x1 x2 j := by
  have h0 : (j 0).val < 2 := (j 0).isLt
  have h1 : (j 1).val < 4096 := (j 1).isLt
  have h2 : (j 2).val < 512 := (j 2).isLt
  refine Eq.trans (show _ = val_main_v110 (F := Ideal) x0 x1 x2 j from rfl) ?_
  refine Eq.trans (shapeCast_apply _ _ j (ix4 (j 0) (j 1) (jh j) (jd j)) ?_) ?_
  · refine (Shape.rowMajor_val_four _).trans (Eq.trans ?_ (Shape.rowMajor_val_three _).symm)
    show (((j 0).val * 4096 + (j 1).val) * 4 + (j 2).val / 128) * 128 + (j 2).val % 128 = ((j 0).val * 4096 + (j 1).val) * 512 + (j 2).val
    omega
  refine Eq.trans (shapeCast_apply _ _ _ (ix5 (j 0) (j 1) (0 : Fin 1) (jh j) (jd j)) ?_) ?_
  · refine (Shape.rowMajor_val_five _).trans (Eq.trans ?_ (Shape.rowMajor_val_four _).symm)
    show ((((j 0).val * 4096 + (j 1).val) * 1 + 0) * 4 + (j 2).val / 128) * 128 + (j 2).val % 128 = (((j 0).val * 4096 + (j 1).val) * 4 + (j 2).val / 128) * 128 + (j 2).val % 128
    omega
  refine (v105_at x0 x1 x2 _).trans ?_
  exact rowO x0 x1 x2 (j 0) (jn j) (jh j) (ja j) (hgq _) (hgk _) (jd j)

/-- The log normaliser on every lane of its head. -/
theorem outL_ref (j : SO.Idx) : val_main_v113 (F := Ideal) x0 x1 x2 j = outL x0 x1 x2 j := by
  have h0 : (j 0).val < 2 := (j 0).isLt
  have h1 : (j 1).val < 4096 := (j 1).isLt
  have h2 : (j 2).val < 512 := (j 2).isLt
  refine Eq.trans (shapeCast_apply _ _ j (ix4 (j 0) (j 1) (jh j) (jd j)) ?_) ?_
  · refine (Shape.rowMajor_val_four _).trans (Eq.trans ?_ (Shape.rowMajor_val_three _).symm)
    show (((j 0).val * 4096 + (j 1).val) * 4 + (j 2).val / 128) * 128 + (j 2).val % 128 = ((j 0).val * 4096 + (j 1).val) * 512 + (j 2).val
    omega
  refine (val_main_v112_apply (F := Ideal) x0 x1 x2 _).trans ((v109_at x0 x1 x2 _).trans ?_)
  exact rowL x0 x1 x2 (j 0) (jn j) (jh j) (ja j) (hgq _) (hgk _)

end Cert.ReferenceIdeal.Attn
end
-- ==== Proof.Gains.lean ====
/- The condition on the arguments, read at a gain: every gain of the first four heads is a number. -/
module

public import proofs.«01_k».proof.Pre_gains_finite
public import proofs.«01_k».proof.Proof.AttnSpec
public import Idealize.ShloMosaic.Lib.ReduceAll

@[expose] public section

noncomputable section

namespace Cert.Gains

open Idealize.ShloMosaic Cert.AttnSpec Cert.RowMath Cert.Pre_gains_finite

instance facts : Cert.Pre_gains_finite.Facts where
  slices_S12x128_S4x128_0_0 := by decide
  bcast_S_S4x128 := by decide
  reducesTo_S4x128_S_d0_1 := by decide
  h_S_ := by decide

theorem inf_top : Ideal.ofBits .f32 0x7F800000#32 = ⊤ := by simp [Ideal.ofBits, Ideal.ieee]

theorem fin_of_lt (x : EReal) (h : Ideal.cmp .olt (max x (-x)) (Ideal.ofBits .f32 0x7F800000#32) = 1#1) : Fin' x := by
  have h' : max x (-x) < ⊤ := by
    rw [← inf_top]
    by_contra hc
    rw [Ideal.cmp] at h
    simp [hc] at h
  refine fin_of_ne (fun e => ?_) (fun e => ?_)
  · rw [e] at h'; simp at h'
  · rw [e] at h'; simp at h'

theorem one_idx : Subsingleton S_.Idx := ⟨fun _ _ => funext fun a => a.elim0⟩

theorem both (x y : BitVec 1) : x &&& y = 1#1 → x = 1#1 ∧ y = 1#1 := by
  revert x y; decide

theorem gains (x0 : SZ.Idx → EReal) (x1 x2 : SG.Idx → EReal)
    (h : Cert.Pre_gains_finite.fn (F := Ideal) x0 x1 x2 (fun a => a.elim0) = 1#1) :
    (∀ h d, Fin' (gh x1 h d)) ∧ ∀ h d, Fin' (gh x2 h d) := by
  dsimp only [fn] at h
  obtain ⟨h1, h2⟩ := both _ _ h
  haveI := one_idx
  have e1 := Host.reduce_andi_all _ _ _ _ _ h1
  have e2 := Host.reduce_andi_all _ _ _ _ _ h2
  refine ⟨fun h d => ?_, fun h d => ?_⟩
  · refine fin_of_lt _ (Eq.trans ?_ (e1 (ix2 h d)))
    exact congrArg (fun x : EReal => Ideal.cmp .olt (max x (-x)) (Ideal.ofBits .f32 0x7F800000#32))
      (extractStridedSlice_apply _ x1 _ (ix2 h d) _ (fun a => match a with
        | ⟨0, _⟩ => (Nat.zero_add _).symm
        | ⟨1, _⟩ => (Nat.zero_add _).symm)).symm
  · refine fin_of_lt _ (Eq.trans ?_ (e2 (ix2 h d)))
    exact congrArg (fun x : EReal => Ideal.cmp .olt (max x (-x)) (Ideal.ofBits .f32 0x7F800000#32))
      (extractStridedSlice_apply _ x2 _ (ix2 h d) _ (fun a => match a with
        | ⟨0, _⟩ => (Nat.zero_add _).symm
        | ⟨1, _⟩ => (Nat.zero_add _).symm)).symm

end Cert.Gains
end
-- ==== Proof.InProjTable.lean ====
/- The call's table of column tiles, and the blocks that it places. -/
module

public import proofs.«01_k».proof.Proof.Gen.Kernel2.Frame
public import proofs.«01_k».proof.Proof.Gen.Kernel2Ideal.Frame
public import Idealize.ShloMosaic.Lib.StableHlo.ReadAt
public import Idealize.ShloMosaic.PureOps.BitExact

@[expose] public section

set_option maxRecDepth 16384

noncomputable section

namespace Cert.Kernel2

open Cert.Kernel2.Gen Idealize.ShloMosaic Idealize.ShloMosaic.TcCoe

variable {F : FTy → Type} [FloatOps F] (m : (ℓ : Loc nD τ sig) → Buf (Elt F) ℓ)

/-- The listed column tiles as the table's contents. -/
def tiles : pre0.Contents (Elt F) := fun | ⟨0, _⟩ => fun i => lit0 (S15.rowMajor i) | ⟨_ + 1, h⟩ => absurd h (by simp)

theorem tbl_eq : tbl m = tiles := by
  funext j x
  match j with
  | ⟨0, _⟩ =>
    show V m (0 : Dev nD) main_c x = lit0 (S15.rowMajor x)
    unfold V
    after_reads_at

/-- The listed tiles at every floats' reading place the same blocks. -/
theorem tiles_bits (i : grid0.Coords) : cc0_transform_1 (F := F) k0_off1_inb numel1_S1 tiles i = cc0_transform_1 (F := Bits) k0_off1_inb numel1_S1 tiles i := rfl

/-- Every listed tile lies inside the weights. -/
theorem inside (i : grid0.Coords) (a : Fin 2) : (cc0_transform_1 (F := F) k0_off1_inb numel1_S1 tiles i a + 1) * S2048x512.size a ≤ S2048x10752.size a := by
  rw [tiles_bits]; revert i a; decide +kernel

theorem ok : Ok (F := F) m := by unfold Ok; rw [tbl_eq m]; exact fun i => ⟨inside i, Or.inl rfl⟩

end Cert.Kernel2

namespace Cert.Kernel2Ideal

open Cert.Kernel2Ideal.Gen Idealize.ShloMosaic Idealize.ShloMosaic.TcCoe

variable {F : FTy → Type} [FloatOps F] (m : (ℓ : Loc nD τ sig) → Buf (Elt F) ℓ)

/-- The listed column tiles as the table's contents. -/
def tiles : pre0.Contents (Elt F) := fun | ⟨0, _⟩ => fun i => lit0 (S15.rowMajor i) | ⟨_ + 1, h⟩ => absurd h (by simp)

theorem tbl_eq : tbl m = tiles := by
  funext j x
  match j with
  | ⟨0, _⟩ =>
    show V m (0 : Dev nD) main_c x = lit0 (S15.rowMajor x)
    unfold V
    after_reads_at

/-- The listed tiles at every floats' reading place the same blocks. -/
theorem tiles_bits (i : grid0.Coords) : cc0_transform_1 (F := F) k0_off1_inb numel1_S1 tiles i = cc0_transform_1 (F := Bits) k0_off1_inb numel1_S1 tiles i := rfl

/-- Every listed tile lies inside the weights. -/
theorem inside (i : grid0.Coords) (a : Fin 2) : (cc0_transform_1 (F := F) k0_off1_inb numel1_S1 tiles i a + 1) * S2048x512.size a ≤ S2048x10752.size a := by
  rw [tiles_bits]; revert i a; decide +kernel

theorem ok : Ok (F := F) m := by unfold Ok; rw [tbl_eq m]; exact fun i => ⟨inside i, Or.inl rfl⟩

/-- The tile that a point's column tile reads. -/
theorem tile_of (t : Fin grid0.N) :
    cc0_transform_1 (F := F) k0_off1_inb numel1_S1 tiles (grid0.coords t) = ![0, (lit0 ⟨t.val % 15, by omega⟩).toNat] := by
  rw [tiles_bits]; revert t; decide +kernel

end Cert.Kernel2Ideal

end
-- ==== Proof.InProjSpec.lean ====
/- What the input projection's call gives, index by index: the rows of the hidden state times the columns of the weights
   that the call's column tiles name. -/
module

public import Idealize.ShloMosaic.PureOps.Ideal
public import Idealize.ShloMosaic.Lib.Pointwise
public import Idealize.ShloMosaic.Lib.ValueIdx

@[expose] public section

noncomputable section

namespace Cert.InProj

open Idealize.ShloMosaic

/-- The weight column that a column of the result is of: the convolution's, the gates', then the queries', keys' and
    values' of the first group. -/
def col (n : ℕ) : ℕ :=
  if n < 2048 then n else if n < 6144 then n + 4608 else if n < 6656 then n - 4096 else if n < 7168 then n - 3072 else n - 2048

theorem col_lt (n : ℕ) (h : n < 7680) : col n < 10752 := by unfold col; split_ifs <;> omega

/-- An entry of the result. -/
def proj (X : (⟨3, ![2, 4096, 2048]⟩ : Shape).Idx → EReal) (W : (⟨2, ![2048, 10752]⟩ : Shape).Idx → EReal)
    (i : (⟨2, ![8192, 7680]⟩ : Shape).Idx) : EReal :=
  ∑ k : Fin 2048, X (ix3 ⟨(i 0).val / 4096, by have : (i 0).val < 8192 := (i 0).isLt; omega⟩ ⟨(i 0).val % 4096, by omega⟩ k)
    * W (ix2 k ⟨col (i 1).val, col_lt _ (i 1).isLt⟩)

end Cert.InProj

end
-- ==== Proof.InProjVal.lean ====
/- The input projection's result array after the launch, index by index. -/
module

public import proofs.«01_k».proof.Proof.InProjTable
public import proofs.«01_k».proof.Proof.InProjSpec
public import Idealize.ShloMosaic.Lib.Pipeline.ValueKit
public import Idealize.ShloMosaic.Lib.Pointwise

@[expose] public section

set_option maxRecDepth 16384

noncomputable section

namespace Cert.Kernel2Ideal

open Cert.Kernel2Ideal.Gen Cert.InProj Idealize.ShloMosaic Idealize.ShloMosaic.TcCoe Idealize.SL.Sem Idealize.ShloMosaic.Pipeline

variable (m : (ℓ : Loc nD τ sig) → Buf (Elt Ideal) ℓ) (c : Dev nD)

abbrev cfgI := cfgM m (ok m)

theorem idx0 : ∀ t : Fin grid0.N, cc0_transform_0 (grid0.coords t) = ![t.val / 15, 0] := by decide +kernel
theorem idx2 : ∀ t : Fin grid0.N, cc0_transform_2 (grid0.coords t) = ![t.val / 15, t.val % 15] := by decide +kernel
theorem N60 : grid0.N = 60 := by decide +kernel

theorem ptlt (t : Fin (cfgI m).N) : t.val < 60 := by have h : t.val < grid0.N := t.isLt; rwa [N60] at h
theorem lit_lt : ∀ q : Fin 15, (lit0 q).toNat < 21 := by decide
theorem lit_col : ∀ q : Fin 15, ∀ b : ℕ, b < 512 → 512 * (lit0 q).toNat + b = col (512 * q.val + b) := by
  intro q b hb
  unfold col
  fin_cases q <;> (simp [lit0]; try (split_ifs <;> omega))

theorem index0 (t : Fin (cfgI m).N) : ((cfgI m).win 0).index t = ![t.val / 15, 0] := idx0 t
theorem index1 (t : Fin (cfgI m).N) : ((cfgI m).win 1).index t = ![0, (lit0 ⟨t.val % 15, by omega⟩).toNat] :=
  (congrArg (fun p => cc0_transform_1 (F := Ideal) k0_off1_inb numel1_S1 p (grid0.coords t)) (tbl_eq m)).trans (tile_of t)
theorem index2 (t : Fin (cfgI m).N) : ((cfgI m).win 2).index t = ![t.val / 15, t.val % 15] := idx2 t

/-- One point's product, entry by entry. -/
theorem pay (X : Vec Ideal S2048x2048 .bf16) (W : Vec Ideal S2048x512 .f32) (a : Fin 2048) (b : Fin 512) :
    k0_pay1 X W (ix2 a b) = ∑ k : Fin 2048, X (ix2 a k) * W (ix2 k b) := by
  unfold k0_pay1
  simp only [pointwise, zero_add]

theorem rows (r : Fin 8192) (k : Fin 2048) :
    V m c main_v0 (ix2 r k) = m ((c.tc : Thread nD τ).loc main_arg0) (ix3 ⟨r.val / 4096, by omega⟩ ⟨r.val % 4096, by omega⟩ k) := by
  unfold V
  after_reads_at

theorem rd0 (t : Fin (cfgI m).N) (a k : Fin 2048) :
    iblk m (ok m) c 0 t (ix2 a k) = V m c main_v0 (ix2 ⟨2048 * (t.val / 15) + a.val, by have := ptlt m t; omega⟩ k) := by
  blk_ext [iblk, index0 m t]

theorem rd1 (t : Fin (cfgI m).N) (k : Fin 2048) (b : Fin 512) :
    iblk m (ok m) c 1 t (ix2 k b) = m ((c.tc : Thread nD τ).loc main_arg1) (ix2 k ⟨512 * (lit0 ⟨t.val % 15, by omega⟩).toNat + b.val, by have := lit_lt ⟨t.val % 15, by omega⟩; omega⟩) := by
  refine Eq.trans ?_ (congrFun (V_main_arg1 m c) _)
  blk_ext [iblk, index1 m t]

theorem outs (t : Fin (cfgI m).N) (y : S2048x512.Idx) :
    outsAt0 m (ok m) c t y = k0_pay1 (iblk m (ok m) c 0 t) (iblk m (ok m) c 1 t) y := by
  unfold outsAt0 out0_A_2
  frame_out
  exact congrArg₂ (fun X W => k0_pay1 X W y) ((hs0_0 m (ok m) t).read_unread _) ((hs0_1 m (ok m) t).read_unread _)

/-- Where an entry of a point's block lies in the result. -/
def E (t : Fin (cfgI m).N) (y : S2048x512.Idx) : S8192x7680.Idx := (((cfgI m).win 2).blk t).view.emb y

theorem emb0 (t : Fin (cfgI m).N) (a : Fin 2048) (b : Fin 512) : (E m t (ix2 a b) 0).val = 2048 * (t.val / 15) + a.val := by
  unfold E
  blk_simp [index2 m t]
  show t.val / 15 * 2048 + a.val = _
  omega

theorem emb1 (t : Fin (cfgI m).N) (a : Fin 2048) (b : Fin 512) : (E m t (ix2 a b) 1).val = 512 * (t.val % 15) + b.val := by
  unfold E
  blk_simp [index2 m t]
  show t.val % 15 * 512 + b.val = _
  omega

theorem point (t : Fin (cfgI m).N) (y : S2048x512.Idx) :
    outsAt0 m (ok m) c t y = proj (m ((c.tc : Thread nD τ).loc main_arg0)) (m ((c.tc : Thread nD τ).loc main_arg1)) (E m t y) := by
  obtain ⟨a, b, rfl⟩ : ∃ (a : Fin 2048) (b : Fin 512), y = ix2 a b := ⟨y 0, y 1, by ext q; match q with | ⟨0, _⟩ => rfl | ⟨1, _⟩ => rfl⟩
  rw [outs]
  refine (pay _ _ a b).trans ?_
  refine Finset.sum_congr rfl fun k _ => ?_
  refine congrArg₂ _ ((rd0 m c t a k).trans ((rows m c _ k).trans (congrArg _ ?_))) ((rd1 m c t k b).trans (congrArg _ ?_))
  · refine congrArg₂ (fun p q => ix3 p q k) (Fin.ext ?_) (Fin.ext ?_) <;> simp only [emb0]
  · refine congrArg (ix2 k) (Fin.ext ?_)
    simp only [emb1]
    exact lit_col ⟨t.val % 15, by omega⟩ _ b.isLt

theorem covers : ((cfgI m).win 2).Covers := by
  refine ⟨fun a => by match a with | ⟨0, _⟩ => exact (by decide : 0 < 2048) | ⟨1, _⟩ => exact (by decide : 0 < 512), fun β => ?_⟩
  have h0 : (β (0 : Fin 2)).val < 4 := Nat.lt_of_lt_of_eq (β (0 : Fin 2)).isLt (by show (8192 + 2048 - 1) / 2048 = 4; rfl)
  have h1 : (β (1 : Fin 2)).val < 15 := Nat.lt_of_lt_of_eq (β (1 : Fin 2)).isLt (by show (7680 + 512 - 1) / 512 = 15; rfl)
  refine ⟨(⟨(β (0 : Fin 2)).val * 15 + (β (1 : Fin 2)).val, by rw [N60]; omega⟩ : Fin grid0.N), flush0_2 _ _, fun a => ⟨?_, Or.inl ?_⟩⟩
  · rw [index2]
    match a with
    | ⟨0, _⟩ => show ((β (0 : Fin 2)).val * 15 + (β (1 : Fin 2)).val) / 15 = (β (0 : Fin 2)).val; omega
    | ⟨1, _⟩ => show ((β (0 : Fin 2)).val * 15 + (β (1 : Fin 2)).val) % 15 = (β (1 : Fin 2)).val; omega
  · match a with
    | ⟨0, _⟩ => rfl
    | ⟨1, _⟩ => rfl

theorem final : (dats m (ok m) 0 c).arrAt 2 (cfgI m).N = proj (m ((c.tc : Thread nD τ).loc main_arg0)) (m ((c.tc : Thread nD τ).loc main_arg1)) :=
  (dats m (ok m) 0 c).arrAt_eq_of_covers 2 _ (covers m) fun t _ y => (congrFun (after0_2 m (ok m) c t) y).trans (point m c t y)

theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = proj (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ (ok m)) (unchanged m ρ (ok m)))

end Cert.Kernel2Ideal

end
-- ==== Proof.InProjRef.lean ====
/- The reference of the input projection, index by index. -/
module

public import proofs.«01_k».proof.Proof.InProjSpec
public import proofs.«01_k».proof.Proof.Gen.Reference2Ideal.Run
public import proofs.«01_k».proof.Proof.Gen.Reference2Ideal.Read
public import Idealize.ShloMosaic.Lib.Pipeline.Value

@[expose] public section

noncomputable section

namespace Cert.Reference2Ideal.Proj

open Cert.Reference2Ideal Cert.Reference2Ideal.Gen Cert.Reference2Ideal.Read Cert.InProj Idealize.ShloMosaic

variable (x0 : (⟨S2x4096x2048, .bf16⟩ : BufTy).Contents (Elt Ideal)) (x1 : (⟨S2048x10752, .f32⟩ : BufTy).Contents (Elt Ideal))

/-- The whole projection at an index. -/
theorem z_at (i : S2x4096x10752.Idx) :
    val_main_v1 (F := Ideal) x0 x1 i = ∑ k : Fin 2048, x0 (ix3 (i 0) (i 1) k) * x1 (ix2 k (i 2)) := by
  rw [val_main_v1_apply]
  refine Finset.sum_congr rfl fun k _ => congrArg₂ _ ?_ ?_
  · exact (val_main_v0_apply (F := Ideal) x0 _).trans (congrArg x0 (funext fun q => match q with | ⟨0, _⟩ => rfl | ⟨1, _⟩ => rfl | ⟨2, _⟩ => rfl))
  · exact congrArg x1 (funext fun q => match q with | ⟨0, _⟩ => rfl | ⟨1, _⟩ => rfl)

/-- The joined columns are the projection's columns. -/
theorem cols_at (i : S2x4096x7680.Idx) (n : Fin 10752) (hn : n.val = col (i 2).val) :
    val_main_v7 (F := Ideal) x0 x1 i = val_main_v1 (F := Ideal) x0 x1 (ix3 (i 0) (i 1) n) := by
  have hi : (i 2).val < 7680 := (i 2).isLt
  unfold col at hn
  unfold val_main_v7
  by_cases h0 : (i 2).val < 2048
  · refine Eq.trans (concatenate_apply_piece 2 _ _ i 0 (by show 0 < 5; decide) S2x4096x2048 _ rfl rfl 0 rfl
      (ix3 (i 0) (i 1) ⟨(i 2).val - 0, by omega⟩) (fun b => match b with | ⟨0, _⟩ => fun _ => rfl | ⟨1, _⟩ => fun _ => rfl | ⟨2, _⟩ => fun hb => absurd rfl hb) (by show 0 + ((i 2).val - 0) = (i 2).val; omega)) ?_
    rw [val_main_v2_apply]
    exact congrArg _ (funext fun q => match q with | ⟨0, _⟩ => rfl | ⟨1, _⟩ => rfl | ⟨2, _⟩ => Fin.ext (by show (i 2).val - 0 = n.val; split_ifs at hn <;> omega))
  by_cases h1 : (i 2).val < 6144
  · refine Eq.trans (concatenate_apply_piece 2 _ _ i 1 (by show 1 < 5; decide) S2x4096x4096 _ rfl rfl 2048 rfl
      (ix3 (i 0) (i 1) ⟨(i 2).val - 2048, by omega⟩) (fun b => match b with | ⟨0, _⟩ => fun _ => rfl | ⟨1, _⟩ => fun _ => rfl | ⟨2, _⟩ => fun hb => absurd rfl hb) (by show 2048 + ((i 2).val - 2048) = (i 2).val; omega)) ?_
    rw [val_main_v3_apply]
    exact congrArg _ (funext fun q => match q with | ⟨0, _⟩ => rfl | ⟨1, _⟩ => rfl | ⟨2, _⟩ => Fin.ext (by show 6656 + ((i 2).val - 2048) = n.val; split_ifs at hn <;> omega))
  by_cases h2 : (i 2).val < 6656
  · refine Eq.trans (concatenate_apply_piece 2 _ _ i 2 (by show 2 < 5; decide) S2x4096x512 _ rfl rfl 6144 rfl
      (ix3 (i 0) (i 1) ⟨(i 2).val - 6144, by omega⟩) (fun b => match b with | ⟨0, _⟩ => fun _ => rfl | ⟨1, _⟩ => fun _ => rfl | ⟨2, _⟩ => fun hb => absurd rfl hb) (by show 6144 + ((i 2).val - 6144) = (i 2).val; omega)) ?_
    rw [val_main_v4_apply]
    exact congrArg _ (funext fun q => match q with | ⟨0, _⟩ => rfl | ⟨1, _⟩ => rfl | ⟨2, _⟩ => Fin.ext (by show 2048 + ((i 2).val - 6144) = n.val; split_ifs at hn <;> omega))
  by_cases h3 : (i 2).val < 7168
  · refine Eq.trans (concatenate_apply_piece 2 _ _ i 3 (by show 3 < 5; decide) S2x4096x512 _ rfl rfl 6656 rfl
      (ix3 (i 0) (i 1) ⟨(i 2).val - 6656, by omega⟩) (fun b => match b with | ⟨0, _⟩ => fun _ => rfl | ⟨1, _⟩ => fun _ => rfl | ⟨2, _⟩ => fun hb => absurd rfl hb) (by show 6656 + ((i 2).val - 6656) = (i 2).val; omega)) ?_
    rw [val_main_v5_apply]
    exact congrArg _ (funext fun q => match q with | ⟨0, _⟩ => rfl | ⟨1, _⟩ => rfl | ⟨2, _⟩ => Fin.ext (by show 3584 + ((i 2).val - 6656) = n.val; split_ifs at hn <;> omega))
  · refine Eq.trans (concatenate_apply_piece 2 _ _ i 4 (by show 4 < 5; decide) S2x4096x512 _ rfl rfl 7168 rfl
      (ix3 (i 0) (i 1) ⟨(i 2).val - 7168, by omega⟩) (fun b => match b with | ⟨0, _⟩ => fun _ => rfl | ⟨1, _⟩ => fun _ => rfl | ⟨2, _⟩ => fun hb => absurd rfl hb) (by show 7168 + ((i 2).val - 7168) = (i 2).val; omega)) ?_
    rw [val_main_v6_apply]
    exact congrArg _ (funext fun q => match q with | ⟨0, _⟩ => rfl | ⟨1, _⟩ => rfl | ⟨2, _⟩ => Fin.ext (by show 5120 + ((i 2).val - 7168) = n.val; split_ifs at hn <;> omega))

/-- The reference's result. -/
theorem result : val_main_v9 (F := Ideal) x0 x1 = proj x0 x1 := by
  funext i
  have h0 : (i 0).val < 8192 := (i 0).isLt
  have h1 : (i 1).val < 7680 := (i 1).isLt
  refine (val_main_v9_apply (F := Ideal) x0 x1 i).trans ((val_main_v8_apply (F := Ideal) x0 x1 i).trans ?_)
  refine (cols_at x0 x1 _ ⟨col (i 1).val, col_lt _ h1⟩ (congrArg col (by show (i 1).val = ((i 0).val * 7680 + (i 1).val) % 7680; omega))).trans ((z_at x0 x1 _).trans ?_)
  refine Finset.sum_congr rfl fun k _ => congrArg₂ _ (congrArg x0 (congrArg₂ (fun p q => ix3 p q k) (Fin.ext ?_) (Fin.ext ?_))) rfl
  · show ((i 0).val * 7680 + (i 1).val) / 31457280 = (i 0).val / 4096; omega
  · show ((i 0).val * 7680 + (i 1).val) / 7680 % 4096 = (i 0).val % 4096; omega

end Cert.Reference2Ideal.Proj

end
-- ==== Proof.DilTable4.lean ====
/- The table of column tiles of the call for dilation 4, and the blocks that it places. -/
module

public import proofs.«01_k».proof.Proof.Gen.Kernel4.Frame
public import proofs.«01_k».proof.Proof.Gen.Kernel4Ideal.Frame
public import Idealize.ShloMosaic.Lib.StableHlo.ReadAt
public import Idealize.ShloMosaic.PureOps.BitExact

@[expose] public section

set_option maxRecDepth 16384

noncomputable section

namespace Cert.Kernel4

open Cert.Kernel4.Gen Idealize.ShloMosaic Idealize.ShloMosaic.TcCoe

variable {F : FTy → Type} [FloatOps F] (m : (ℓ : Loc nD τ sig) → Buf (Elt F) ℓ)

/-- The listed column tiles as the table's contents. -/
def tiles : pre0.Contents (Elt F) := fun | ⟨0, _⟩ => fun i => lit0 (S3.rowMajor i) | ⟨_ + 1, h⟩ => absurd h (by simp)

theorem tbl_eq : tbl m = tiles := by
  funext j x
  match j with
  | ⟨0, _⟩ =>
    show V m (0 : Dev nD) main_c x = lit0 (S3.rowMajor x)
    unfold V
    after_reads_at

/-- The listed tiles at every floats' reading place the same blocks. -/
theorem tiles_bits (i : grid0.Coords) : cc0_transform_1 (F := F) k0_off1_inb numel1_S1 tiles i = cc0_transform_1 (F := Bits) k0_off1_inb numel1_S1 tiles i := rfl

/-- Every listed tile lies inside the weights. -/
theorem inside (i : grid0.Coords) (a : Fin 2) : (cc0_transform_1 (F := F) k0_off1_inb numel1_S1 tiles i a + 1) * S2048x512.size a ≤ S2048x10752.size a := by
  rw [tiles_bits]; revert i a; decide +kernel

theorem ok : Ok (F := F) m := by unfold Ok; rw [tbl_eq m]; exact fun i => ⟨inside i, Or.inl rfl⟩

end Cert.Kernel4

namespace Cert.Kernel4Ideal

open Cert.Kernel4Ideal.Gen Idealize.ShloMosaic Idealize.ShloMosaic.TcCoe

variable {F : FTy → Type} [FloatOps F] (m : (ℓ : Loc nD τ sig) → Buf (Elt F) ℓ)

/-- The listed column tiles as the table's contents. -/
def tiles : pre0.Contents (Elt F) := fun | ⟨0, _⟩ => fun i => lit0 (S3.rowMajor i) | ⟨_ + 1, h⟩ => absurd h (by simp)

theorem tbl_eq : tbl m = tiles := by
  funext j x
  match j with
  | ⟨0, _⟩ =>
    show V m (0 : Dev nD) main_c x = lit0 (S3.rowMajor x)
    unfold V
    after_reads_at

/-- The listed tiles at every floats' reading place the same blocks. -/
theorem tiles_bits (i : grid0.Coords) : cc0_transform_1 (F := F) k0_off1_inb numel1_S1 tiles i = cc0_transform_1 (F := Bits) k0_off1_inb numel1_S1 tiles i := rfl

/-- Every listed tile lies inside the weights. -/
theorem inside (i : grid0.Coords) (a : Fin 2) : (cc0_transform_1 (F := F) k0_off1_inb numel1_S1 tiles i a + 1) * S2048x512.size a ≤ S2048x10752.size a := by
  rw [tiles_bits]; revert i a; decide +kernel

theorem ok : Ok (F := F) m := by unfold Ok; rw [tbl_eq m]; exact fun i => ⟨inside i, Or.inl rfl⟩

/-- The tile that a point's column tile reads. -/
theorem tile_of (t : Fin grid0.N) :
    cc0_transform_1 (F := F) k0_off1_inb numel1_S1 tiles (grid0.coords t) = ![0, (lit0 ⟨t.val % 3, by omega⟩).toNat] := by
  rw [tiles_bits]; revert t; decide +kernel

end Cert.Kernel4Ideal

end
-- ==== Proof.DilProjSpec.lean ====
/- What the input projection's call for a dilated group gives, index by index: the tokens of each strided subsequence
   together, and the group's columns of the queries, the keys and the values. -/
module

public import Idealize.ShloMosaic.PureOps.Ideal
public import Idealize.ShloMosaic.Lib.Pointwise
public import Idealize.ShloMosaic.Lib.ValueIdx

@[expose] public section

noncomputable section

namespace Cert.DilProj

open Idealize.ShloMosaic

/-- The position in its sequence of a row of the result, for subsequences of `L` tokens and dilation `d`. -/
def pos (L d r : ℕ) : ℕ := (r % L * d + r % 4096 / L) % 4096

/-- The weight column that a column of the result is of, for group `g`. -/
def col (g n : ℕ) : ℕ := (2048 + 1536 * (n / 512) + 512 * g + n % 512) % 10752

/-- An entry of the result. -/
def proj (L d g : ℕ) (X : (⟨3, ![2, 4096, 2048]⟩ : Shape).Idx → EReal) (W : (⟨2, ![2048, 10752]⟩ : Shape).Idx → EReal)
    (i : (⟨2, ![8192, 1536]⟩ : Shape).Idx) : EReal :=
  ∑ k : Fin 2048, X (ix3 ⟨(i 0).val / 4096, by have : (i 0).val < 8192 := (i 0).isLt; omega⟩ ⟨pos L d (i 0).val, Nat.mod_lt _ (by decide)⟩ k)
    * W (ix2 k ⟨col g (i 1).val, Nat.mod_lt _ (by decide)⟩)

end Cert.DilProj

end
-- ==== Proof.DilVal4.lean ====
/- The result array of the input projection for dilation 4 after the launch, index by index. -/
module

public import proofs.«01_k».proof.Proof.DilTable4
public import proofs.«01_k».proof.Proof.DilProjSpec
public import Idealize.ShloMosaic.Lib.Pipeline.ValueKit
public import Idealize.ShloMosaic.Lib.Pointwise

@[expose] public section

set_option maxRecDepth 16384

noncomputable section

namespace Cert.Kernel4Ideal

open Cert.Kernel4Ideal.Gen Cert.DilProj Idealize.ShloMosaic Idealize.ShloMosaic.TcCoe Idealize.SL.Sem Idealize.ShloMosaic.Pipeline

variable (m : (ℓ : Loc nD τ sig) → Buf (Elt Ideal) ℓ) (c : Dev nD)

abbrev cfgI := cfgM m (ok m)

theorem idx0 : ∀ t : Fin grid0.N, cc0_transform_0 (grid0.coords t) = ![t.val / 3, 0] := by decide +kernel
theorem idx2 : ∀ t : Fin grid0.N, cc0_transform_2 (grid0.coords t) = ![t.val / 3, t.val % 3] := by decide +kernel
theorem N12 : grid0.N = 12 := by decide +kernel

theorem ptlt (t : Fin (cfgI m).N) : t.val < 12 := by have h : t.val < grid0.N := t.isLt; rwa [N12] at h
theorem lit_lt : ∀ q : Fin 3, (lit0 q).toNat < 21 := by decide
theorem lit_col : ∀ q : Fin 3, ∀ b : ℕ, b < 512 → 512 * (lit0 q).toNat + b = col 1 (512 * q.val + b) := by
  intro q b hb
  unfold col
  fin_cases q <;> (simp [lit0]; omega)

theorem index0 (t : Fin (cfgI m).N) : ((cfgI m).win 0).index t = ![t.val / 3, 0] := idx0 t
theorem index1 (t : Fin (cfgI m).N) : ((cfgI m).win 1).index t = ![0, (lit0 ⟨t.val % 3, by omega⟩).toNat] :=
  (congrArg (fun p => cc0_transform_1 (F := Ideal) k0_off1_inb numel1_S1 p (grid0.coords t)) (tbl_eq m)).trans (tile_of t)
theorem index2 (t : Fin (cfgI m).N) : ((cfgI m).win 2).index t = ![t.val / 3, t.val % 3] := idx2 t

/-- One point's product, entry by entry. -/
theorem pay (X : Vec Ideal S2048x2048 .bf16) (W : Vec Ideal S2048x512 .f32) (a : Fin 2048) (b : Fin 512) :
    k0_pay1 X W (ix2 a b) = ∑ k : Fin 2048, X (ix2 a k) * W (ix2 k b) := by
  unfold k0_pay1
  simp only [pointwise, zero_add]

theorem rows (r : Fin 8192) (k : Fin 2048) :
    V m c main_v2 (ix2 r k) = m ((c.tc : Thread nD τ).loc main_arg0) (ix3 ⟨r.val / 4096, by omega⟩ ⟨pos 1024 4 r.val, Nat.mod_lt _ (by decide)⟩ k) := by
  unfold V
  after_reads_at
  refine congrArg (fun p => m ((c.tc : Thread nD τ).loc main_arg0) (ix3 ⟨r.val / 4096, by omega⟩ p k)) (Fin.ext ?_)
  show r.val % 1024 * 4 + r.val / 1024 % 4 = pos 1024 4 r.val
  have hr : r.val / 1024 % 4 = r.val % 4096 / 1024 := by omega
  have hp : r.val % 1024 * 4 + r.val % 4096 / 1024 < 4096 := by omega
  unfold pos
  rw [hr, Nat.mod_eq_of_lt hp]

theorem rd0 (t : Fin (cfgI m).N) (a k : Fin 2048) :
    iblk m (ok m) c 0 t (ix2 a k) = V m c main_v2 (ix2 ⟨2048 * (t.val / 3) + a.val, by have := ptlt m t; omega⟩ k) := by
  blk_ext [iblk, index0 m t]

theorem rd1 (t : Fin (cfgI m).N) (k : Fin 2048) (b : Fin 512) :
    iblk m (ok m) c 1 t (ix2 k b) = m ((c.tc : Thread nD τ).loc main_arg1) (ix2 k ⟨512 * (lit0 ⟨t.val % 3, by omega⟩).toNat + b.val, by have := lit_lt ⟨t.val % 3, by omega⟩; omega⟩) := by
  refine Eq.trans ?_ (congrFun (V_main_arg1 m c) _)
  blk_ext [iblk, index1 m t]

theorem outs (t : Fin (cfgI m).N) (y : S2048x512.Idx) :
    outsAt0 m (ok m) c t y = k0_pay1 (iblk m (ok m) c 0 t) (iblk m (ok m) c 1 t) y := by
  unfold outsAt0 out0_A_2
  frame_out
  exact congrArg₂ (fun X W => k0_pay1 X W y) ((hs0_0 m (ok m) t).read_unread _) ((hs0_1 m (ok m) t).read_unread _)

/-- Where an entry of a point's block lies in the result. -/
def E (t : Fin (cfgI m).N) (y : S2048x512.Idx) : S8192x1536.Idx := (((cfgI m).win 2).blk t).view.emb y

theorem emb0 (t : Fin (cfgI m).N) (a : Fin 2048) (b : Fin 512) : (E m t (ix2 a b) 0).val = 2048 * (t.val / 3) + a.val := by
  unfold E
  blk_simp [index2 m t]
  show t.val / 3 * 2048 + a.val = _
  omega

theorem emb1 (t : Fin (cfgI m).N) (a : Fin 2048) (b : Fin 512) : (E m t (ix2 a b) 1).val = 512 * (t.val % 3) + b.val := by
  unfold E
  blk_simp [index2 m t]
  show t.val % 3 * 512 + b.val = _
  omega

theorem point (t : Fin (cfgI m).N) (y : S2048x512.Idx) :
    outsAt0 m (ok m) c t y = proj 1024 4 1 (m ((c.tc : Thread nD τ).loc main_arg0)) (m ((c.tc : Thread nD τ).loc main_arg1)) (E m t y) := by
  obtain ⟨a, b, rfl⟩ : ∃ (a : Fin 2048) (b : Fin 512), y = ix2 a b := ⟨y 0, y 1, by ext q; match q with | ⟨0, _⟩ => rfl | ⟨1, _⟩ => rfl⟩
  rw [outs]
  refine (pay _ _ a b).trans ?_
  refine Finset.sum_congr rfl fun k _ => ?_
  refine congrArg₂ _ ((rd0 m c t a k).trans ((rows m c _ k).trans (congrArg _ ?_))) ((rd1 m c t k b).trans (congrArg _ ?_))
  · refine congrArg₂ (fun p q => ix3 p q k) (Fin.ext ?_) (Fin.ext ?_) <;> simp only [emb0]
  · refine congrArg (ix2 k) (Fin.ext ?_)
    simp only [emb1]
    exact lit_col ⟨t.val % 3, by omega⟩ _ b.isLt

theorem covers : ((cfgI m).win 2).Covers := by
  refine ⟨fun a => by match a with | ⟨0, _⟩ => exact (by decide : 0 < 2048) | ⟨1, _⟩ => exact (by decide : 0 < 512), fun β => ?_⟩
  have h0 : (β (0 : Fin 2)).val < 4 := Nat.lt_of_lt_of_eq (β (0 : Fin 2)).isLt (by show (8192 + 2048 - 1) / 2048 = 4; rfl)
  have h1 : (β (1 : Fin 2)).val < 3 := Nat.lt_of_lt_of_eq (β (1 : Fin 2)).isLt (by show (1536 + 512 - 1) / 512 = 3; rfl)
  refine ⟨(⟨(β (0 : Fin 2)).val * 3 + (β (1 : Fin 2)).val, by rw [N12]; omega⟩ : Fin grid0.N), flush0_2 _ _, fun a => ⟨?_, Or.inl ?_⟩⟩
  · rw [index2]
    match a with
    | ⟨0, _⟩ => show ((β (0 : Fin 2)).val * 3 + (β (1 : Fin 2)).val) / 3 = (β (0 : Fin 2)).val; omega
    | ⟨1, _⟩ => show ((β (0 : Fin 2)).val * 3 + (β (1 : Fin 2)).val) % 3 = (β (1 : Fin 2)).val; omega
  · match a with
    | ⟨0, _⟩ => rfl
    | ⟨1, _⟩ => rfl

theorem final : (dats m (ok m) 0 c).arrAt 2 (cfgI m).N = proj 1024 4 1 (m ((c.tc : Thread nD τ).loc main_arg0)) (m ((c.tc : Thread nD τ).loc main_arg1)) :=
  (dats m (ok m) 0 c).arrAt_eq_of_covers 2 _ (covers m) fun t _ y => (congrFun (after0_2 m (ok m) c t) y).trans (point m c t y)

theorem run (ρ : Dev nD → PrngReg) : θ_run (defs (F := Ideal)) (onTc (τ := τ) (main (F := Ideal))) ⟨m, fun _ => 0, ρ⟩ fun r => ∀ c : Dev nD,
      r.2.mem ((c : Thread nD τ).loc main_v3) = proj 1024 4 1 (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ (ok m)) (unchanged m ρ (ok m)))

end Cert.Kernel4Ideal

end
-- ==== Proof.DilRef4.lean ====
/- The reference of the input projection for dilation 4, index by index. -/
module

public import proofs.«01_k».proof.Proof.DilProjSpec
public import proofs.«01_k».proof.Proof.Gen.Reference4Ideal.Run
public import proofs.«01_k».proof.Proof.Gen.Reference4Ideal.Read
public import Idealize.ShloMosaic.Lib.Pipeline.Value

@[expose] public section

noncomputable section

namespace Cert.Reference4Ideal.Proj

open Cert.Reference4Ideal Cert.Reference4Ideal.Gen Cert.Reference4Ideal.Read Cert.DilProj Idealize.ShloMosaic

variable (x0 : (⟨S2x4096x2048, .bf16⟩ : BufTy).Contents (Elt Ideal)) (x1 : (⟨S2048x10752, .f32⟩ : BufTy).Contents (Elt Ideal))

/-- The whole projection at an index. -/
theorem z_at (i : S2x4096x10752.Idx) :
    val_main_v1 (F := Ideal) x0 x1 i = ∑ k : Fin 2048, x0 (ix3 (i 0) (i 1) k) * x1 (ix2 k (i 2)) := by
  rw [val_main_v1_apply]
  refine Finset.sum_congr rfl fun k _ => congrArg₂ _ ?_ ?_
  · exact (val_main_v0_apply (F := Ideal) x0 _).trans (congrArg x0 (funext fun q => match q with | ⟨0, _⟩ => rfl | ⟨1, _⟩ => rfl | ⟨2, _⟩ => rfl))
  · exact congrArg x1 (funext fun q => match q with | ⟨0, _⟩ => rfl | ⟨1, _⟩ => rfl)

/-- The joined columns are the group's columns of the projection. -/
theorem cols_at (i : S2x4096x1536.Idx) (n : Fin 10752) (hn : n.val = col 1 (i 2).val) :
    val_main_v5 (F := Ideal) x0 x1 i = val_main_v1 (F := Ideal) x0 x1 (ix3 (i 0) (i 1) n) := by
  have hi : (i 2).val < 1536 := (i 2).isLt
  unfold col at hn
  unfold val_main_v5
  by_cases h0 : (i 2).val < 512
  · refine Eq.trans (concatenate_apply_piece 2 _ _ i 0 (by show 0 < 3; decide) S2x4096x512 _ rfl rfl 0 rfl
      (ix3 (i 0) (i 1) ⟨(i 2).val - 0, by omega⟩) (fun b => match b with | ⟨0, _⟩ => fun _ => rfl | ⟨1, _⟩ => fun _ => rfl | ⟨2, _⟩ => fun hb => absurd rfl hb) (by show 0 + ((i 2).val - 0) = (i 2).val; omega)) ?_
    rw [val_main_v2_apply]
    exact congrArg _ (funext fun q => match q with | ⟨0, _⟩ => rfl | ⟨1, _⟩ => rfl | ⟨2, _⟩ => Fin.ext (by show 2560 + ((i 2).val - 0) = n.val; omega))
  by_cases h1 : (i 2).val < 1024
  · refine Eq.trans (concatenate_apply_piece 2 _ _ i 1 (by show 1 < 3; decide) S2x4096x512 _ rfl rfl 512 rfl
      (ix3 (i 0) (i 1) ⟨(i 2).val - 512, by omega⟩) (fun b => match b with | ⟨0, _⟩ => fun _ => rfl | ⟨1, _⟩ => fun _ => rfl | ⟨2, _⟩ => fun hb => absurd rfl hb) (by show 512 + ((i 2).val - 512) = (i 2).val; omega)) ?_
    rw [val_main_v3_apply]
    exact congrArg _ (funext fun q => match q with | ⟨0, _⟩ => rfl | ⟨1, _⟩ => rfl | ⟨2, _⟩ => Fin.ext (by show 4096 + ((i 2).val - 512) = n.val; omega))
  · refine Eq.trans (concatenate_apply_piece 2 _ _ i 2 (by show 2 < 3; decide) S2x4096x512 _ rfl rfl 1024 rfl
      (ix3 (i 0) (i 1) ⟨(i 2).val - 1024, by omega⟩) (fun b => match b with | ⟨0, _⟩ => fun _ => rfl | ⟨1, _⟩ => fun _ => rfl | ⟨2, _⟩ => fun hb => absurd rfl hb) (by show 1024 + ((i 2).val - 1024) = (i 2).val; omega)) ?_
    rw [val_main_v4_apply]
    exact congrArg _ (funext fun q => match q with | ⟨0, _⟩ => rfl | ⟨1, _⟩ => rfl | ⟨2, _⟩ => Fin.ext (by show 5632 + ((i 2).val - 1024) = n.val; omega))

/-- The columns in the order of the strided subsequences. -/
theorem order (b : Fin 2) (r : Fin 4) (l : Fin 1024) (j : Fin 1536) :
    val_main_v7 (F := Ideal) x0 x1 (ix4 b r l j) = val_main_v5 (F := Ideal) x0 x1 (ix3 b ⟨l.val * 4 + r.val, by omega⟩ j) := by
  refine (val_main_v7_apply (F := Ideal) x0 x1 _).trans ((val_main_v6_apply (F := Ideal) x0 x1 _).trans (congrArg _ ?_))
  funext q
  match q with
  | ⟨0, _⟩ => exact Fin.ext (by show (((b.val * 1024 + l.val) * 4 + r.val) * 1536 + j.val) / 6291456 = b.val; omega)
  | ⟨1, _⟩ => exact Fin.ext (by show (((b.val * 1024 + l.val) * 4 + r.val) * 1536 + j.val) / 1536 % 4096 = l.val * 4 + r.val; omega)
  | ⟨2, _⟩ => exact Fin.ext (by show (((b.val * 1024 + l.val) * 4 + r.val) * 1536 + j.val) % 1536 = j.val; omega)

/-- The reference's result. -/
theorem result : val_main_v9 (F := Ideal) x0 x1 = proj 1024 4 1 x0 x1 := by
  funext i
  have h0 : (i 0).val < 8192 := (i 0).isLt
  have h1 : (i 1).val < 1536 := (i 1).isLt
  refine (val_main_v9_apply (F := Ideal) x0 x1 i).trans ((val_main_v8_apply (F := Ideal) x0 x1 i).trans ?_)
  refine Eq.trans (congrArg _ (?_ : _ = ix4 ⟨(i 0).val / 4096, by omega⟩ ⟨(i 0).val % 4096 / 1024, by omega⟩ ⟨(i 0).val % 1024, by omega⟩ ⟨(i 1).val, h1⟩)) ((order x0 x1 _ _ _ _).trans ?_)
  · funext q
    match q with
    | ⟨0, _⟩ => exact Fin.ext (by show ((i 0).val * 1536 + (i 1).val) / 6291456 = (i 0).val / 4096; omega)
    | ⟨1, _⟩ => exact Fin.ext (by show ((i 0).val * 1536 + (i 1).val) / 1572864 % 4 = (i 0).val % 4096 / 1024; omega)
    | ⟨2, _⟩ => exact Fin.ext (by show ((i 0).val * 1536 + (i 1).val) / 1536 % 1024 = (i 0).val % 1024; omega)
    | ⟨3, _⟩ => exact Fin.ext (by show ((i 0).val * 1536 + (i 1).val) % 1536 = (i 1).val; omega)
  refine (cols_at x0 x1 _ ⟨col 1 (i 1).val, Nat.mod_lt _ (by decide)⟩ rfl).trans ((z_at x0 x1 _).trans ?_)
  refine Finset.sum_congr rfl fun k _ => congrArg₂ _ (congrArg x0 (congrArg₂ (fun p q => ix3 p q k) rfl (Fin.ext ?_))) rfl
  show (i 0).val % 1024 * 4 + (i 0).val % 4096 / 1024 = pos 1024 4 (i 0).val
  unfold pos; omega

end Cert.Reference4Ideal.Proj

end
-- ==== Proof.DilTable5.lean ====
/- The table of column tiles of the call for dilation 16, and the blocks that it places. -/
module

public import proofs.«01_k».proof.Proof.Gen.Kernel5.Frame
public import proofs.«01_k».proof.Proof.Gen.Kernel5Ideal.Frame
public import Idealize.ShloMosaic.Lib.StableHlo.ReadAt
public import Idealize.ShloMosaic.PureOps.BitExact

@[expose] public section

set_option maxRecDepth 16384

noncomputable section

namespace Cert.Kernel5

open Cert.Kernel5.Gen Idealize.ShloMosaic Idealize.ShloMosaic.TcCoe

variable {F : FTy → Type} [FloatOps F] (m : (ℓ : Loc nD τ sig) → Buf (Elt F) ℓ)

/-- The listed column tiles as the table's contents. -/
def tiles : pre0.Contents (Elt F) := fun | ⟨0, _⟩ => fun i => lit0 (S3.rowMajor i) | ⟨_ + 1, h⟩ => absurd h (by simp)

theorem tbl_eq : tbl m = tiles := by
  funext j x
  match j with
  | ⟨0, _⟩ =>
    show V m (0 : Dev nD) main_c x = lit0 (S3.rowMajor x)
    unfold V
    after_reads_at

/-- The listed tiles at every floats' reading place the same blocks. -/
theorem tiles_bits (i : grid0.Coords) : cc0_transform_1 (F := F) k0_off1_inb numel1_S1 tiles i = cc0_transform_1 (F := Bits) k0_off1_inb numel1_S1 tiles i := rfl

/-- Every listed tile lies inside the weights. -/
theorem inside (i : grid0.Coords) (a : Fin 2) : (cc0_transform_1 (F := F) k0_off1_inb numel1_S1 tiles i a + 1) * S2048x512.size a ≤ S2048x10752.size a := by
  rw [tiles_bits]; revert i a; decide +kernel

theorem ok : Ok (F := F) m := by unfold Ok; rw [tbl_eq m]; exact fun i => ⟨inside i, Or.inl rfl⟩

end Cert.Kernel5

namespace Cert.Kernel5Ideal

open Cert.Kernel5Ideal.Gen Idealize.ShloMosaic Idealize.ShloMosaic.TcCoe

variable {F : FTy → Type} [FloatOps F] (m : (ℓ : Loc nD τ sig) → Buf (Elt F) ℓ)

/-- The listed column tiles as the table's contents. -/
def tiles : pre0.Contents (Elt F) := fun | ⟨0, _⟩ => fun i => lit0 (S3.rowMajor i) | ⟨_ + 1, h⟩ => absurd h (by simp)

theorem tbl_eq : tbl m = tiles := by
  funext j x
  match j with
  | ⟨0, _⟩ =>
    show V m (0 : Dev nD) main_c x = lit0 (S3.rowMajor x)
    unfold V
    after_reads_at

/-- The listed tiles at every floats' reading place the same blocks. -/
theorem tiles_bits (i : grid0.Coords) : cc0_transform_1 (F := F) k0_off1_inb numel1_S1 tiles i = cc0_transform_1 (F := Bits) k0_off1_inb numel1_S1 tiles i := rfl

/-- Every listed tile lies inside the weights. -/
theorem inside (i : grid0.Coords) (a : Fin 2) : (cc0_transform_1 (F := F) k0_off1_inb numel1_S1 tiles i a + 1) * S2048x512.size a ≤ S2048x10752.size a := by
  rw [tiles_bits]; revert i a; decide +kernel

theorem ok : Ok (F := F) m := by unfold Ok; rw [tbl_eq m]; exact fun i => ⟨inside i, Or.inl rfl⟩

/-- The tile that a point's column tile reads. -/
theorem tile_of (t : Fin grid0.N) :
    cc0_transform_1 (F := F) k0_off1_inb numel1_S1 tiles (grid0.coords t) = ![0, (lit0 ⟨t.val % 3, by omega⟩).toNat] := by
  rw [tiles_bits]; revert t; decide +kernel

end Cert.Kernel5Ideal

end
-- ==== Proof.DilVal5.lean ====
/- The result array of the input projection for dilation 16 after the launch, index by index. -/
module

public import proofs.«01_k».proof.Proof.DilTable5
public import proofs.«01_k».proof.Proof.DilProjSpec
public import Idealize.ShloMosaic.Lib.Pipeline.ValueKit
public import Idealize.ShloMosaic.Lib.Pointwise

@[expose] public section

set_option maxRecDepth 16384

noncomputable section

namespace Cert.Kernel5Ideal

open Cert.Kernel5Ideal.Gen Cert.DilProj Idealize.ShloMosaic Idealize.ShloMosaic.TcCoe Idealize.SL.Sem Idealize.ShloMosaic.Pipeline

variable (m : (ℓ : Loc nD τ sig) → Buf (Elt Ideal) ℓ) (c : Dev nD)

abbrev cfgI := cfgM m (ok m)

theorem idx0 : ∀ t : Fin grid0.N, cc0_transform_0 (grid0.coords t) = ![t.val / 3, 0] := by decide +kernel
theorem idx2 : ∀ t : Fin grid0.N, cc0_transform_2 (grid0.coords t) = ![t.val / 3, t.val % 3] := by decide +kernel
theorem N12 : grid0.N = 12 := by decide +kernel

theorem ptlt (t : Fin (cfgI m).N) : t.val < 12 := by have h : t.val < grid0.N := t.isLt; rwa [N12] at h
theorem lit_lt : ∀ q : Fin 3, (lit0 q).toNat < 21 := by decide
theorem lit_col : ∀ q : Fin 3, ∀ b : ℕ, b < 512 → 512 * (lit0 q).toNat + b = col 2 (512 * q.val + b) := by
  intro q b hb
  unfold col
  fin_cases q <;> (simp [lit0]; omega)

theorem index0 (t : Fin (cfgI m).N) : ((cfgI m).win 0).index t = ![t.val / 3, 0] := idx0 t
theorem index1 (t : Fin (cfgI m).N) : ((cfgI m).win 1).index t = ![0, (lit0 ⟨t.val % 3, by omega⟩).toNat] :=
  (congrArg (fun p => cc0_transform_1 (F := Ideal) k0_off1_inb numel1_S1 p (grid0.coords t)) (tbl_eq m)).trans (tile_of t)
theorem index2 (t : Fin (cfgI m).N) : ((cfgI m).win 2).index t = ![t.val / 3, t.val % 3] := idx2 t

/-- One point's product, entry by entry. -/
theorem pay (X : Vec Ideal S2048x2048 .bf16) (W : Vec Ideal S2048x512 .f32) (a : Fin 2048) (b : Fin 512) :
    k0_pay1 X W (ix2 a b) = ∑ k : Fin 2048, X (ix2 a k) * W (ix2 k b) := by
  unfold k0_pay1
  simp only [pointwise, zero_add]

theorem rows (r : Fin 8192) (k : Fin 2048) :
    V m c main_v2 (ix2 r k) = m ((c.tc : Thread nD τ).loc main_arg0) (ix3 ⟨r.val / 4096, by omega⟩ ⟨pos 256 16 r.val, Nat.mod_lt _ (by decide)⟩ k) := by
  unfold V
  after_reads_at
  refine congrArg (fun p => m ((c.tc : Thread nD τ).loc main_arg0) (ix3 ⟨r.val / 4096, by omega⟩ p k)) (Fin.ext ?_)
  show r.val % 256 * 16 + r.val / 256 % 16 = pos 256 16 r.val
  have hr : r.val / 256 % 16 = r.val % 4096 / 256 := by omega
  have hp : r.val % 256 * 16 + r.val % 4096 / 256 < 4096 := by omega
  unfold pos
  rw [hr, Nat.mod_eq_of_lt hp]

theorem rd0 (t : Fin (cfgI m).N) (a k : Fin 2048) :
    iblk m (ok m) c 0 t (ix2 a k) = V m c main_v2 (ix2 ⟨2048 * (t.val / 3) + a.val, by have := ptlt m t; omega⟩ k) := by
  blk_ext [iblk, index0 m t]

theorem rd1 (t : Fin (cfgI m).N) (k : Fin 2048) (b : Fin 512) :
    iblk m (ok m) c 1 t (ix2 k b) = m ((c.tc : Thread nD τ).loc main_arg1) (ix2 k ⟨512 * (lit0 ⟨t.val % 3, by omega⟩).toNat + b.val, by have := lit_lt ⟨t.val % 3, by omega⟩; omega⟩) := by
  refine Eq.trans ?_ (congrFun (V_main_arg1 m c) _)
  blk_ext [iblk, index1 m t]

theorem outs (t : Fin (cfgI m).N) (y : S2048x512.Idx) :
    outsAt0 m (ok m) c t y = k0_pay1 (iblk m (ok m) c 0 t) (iblk m (ok m) c 1 t) y := by
  unfold outsAt0 out0_A_2
  frame_out
  exact congrArg₂ (fun X W => k0_pay1 X W y) ((hs0_0 m (ok m) t).read_unread _) ((hs0_1 m (ok m) t).read_unread _)

/-- Where an entry of a point's block lies in the result. -/
def E (t : Fin (cfgI m).N) (y : S2048x512.Idx) : S8192x1536.Idx := (((cfgI m).win 2).blk t).view.emb y

theorem emb0 (t : Fin (cfgI m).N) (a : Fin 2048) (b : Fin 512) : (E m t (ix2 a b) 0).val = 2048 * (t.val / 3) + a.val := by
  unfold E
  blk_simp [index2 m t]
  show t.val / 3 * 2048 + a.val = _
  omega

theorem emb1 (t : Fin (cfgI m).N) (a : Fin 2048) (b : Fin 512) : (E m t (ix2 a b) 1).val = 512 * (t.val % 3) + b.val := by
  unfold E
  blk_simp [index2 m t]
  show t.val % 3 * 512 + b.val = _
  omega

theorem point (t : Fin (cfgI m).N) (y : S2048x512.Idx) :
    outsAt0 m (ok m) c t y = proj 256 16 2 (m ((c.tc : Thread nD τ).loc main_arg0)) (m ((c.tc : Thread nD τ).loc main_arg1)) (E m t y) := by
  obtain ⟨a, b, rfl⟩ : ∃ (a : Fin 2048) (b : Fin 512), y = ix2 a b := ⟨y 0, y 1, by ext q; match q with | ⟨0, _⟩ => rfl | ⟨1, _⟩ => rfl⟩
  rw [outs]
  refine (pay _ _ a b).trans ?_
  refine Finset.sum_congr rfl fun k _ => ?_
  refine congrArg₂ _ ((rd0 m c t a k).trans ((rows m c _ k).trans (congrArg _ ?_))) ((rd1 m c t k b).trans (congrArg _ ?_))
  · refine congrArg₂ (fun p q => ix3 p q k) (Fin.ext ?_) (Fin.ext ?_) <;> simp only [emb0]
  · refine congrArg (ix2 k) (Fin.ext ?_)
    simp only [emb1]
    exact lit_col ⟨t.val % 3, by omega⟩ _ b.isLt

theorem covers : ((cfgI m).win 2).Covers := by
  refine ⟨fun a => by match a with | ⟨0, _⟩ => exact (by decide : 0 < 2048) | ⟨1, _⟩ => exact (by decide : 0 < 512), fun β => ?_⟩
  have h0 : (β (0 : Fin 2)).val < 4 := Nat.lt_of_lt_of_eq (β (0 : Fin 2)).isLt (by show (8192 + 2048 - 1) / 2048 = 4; rfl)
  have h1 : (β (1 : Fin 2)).val < 3 := Nat.lt_of_lt_of_eq (β (1 : Fin 2)).isLt (by show (1536 + 512 - 1) / 512 = 3; rfl)
  refine ⟨(⟨(β (0 : Fin 2)).val * 3 + (β (1 : Fin 2)).val, by rw [N12]; omega⟩ : Fin grid0.N), flush0_2 _ _, fun a => ⟨?_, Or.inl ?_⟩⟩
  · rw [index2]
    match a with
    | ⟨0, _⟩ => show ((β (0 : Fin 2)).val * 3 + (β (1 : Fin 2)).val) / 3 = (β (0 : Fin 2)).val; omega
    | ⟨1, _⟩ => show ((β (0 : Fin 2)).val * 3 + (β (1 : Fin 2)).val) % 3 = (β (1 : Fin 2)).val; omega
  · match a with
    | ⟨0, _⟩ => rfl
    | ⟨1, _⟩ => rfl

theorem final : (dats m (ok m) 0 c).arrAt 2 (cfgI m).N = proj 256 16 2 (m ((c.tc : Thread nD τ).loc main_arg0)) (m ((c.tc : Thread nD τ).loc main_arg1)) :=
  (dats m (ok m) 0 c).arrAt_eq_of_covers 2 _ (covers m) fun t _ y => (congrFun (after0_2 m (ok m) c t) y).trans (point m c t y)

theorem run (ρ : Dev nD → PrngReg) : θ_run (defs (F := Ideal)) (onTc (τ := τ) (main (F := Ideal))) ⟨m, fun _ => 0, ρ⟩ fun r => ∀ c : Dev nD,
      r.2.mem ((c : Thread nD τ).loc main_v3) = proj 256 16 2 (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c), h.2 c⟩)
    (θ_run_and (run_main m ρ (ok m)) (unchanged m ρ (ok m)))

end Cert.Kernel5Ideal

end
-- ==== Proof.DilRef5.lean ====
/- The reference of the input projection for dilation 16, index by index. -/
module

public import proofs.«01_k».proof.Proof.DilProjSpec
public import proofs.«01_k».proof.Proof.Gen.Reference5Ideal.Run
public import proofs.«01_k».proof.Proof.Gen.Reference5Ideal.Read
public import Idealize.ShloMosaic.Lib.Pipeline.Value

@[expose] public section

noncomputable section

namespace Cert.Reference5Ideal.Proj

open Cert.Reference5Ideal Cert.Reference5Ideal.Gen Cert.Reference5Ideal.Read Cert.DilProj Idealize.ShloMosaic

variable (x0 : (⟨S2x4096x2048, .bf16⟩ : BufTy).Contents (Elt Ideal)) (x1 : (⟨S2048x10752, .f32⟩ : BufTy).Contents (Elt Ideal))

/-- The whole projection at an index. -/
theorem z_at (i : S2x4096x10752.Idx) :
    val_main_v1 (F := Ideal) x0 x1 i = ∑ k : Fin 2048, x0 (ix3 (i 0) (i 1) k) * x1 (ix2 k (i 2)) := by
  rw [val_main_v1_apply]
  refine Finset.sum_congr rfl fun k _ => congrArg₂ _ ?_ ?_
  · exact (val_main_v0_apply (F := Ideal) x0 _).trans (congrArg x0 (funext fun q => match q with | ⟨0, _⟩ => rfl | ⟨1, _⟩ => rfl | ⟨2, _⟩ => rfl))
  · exact congrArg x1 (funext fun q => match q with | ⟨0, _⟩ => rfl | ⟨1, _⟩ => rfl)

/-- The joined columns are the group's columns of the projection. -/
theorem cols_at (i : S2x4096x1536.Idx) (n : Fin 10752) (hn : n.val = col 2 (i 2).val) :
    val_main_v5 (F := Ideal) x0 x1 i = val_main_v1 (F := Ideal) x0 x1 (ix3 (i 0) (i 1) n) := by
  have hi : (i 2).val < 1536 := (i 2).isLt
  unfold col at hn
  unfold val_main_v5
  by_cases h0 : (i 2).val < 512
  · refine Eq.trans (concatenate_apply_piece 2 _ _ i 0 (by show 0 < 3; decide) S2x4096x512 _ rfl rfl 0 rfl
      (ix3 (i 0) (i 1) ⟨(i 2).val - 0, by omega⟩) (fun b => match b with | ⟨0, _⟩ => fun _ => rfl | ⟨1, _⟩ => fun _ => rfl | ⟨2, _⟩ => fun hb => absurd rfl hb) (by show 0 + ((i 2).val - 0) = (i 2).val; omega)) ?_
    rw [val_main_v2_apply]
    exact congrArg _ (funext fun q => match q with | ⟨0, _⟩ => rfl | ⟨1, _⟩ => rfl | ⟨2, _⟩ => Fin.ext (by show 3072 + ((i 2).val - 0) = n.val; omega))
  by_cases h1 : (i 2).val < 1024
  · refine Eq.trans (concatenate_apply_piece 2 _ _ i 1 (by show 1 < 3; decide) S2x4096x512 _ rfl rfl 512 rfl
      (ix3 (i 0) (i 1) ⟨(i 2).val - 512, by omega⟩) (fun b => match b with | ⟨0, _⟩ => fun _ => rfl | ⟨1, _⟩ => fun _ => rfl | ⟨2, _⟩ => fun hb => absurd rfl hb) (by show 512 + ((i 2).val - 512) = (i 2).val; omega)) ?_
    rw [val_main_v3_apply]
    exact congrArg _ (funext fun q => match q with | ⟨0, _⟩ => rfl | ⟨1, _⟩ => rfl | ⟨2, _⟩ => Fin.ext (by show 4608 + ((i 2).val - 512) = n.val; omega))
  · refine Eq.trans (concatenate_apply_piece 2 _ _ i 2 (by show 2 < 3; decide) S2x4096x512 _ rfl rfl 1024 rfl
      (ix3 (i 0) (i 1) ⟨(i 2).val - 1024, by omega⟩) (fun b => match b with | ⟨0, _⟩ => fun _ => rfl | ⟨1, _⟩ => fun _ => rfl | ⟨2, _⟩ => fun hb => absurd rfl hb) (by show 1024 + ((i 2).val - 1024) = (i 2).val; omega)) ?_
    rw [val_main_v4_apply]
    exact congrArg _ (funext fun q => match q with | ⟨0, _⟩ => rfl | ⟨1, _⟩ => rfl | ⟨2, _⟩ => Fin.ext (by show 6144 + ((i 2).val - 1024) = n.val; omega))

/-- The columns in the order of the strided subsequences. -/
theorem order (b : Fin 2) (r : Fin 16) (l : Fin 256) (j : Fin 1536) :
    val_main_v7 (F := Ideal) x0 x1 (ix4 b r l j) = val_main_v5 (F := Ideal) x0 x1 (ix3 b ⟨l.val * 16 + r.val, by omega⟩ j) := by
  refine (val_main_v7_apply (F := Ideal) x0 x1 _).trans ((val_main_v6_apply (F := Ideal) x0 x1 _).trans (congrArg _ ?_))
  funext q
  match q with
  | ⟨0, _⟩ => exact Fin.ext (by show (((b.val * 256 + l.val) * 16 + r.val) * 1536 + j.val) / 6291456 = b.val; omega)
  | ⟨1, _⟩ => exact Fin.ext (by show (((b.val * 256 + l.val) * 16 + r.val) * 1536 + j.val) / 1536 % 4096 = l.val * 16 + r.val; omega)
  | ⟨2, _⟩ => exact Fin.ext (by show (((b.val * 256 + l.val) * 16 + r.val) * 1536 + j.val) % 1536 = j.val; omega)

/-- The reference's result. -/
theorem result : val_main_v9 (F := Ideal) x0 x1 = proj 256 16 2 x0 x1 := by
  funext i
  have h0 : (i 0).val < 8192 := (i 0).isLt
  have h1 : (i 1).val < 1536 := (i 1).isLt
  refine (val_main_v9_apply (F := Ideal) x0 x1 i).trans ((val_main_v8_apply (F := Ideal) x0 x1 i).trans ?_)
  refine Eq.trans (congrArg _ (?_ : _ = ix4 ⟨(i 0).val / 4096, by omega⟩ ⟨(i 0).val % 4096 / 256, by omega⟩ ⟨(i 0).val % 256, by omega⟩ ⟨(i 1).val, h1⟩)) ((order x0 x1 _ _ _ _).trans ?_)
  · funext q
    match q with
    | ⟨0, _⟩ => exact Fin.ext (by show ((i 0).val * 1536 + (i 1).val) / 6291456 = (i 0).val / 4096; omega)
    | ⟨1, _⟩ => exact Fin.ext (by show ((i 0).val * 1536 + (i 1).val) / 393216 % 16 = (i 0).val % 4096 / 256; omega)
    | ⟨2, _⟩ => exact Fin.ext (by show ((i 0).val * 1536 + (i 1).val) / 1536 % 256 = (i 0).val % 256; omega)
    | ⟨3, _⟩ => exact Fin.ext (by show ((i 0).val * 1536 + (i 1).val) % 1536 = (i 1).val; omega)
  refine (cols_at x0 x1 _ ⟨col 2 (i 1).val, Nat.mod_lt _ (by decide)⟩ rfl).trans ((z_at x0 x1 _).trans ?_)
  refine Finset.sum_congr rfl fun k _ => congrArg₂ _ (congrArg x0 (congrArg₂ (fun p q => ix3 p q k) rfl (Fin.ext ?_))) rfl
  show (i 0).val % 256 * 16 + (i 0).val % 4096 / 256 = pos 256 16 (i 0).val
  unfold pos; omega

end Cert.Reference5Ideal.Proj

end
-- ==== Proof.PeerSpec.lean ====
/- The routing's scores, index by index: each token's query halves against the sub-keys. -/
module

public import Idealize.ShloMosaic.PureOps.Ideal
public import Idealize.ShloMosaic.Lib.Pointwise
public import Idealize.ShloMosaic.Lib.ValueIdx

@[expose] public section

noncomputable section

namespace Cert.Peer

open Idealize.ShloMosaic

/-- A token's query, one coordinate. -/
def query (X : (⟨3, ![2, 4096, 2048]⟩ : Shape).Idx → EReal) (W : (⟨2, ![2048, 2048]⟩ : Shape).Idx → EReal) (r : Fin 8192) (j : Fin 2048) : EReal :=
  ∑ k : Fin 2048, X (ix3 ⟨r.val / 4096, by omega⟩ ⟨r.val % 4096, by omega⟩ k) * W (ix2 k j)

/-- A token's score of a sub-key: head and half, sub-key, token. -/
def score (X : (⟨3, ![2, 4096, 2048]⟩ : Shape).Idx → EReal) (W : (⟨2, ![2048, 2048]⟩ : Shape).Idx → EReal)
    (K : (⟨4, ![8, 2, 128, 128]⟩ : Shape).Idx → EReal) (i : (⟨3, ![16, 128, 8192]⟩ : Shape).Idx) : EReal :=
  ∑ e : Fin 128, K (ix4 ⟨(i 0).val / 2, by have : (i 0).val < 16 := (i 0).isLt; omega⟩ ⟨(i 0).val % 2, by omega⟩ (i 1) e)
    * query X W (i 2) ⟨128 * (i 0).val + e.val, by have : (i 0).val < 16 := (i 0).isLt; omega⟩

end Cert.Peer

end
-- ==== Proof.PeerVal.lean ====
/- The routing scores' array after the launch, index by index. -/
module

public import proofs.«01_k».proof.Proof.PeerSpec
public import proofs.«01_k».proof.Proof.Gen.Kernel3Ideal.Value
public import Idealize.ShloMosaic.Lib.StableHlo.ReadAt
public import Idealize.ShloMosaic.Lib.Pipeline.ValueKit

@[expose] public section

set_option maxRecDepth 16384

noncomputable section

namespace Cert.Kernel3Ideal.Peer

open Cert.Kernel3Ideal Cert.Kernel3Ideal.Gen Cert.Peer Idealize.ShloMosaic Idealize.ShloMosaic.TcCoe Idealize.SL.Sem Idealize.ShloMosaic.Pipeline

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0, 0] := by decide +kernel
theorem idx3 : ∀ t : Fin cfg0.N, win0_3.index t = ![0, 0, t.val] := by decide +kernel
theorem N32 : cfg0.N = 32 := by decide +kernel

abbrev X : (⟨3, ![2, 4096, 2048]⟩ : Shape).Idx → EReal := m ((c.tc : Thread nD τ).loc main_arg0)
abbrev W : (⟨2, ![2048, 2048]⟩ : Shape).Idx → EReal := m ((c.tc : Thread nD τ).loc main_arg1)
abbrev K : (⟨4, ![8, 2, 128, 128]⟩ : Shape).Idx → EReal := m ((c.tc : Thread nD τ).loc main_arg2)

/-- A point's token. -/
def tok (t : Fin cfg0.N) (b : Fin 256) : Fin 8192 := ⟨256 * t.val + b.val, by have h : t.val < 32 := lt_of_lt_of_eq t.isLt N32; omega⟩

/-- The queries of a point's tokens. -/
theorem pay2 (A : Vec Ideal S256x2048 .bf16) (B : Vec Ideal S2048x2048 .bf16) (b : Fin 256) (j : Fin 2048) :
    k0_pay2 A B (ix2 b j) = ∑ k : Fin 2048, A (ix2 b k) * B (ix2 k j) := by
  unfold k0_pay2
  simp only [pointwise, zero_add]

/-- One head half's scores, as the kernel computes them. -/
def hd (o : ℕ) (h : S256x2048.Slices ![0, o] S256x128) (A : FVec Ideal S256x2048 .bf16) (B : Vec Ideal S1x128x128 .bf16) : FVec Ideal S1x128x256 .f32 :=
  have B' : FVec Ideal S128x128 .bf16 := shapeCast S128x128 B shapeCasts_S1x128x128_S128x128
  have A' : FVec Ideal S256x128 .bf16 := extractStridedSlice S256x128 ![0, o] A h
  have C : FVec Ideal S128x256 .f32 := matmul dot_S128x128_S256x128_S128x256_1_1_0_0_n_n none B' A' (constant S128x256 .f32 0x00000000#32)
  shapeCast S1x128x256 C shapeCasts_S128x256_S1x128x256

theorem head (o : ℕ) (ho : o + 128 ≤ 2048) (h : S256x2048.Slices ![0, o] S256x128) (A : FVec Ideal S256x2048 .bf16) (B : Vec Ideal S1x128x128 .bf16)
    (n : Fin 128) (b : Fin 256) :
    hd o h A B (ix3 0 n b) = ∑ e : Fin 128, B (ix3 0 n e) * A (ix2 b ⟨o + e.val, by omega⟩) := by
  unfold hd
  simp only [pointwise, zero_add]
  refine Finset.sum_congr rfl fun e _ => congrArg₂ _ rfl ?_
  exact congrArg A (congrArg₂ ix2 (Fin.ext (Nat.zero_add _)) rfl)

theorem rows (r : Fin 8192) (k : Fin 2048) :
    V m c main_v2 (ix2 r k) = X m c (ix3 ⟨r.val / 4096, by omega⟩ ⟨r.val % 4096, by omega⟩ k) := by
  unfold V
  after_reads_at

theorem keys (p : Fin 16) (n e : Fin 128) :
    V m c main_v1 (ix3 p n e) = K m c (ix4 ⟨p.val / 2, by omega⟩ ⟨p.val % 2, by omega⟩ n e) := by
  unfold V
  after_reads_at

theorem wq (k j : Fin 2048) : V m c main_v3 (ix2 k j) = W m c (ix2 k j) := by
  unfold V
  after_reads_at

theorem rd0 (t : Fin cfg0.N) (b : Fin 256) (k : Fin 2048) :
    iblk m c 0 t (ix2 b k) = X m c (ix3 ⟨(tok t b).val / 4096, by omega⟩ ⟨(tok t b).val % 4096, by omega⟩ k) := by
  refine Eq.trans ?_ (rows m c (tok t b) k)
  blk_ext [iblk, idx0 t, tok]

theorem rd1 (t : Fin cfg0.N) (k j : Fin 2048) : iblk m c 1 t (ix2 k j) = W m c (ix2 k j) := by
  refine Eq.trans ?_ (wq m c k j)
  blk_ext [iblk, idx1 t]

theorem rd2 (t : Fin cfg0.N) (p : Fin 16) (n e : Fin 128) :
    iblk m c 2 t (ix3 p n e) = K m c (ix4 ⟨p.val / 2, by omega⟩ ⟨p.val % 2, by omega⟩ n e) := by
  refine Eq.trans ?_ (keys m c p n e)
  blk_ext [iblk, idx2 t]

/-- A head half's scores at a point are the scores. -/
theorem cell (t : Fin cfg0.N) (o : ℕ) (ho : o % 128 = 0) (hp : o / 128 < 16) (h : S256x2048.Slices ![0, o] S256x128)
    (A : Vec Ideal S256x2048 .bf16) (B : Vec Ideal S2048x2048 .bf16) (C : Vec Ideal S1x128x128 .bf16)
    (hA : ∀ (b : Fin 256) (k : Fin 2048), A (ix2 b k) = iblk m c 0 t (ix2 b k)) (hB : ∀ k j : Fin 2048, B (ix2 k j) = iblk m c 1 t (ix2 k j))
    (hC : ∀ n e : Fin 128, C (ix3 0 n e) = iblk m c 2 t (ix3 ⟨o / 128, hp⟩ n e))
    (y : S1x128x256.Idx) (i : S16x128x8192.Idx) (h0 : (i 0).val = o / 128) (h1 : (i 1).val = (y 1).val) (h2 : (i 2).val = 256 * t.val + (y 2).val) :
    hd o h (k0_pay2 A B) C y = score (X m c) (W m c) (K m c) i := by
  obtain ⟨n, b, rfl⟩ : ∃ (n : Fin 128) (b : Fin 256), y = ix3 0 n b :=
    ⟨y 1, y 2, by ext q; match q with | ⟨0, _⟩ => exact Nat.lt_one_iff.mp (y 0).isLt | ⟨1, _⟩ => rfl | ⟨2, _⟩ => rfl⟩
  obtain rfl : i = ix3 ⟨o / 128, hp⟩ n (tok t b) := by
    ext q; match q with | ⟨0, _⟩ => exact h0 | ⟨1, _⟩ => exact h1 | ⟨2, _⟩ => exact h2
  obtain ⟨p, rfl⟩ : ∃ p : ℕ, o = 128 * p := ⟨o / 128, by omega⟩
  rw [head _ (by omega)]
  refine Finset.sum_congr rfl fun e _ => congrArg₂ _ ((hC n e).trans (rd2 m c t _ n e)) ?_
  refine (pay2 A B b _).trans ?_
  refine Finset.sum_congr rfl fun k _ => congrArg₂ _ ((hA b k).trans (rd0 m c t b k)) ((hB k _).trans ((rd1 m c t k _).trans (congrArg _ (congrArg (ix2 k) (Fin.ext ?_)))))
  show 128 * p + e.val = 128 * (128 * p / 128) + e.val
  omega

set_option maxHeartbeats 4000000 in
theorem point (t : Fin cfg0.N) (y : S16x128x256.Idx) :
    out0_3 (iblk m c 0 t) (iblk m c 1 t) (iblk m c 2 t) y = score (X m c) (W m c) (K m c) (((cfg0.win 3).blk t).view.emb y) := by
  unfold_out out0_3
  canon_tiles z h
  all_goals
    refine Eq.trans rfl (cell m c t _ ?_ ?_ _ _ _ _ ?_ ?_ ?_ z _ ?_ ?_ ?_)
    · rfl
    · decide
    · exact fun b k => View.ld_unit_apply_of _ _ _ _ _ _ (fun q => by match q with | ⟨0, _⟩ => exact (Nat.zero_add _).symm | ⟨1, _⟩ => exact (Nat.zero_add _).symm)
    · exact fun b k => View.ld_unit_apply_of _ _ _ _ _ _ (fun q => by match q with | ⟨0, _⟩ => exact (Nat.zero_add _).symm | ⟨1, _⟩ => exact (Nat.zero_add _).symm)
    · exact fun n e => View.ld_unit_apply_of _ _ _ _ _ _ (fun q => by match q with | ⟨0, _⟩ => rfl | ⟨1, _⟩ => exact (Nat.zero_add _).symm | ⟨2, _⟩ => exact (Nat.zero_add _).symm)
    · blk_simp [idx3 t]
      show (y 0).val = _; omega
    · blk_simp [idx3 t]
      show (y 1).val = _; omega
    · blk_simp [idx3 t]
      show _ + (y 2).val = _; omega

set_option maxHeartbeats 4000000 in
theorem final : (dats m 0 c).arrAt 3 (cfgs 0).N = score (X m c) (W m c) (K m c) := by
  refine (dats m 0 c).arrAt_eq_of_covers 3 _ (by decide +kernel) fun t hf y => ?_
  rw [after0_3]
  exact point m c t y

end Cert.Kernel3Ideal.Peer

end
-- ==== Proof.PeerRef.lean ====
/- The reference of the routing scores, index by index. -/
module

public import proofs.«01_k».proof.Proof.PeerSpec
public import proofs.«01_k».proof.Proof.Gen.Reference3Ideal.Run
public import proofs.«01_k».proof.Proof.Gen.Reference3Ideal.Read
public import Idealize.ShloMosaic.Lib.Pipeline.Value

@[expose] public section

noncomputable section

namespace Cert.Reference3Ideal.Peer

open Cert.Reference3Ideal Cert.Reference3Ideal.Gen Cert.Reference3Ideal.Read Cert.Peer Idealize.ShloMosaic

variable (x0 : (⟨S2x4096x2048, .bf16⟩ : BufTy).Contents (Elt Ideal)) (x1 : (⟨S2048x2048, .f32⟩ : BufTy).Contents (Elt Ideal))
  (x2 : (⟨S8x2x128x128, .f32⟩ : BufTy).Contents (Elt Ideal))

/-- The queries at an index. -/
theorem q_at (i : S2x4096x2048.Idx) :
    val_main_v1 (F := Ideal) x0 x1 i = ∑ k : Fin 2048, x0 (ix3 (i 0) (i 1) k) * x1 (ix2 k (i 2)) := by
  rw [val_main_v1_apply]
  refine Finset.sum_congr rfl fun k _ => congrArg₂ _ ?_ ?_
  · exact (val_main_v0_apply (F := Ideal) x0 _).trans (congrArg x0 (funext fun q => match q with | ⟨0, _⟩ => rfl | ⟨1, _⟩ => rfl | ⟨2, _⟩ => rfl))
  · exact congrArg x1 (funext fun q => match q with | ⟨0, _⟩ => rfl | ⟨1, _⟩ => rfl)

/-- A query's index out of the head and half that hold it. -/
theorem idx2_at (b : Fin 2) (s : Fin 4096) (h : Fin 8) (p : Fin 2) (e : Fin 128) :
    idx_main_v2 (ix5 b s h p e) = ix3 b s ⟨128 * (2 * h.val + p.val) + e.val, by omega⟩ := by
  funext q
  match q with
  | ⟨0, _⟩ => exact Fin.ext (by show ((((b.val * 4096 + s.val) * 8 + h.val) * 2 + p.val) * 128 + e.val) / 8388608 = b.val; omega)
  | ⟨1, _⟩ => exact Fin.ext (by show ((((b.val * 4096 + s.val) * 8 + h.val) * 2 + p.val) * 128 + e.val) / 2048 % 4096 = s.val; omega)
  | ⟨2, _⟩ => exact Fin.ext (by show ((((b.val * 4096 + s.val) * 8 + h.val) * 2 + p.val) * 128 + e.val) % 2048 = 128 * (2 * h.val + p.val) + e.val; omega)

/-- The scores by head, half and key. -/
theorem s_at (h : Fin 8) (p : Fin 2) (n : Fin 128) (b : Fin 2) (s : Fin 4096) :
    val_main_v3 (F := Ideal) x0 x1 x2 (ix5 h p n b s)
      = ∑ e : Fin 128, x2 (ix4 h p n e) * ∑ k : Fin 2048, x0 (ix3 b s k) * x1 (ix2 k ⟨128 * (2 * h.val + p.val) + e.val, by omega⟩) := by
  rw [val_main_v3_apply]
  refine Finset.sum_congr rfl fun e _ => congrArg₂ _ ?_ ?_
  · exact congrArg x2 (funext fun q => match q with | ⟨0, _⟩ => rfl | ⟨1, _⟩ => rfl | ⟨2, _⟩ => rfl | ⟨3, _⟩ => rfl)
  · refine (val_main_v2_apply (F := Ideal) x0 x1 _).trans ?_
    refine Eq.trans (congrArg _ (Eq.trans (congrArg idx_main_v2 ?_) (idx2_at b s h p e))) (q_at x0 x1 _)
    exact funext fun q => match q with | ⟨0, _⟩ => rfl | ⟨1, _⟩ => rfl | ⟨2, _⟩ => rfl | ⟨3, _⟩ => rfl | ⟨4, _⟩ => rfl

/-- The reference's result. -/
theorem result : val_main_v6 (F := Ideal) x0 x1 x2 = score x0 x1 x2 := by
  funext i
  have h0 : (i 0).val < 16 := (i 0).isLt
  have h1 : (i 1).val < 128 := (i 1).isLt
  have h2 : (i 2).val < 8192 := (i 2).isLt
  refine (val_main_v6_apply (F := Ideal) x0 x1 x2 i).trans ((val_main_v5_apply (F := Ideal) x0 x1 x2 _).trans ((val_main_v4_apply (F := Ideal) x0 x1 x2 _).trans ?_))
  refine Eq.trans (congrArg _ (?_ : _ = ix5 ⟨(i 0).val / 2, by omega⟩ ⟨(i 0).val % 2, by omega⟩ ⟨(i 1).val, h1⟩ ⟨(i 2).val / 4096, by omega⟩ ⟨(i 2).val % 4096, by omega⟩)) ((s_at x0 x1 x2 _ _ _ _ _).trans ?_)
  · funext q
    match q with
    | ⟨0, _⟩ => exact Fin.ext (by show (((i 0).val * 128 + (i 1).val) * 8192 + (i 2).val) / 2097152 = (i 0).val / 2; omega)
    | ⟨1, _⟩ => exact Fin.ext (by show (((i 0).val * 128 + (i 1).val) * 8192 + (i 2).val) / 1048576 % 2 = (i 0).val % 2; omega)
    | ⟨2, _⟩ => exact Fin.ext (by show (((i 0).val * 128 + (i 1).val) * 8192 + (i 2).val) / 8192 % 128 = (i 1).val; omega)
    | ⟨3, _⟩ => exact Fin.ext (by show (((i 0).val * 128 + (i 1).val) * 8192 + (i 2).val) / 4096 % 2 = (i 2).val / 4096; omega)
    | ⟨4, _⟩ => exact Fin.ext (by show (((i 0).val * 128 + (i 1).val) * 8192 + (i 2).val) % 4096 = (i 2).val % 4096; omega)
  · refine Finset.sum_congr rfl fun e _ => congrArg₂ _ rfl ?_
    refine Finset.sum_congr rfl fun k _ => congrArg₂ _ rfl (congrArg x1 (congrArg (ix2 k) (Fin.ext ?_)))
    show 128 * (2 * ((i 0).val / 2) + (i 0).val % 2) + e.val = 128 * (i 0).val + e.val
    omega

end Cert.Reference3Ideal.Peer

end
-- ==== Proof.PostSpec.lean ====
/- The end of the mixer, index by index: the three groups' attention merged by their normalisers, the gated sum with the
   convolution's output, the projection back to the residual stream, and the second norm. -/
module

public import proofs.«01_k».proof.Proof.RowMath
public import Idealize.ShloMosaic.Lib.Pointwise
public import Idealize.ShloMosaic.Lib.ValueIdx

@[expose] public section

noncomputable section

namespace Cert.Post

open Idealize.ShloMosaic Cert.RowMath

/-- The word of 1.0. -/
abbrev c1 : EReal := Ideal.ofBits .f32 0x3F800000#32
/-- The word of 2048.0, the number of lanes of a token. -/
abbrev c2048 : EReal := Ideal.ofBits .f32 0x45000000#32

theorem c1_eq : c1 = 1 := by
  simp [Ideal.ofBits, Ideal.ieee]

/-- Three outputs weighted by the exponentials of their log normalisers, the division after the sum. -/
def mix (l0 l1 l2 o0 o1 o2 : EReal) : EReal :=
  Ideal.div (Ideal.exp (l0 - max (max l0 l1) l2) * o0 + Ideal.exp (l1 - max (max l0 l1) l2) * o1 + Ideal.exp (l2 - max (max l0 l1) l2) * o2)
    (Ideal.exp (l0 - max (max l0 l1) l2) + Ideal.exp (l1 - max (max l0 l1) l2) + Ideal.exp (l2 - max (max l0 l1) l2))

/-- The same with the weights divided first, the normalisers real numbers. -/
theorem mix_eq (l0 l1 l2 o0 o1 o2 M : EReal) (h0 : Fin' l0) (h1 : Fin' l1) (h2 : Fin' l2) (hM : M = max (max l0 l1) l2) :
    mix l0 l1 l2 o0 o1 o2
      = Ideal.div (Ideal.exp (l0 - M)) (Ideal.exp (l0 - M) + Ideal.exp (l1 - M) + Ideal.exp (l2 - M)) * o0
        + Ideal.div (Ideal.exp (l1 - M)) (Ideal.exp (l0 - M) + Ideal.exp (l1 - M) + Ideal.exp (l2 - M)) * o1
        + Ideal.div (Ideal.exp (l2 - M)) (Ideal.exp (l0 - M) + Ideal.exp (l1 - M) + Ideal.exp (l2 - M)) * o2 := by
  have fM : Fin' M := by
    rw [hM]
    rcases max_choice (max l0 l1) l2 with h | h <;> rw [h]
    · rcases max_choice l0 l1 with h | h <;> rw [h] <;> assumption
    · assumption
  unfold mix
  rw [← hM]
  have p0 := exp_sub_pos h0 fM
  have p1 := exp_sub_pos h1 fM
  have p2 := exp_sub_pos h2 fM
  have t0 := exp_sub_ne_top (fin_ne_top h0) fM
  have t1 := exp_sub_ne_top (fin_ne_top h1) fM
  have t2 := exp_sub_ne_top (fin_ne_top h2) fM
  generalize Ideal.exp (l0 - M) = e0 at *
  generalize Ideal.exp (l1 - M) = e1 at *
  generalize Ideal.exp (l2 - M) = e2 at *
  have hpos : 0 < e0 + e1 + e2 := lt_of_lt_of_le p2 (le_add_of_nonneg_left (add_nonneg p0.le p1.le))
  have htop : e0 + e1 + e2 ≠ ⊤ := EReal.add_ne_top (EReal.add_ne_top t0 t1) t2
  generalize e0 + e1 + e2 = D at *
  have hi0 : 0 ≤ D⁻¹ := EReal.inv_nonneg_of_nonneg hpos.le
  have hi1 : D⁻¹ ≠ ⊤ := by
    obtain ⟨r, hr⟩ := fin_of_ne (ne_of_gt (lt_trans EReal.bot_lt_zero hpos)) htop
    rw [hr, ← EReal.coe_inv]; exact EReal.coe_ne_top _
  simp only [Ideal.div, if_neg hpos.ne']
  rw [EReal.right_distrib_of_nonneg_of_ne_top hi0 hi1, EReal.right_distrib_of_nonneg_of_ne_top hi0 hi1]
  congr 1
  · congr 1
    · exact mul_right_comm _ _ _
    · exact mul_right_comm _ _ _
  · exact mul_right_comm _ _ _

/-- The arrays the end of the mixer takes. -/
structure Ins where
  u : (⟨3, ![2, 4096, 1024]⟩ : Shape).Idx → EReal
  o0 : (⟨3, ![2, 4096, 512]⟩ : Shape).Idx → EReal
  o1 : (⟨3, ![2, 4096, 512]⟩ : Shape).Idx → EReal
  o2 : (⟨3, ![2, 4096, 512]⟩ : Shape).Idx → EReal
  l0 : (⟨3, ![2, 4096, 4]⟩ : Shape).Idx → EReal
  l1 : (⟨3, ![2, 4096, 4]⟩ : Shape).Idx → EReal
  l2 : (⟨3, ![2, 4096, 4]⟩ : Shape).Idx → EReal
  z : (⟨3, ![2, 4096, 10752]⟩ : Shape).Idx → EReal
  x : (⟨3, ![2, 4096, 2048]⟩ : Shape).Idx → EReal
  md : (⟨3, ![2, 6, 2048]⟩ : Shape).Idx → EReal
  n2 : (⟨1, ![2048]⟩ : Shape).Idx → EReal
  wc : (⟨2, ![1024, 2048]⟩ : Shape).Idx → EReal
  bc : (⟨1, ![2048]⟩ : Shape).Idx → EReal
  wa : (⟨2, ![512, 2048]⟩ : Shape).Idx → EReal
  wo : (⟨2, ![2048, 2048]⟩ : Shape).Idx → EReal

variable (I : Ins)

/-- A lane's head within its group. -/
abbrev hd (k : Fin 512) : Fin 4 := ⟨k.val / 128, by omega⟩
/-- The convolution gate's column of z. -/
abbrev ga (j : Fin 2048) : Fin 10752 := ⟨6656 + j.val, by omega⟩
/-- The attention gate's column of z. -/
abbrev gb (j : Fin 2048) : Fin 10752 := ⟨8704 + j.val, by omega⟩

/-- The merged attention of a token, one lane. -/
def attn (b : Fin 2) (s : Fin 4096) (k : Fin 512) : EReal :=
  mix (I.l0 (ix3 b s (hd k))) (I.l1 (ix3 b s (hd k))) (I.l2 (ix3 b s (hd k))) (I.o0 (ix3 b s k)) (I.o1 (ix3 b s k)) (I.o2 (ix3 b s k))

/-- The convolution's projection. -/
def conv (b : Fin 2) (s : Fin 4096) (j : Fin 2048) : EReal := (∑ k : Fin 1024, I.u (ix3 b s k) * I.wc (ix2 k j)) + I.bc (ix1 j)

/-- The gated sum. -/
def merged (b : Fin 2) (s : Fin 4096) (j : Fin 2048) : EReal :=
  Ideal.logistic (I.z (ix3 b s (ga j))) * conv I b s j + Ideal.logistic (I.z (ix3 b s (gb j))) * ∑ k : Fin 512, attn I b s k * I.wa (ix2 k j)

/-- The residual stream after the mixer. -/
def x1 (b : Fin 2) (s : Fin 4096) (d : Fin 2048) : EReal :=
  I.x (ix3 b s d) + I.md (ix3 b 2 d) * ∑ j : Fin 2048, merged I b s j * I.wo (ix2 j d)

/-- Its norm, scaled and shifted. -/
def h2 (b : Fin 2) (s : Fin 4096) (d : Fin 2048) : EReal :=
  x1 I b s d * Ideal.rsqrt (Ideal.div (∑ e : Fin 2048, x1 I b s e * x1 I b s e) c2048 + ceps) * I.n2 (ix1 d) * (c1 + I.md (ix3 b 4 d))
    + I.md (ix3 b 3 d)

/-- The residual stream as an array. -/
def outX (i : (⟨3, ![2, 4096, 2048]⟩ : Shape).Idx) : EReal := x1 I (i 0) (i 1) (i 2)
/-- The normed stream as an array. -/
def outH (i : (⟨3, ![2, 4096, 2048]⟩ : Shape).Idx) : EReal := h2 I (i 0) (i 1) (i 2)

end Cert.Post

end
-- ==== Proof.PostPay.lean ====
/- What one point of the merge computes, from its blocks, index by index. -/
module

public import proofs.«01_k».proof.Proof.PostSpec
public import proofs.«01_k».proof.Proof.Gen.Kernel6Ideal.Skeleton
public import Idealize.ShloMosaic.Lib.Pipeline.ValueKit

@[expose] public section

set_option maxRecDepth 16384

noncomputable section

namespace Cert.Kernel6Ideal.Post

open Cert.Kernel6Ideal Cert.Kernel6Ideal.Gen Cert.Post Cert.RowMath Idealize.ShloMosaic Idealize.ShloMosaic.TcCoe Idealize.SL.Sem Idealize.ShloMosaic.Pipeline

theorem pay2 (U : Vec Ideal S1x256x1024 .bf16) (W : Vec Ideal S1024x2048 .bf16) (B : Vec Ideal S1x2048 .f32) (p : Fin 256) (j : Fin 2048) :
    k0_pay2 U W B (ix2 p j) = (∑ k : Fin 1024, U (ix3 0 p k) * W (ix2 k j)) + B (ix2 0 j) := by
  unfold k0_pay2
  simp only [pointwise, zero_add]
  rfl

/-- Four heads' lanes beside each other. -/
theorem cat4 (A : Fin 4 → FVec Ideal S256x128 .f32) (p : Fin 256) (k : Fin 512) :
    concatenate S256x512 1 [⟨S256x128, A 0⟩, ⟨S256x128, A 1⟩, ⟨S256x128, A 2⟩, ⟨S256x128, A 3⟩] concatenates_S256x128_S256x128_S256x128_S256x128_S256x512_d1 (ix2 p k)
      = A (hd k) (ix2 p ⟨k.val % 128, by omega⟩) := by
  have key : ∀ h : Fin 4, k.val / 128 = h.val → concatenate S256x512 1 [⟨S256x128, A 0⟩, ⟨S256x128, A 1⟩, ⟨S256x128, A 2⟩, ⟨S256x128, A 3⟩] concatenates_S256x128_S256x128_S256x128_S256x128_S256x512_d1 (ix2 p k)
      = A h (ix2 p ⟨k.val % 128, by omega⟩) := fun h hh => by
    refine concatenate_apply_piece 1 _ _ (ix2 p k) h.val (by show h.val < 4; omega) S256x128 _ ?_ rfl (128 * h.val) ?_
      (ix2 p ⟨k.val % 128, by omega⟩) (fun b => match b with | ⟨0, _⟩ => fun _ => rfl | ⟨1, _⟩ => fun hb => absurd rfl hb) (by show 128 * h.val + k.val % 128 = k.val; omega)
    · match h with | 0 => rfl | 1 => rfl | 2 => rfl | 3 => rfl
    · match h with | 0 => rfl | 1 => rfl | 2 => rfl | 3 => rfl
  exact key _ rfl

/-- A scratch buffer's four heads, beside each other, from what each of its loads reads. -/
theorem heads (A : Fin 4 → Vec Ideal S1x256x128 .f32) (p : Fin 256) (k : Fin 512) :
    concatenate S256x512 1 [⟨S256x128, shapeCast S256x128 (A 0) shapeCasts_S1x256x128_S256x128⟩, ⟨S256x128, shapeCast S256x128 (A 1) shapeCasts_S1x256x128_S256x128⟩,
      ⟨S256x128, shapeCast S256x128 (A 2) shapeCasts_S1x256x128_S256x128⟩, ⟨S256x128, shapeCast S256x128 (A 3) shapeCasts_S1x256x128_S256x128⟩] concatenates_S256x128_S256x128_S256x128_S256x128_S256x512_d1 (ix2 p k)
      = A (hd k) (ix3 0 p ⟨k.val % 128, by omega⟩) := by
  refine (cat4 (fun h => shapeCast S256x128 (A h) shapeCasts_S1x256x128_S256x128) p k).trans ?_
  simp only [pointwise]

theorem pay27 (A : Fin 4 → Vec Ideal S1x256x128 .f32) (p : Fin 256) (k : Fin 512) :
    k0_pay27 (A 0) (A 1) (A 2) (A 3) (ix2 p k) = A (hd k) (ix3 0 p ⟨k.val % 128, by omega⟩) := heads A p k

theorem pay50 (A : Fin 4 → Vec Ideal S1x256x128 .f32) (p : Fin 256) (k : Fin 512) :
    k0_pay50 (A 0) (A 1) (A 2) (A 3) (ix2 p k) = A (hd k) (ix3 0 p ⟨k.val % 128, by omega⟩) := heads A p k

theorem pay139 (A : Fin 4 → Vec Ideal S1x256x128 .f32) (p : Fin 256) (k : Fin 512) :
    k0_pay139 (k0_pay136 (A 0)) (k0_pay137 (A 1)) (k0_pay138 (A 2)) (A 3) (ix2 p k) = A (hd k) (ix3 0 p ⟨k.val % 128, by omega⟩) := heads A p k

theorem pay3 (O : Vec Ideal S1x256x512 .bf16) (p : Fin 256) (k : Fin 512) : k0_pay3 O (ix2 p k) = O (ix3 0 p k) := by
  unfold k0_pay3
  simp only [pointwise]

theorem pay4 (L : Vec Ideal S1x256x512 .f32) (p : Fin 256) (k : Fin 512) : k0_pay4 L (ix2 p k) = L (ix3 0 p k) := by
  unfold k0_pay4
  simp only [pointwise]

theorem pay226 (o0 l0 o1 l1 o2 : FVec Ideal S256x512 .f32) (A : Fin 4 → Vec Ideal S1x256x128 .f32) (W : Vec Ideal S512x2048 .bf16) (p : Fin 256) (j : Fin 2048) :
    k0_pay226 o0 l0 o1 l1 o2 (A 0) (A 1) (A 2) (A 3) W (ix2 p j)
      = ∑ k : Fin 512, mix (l0 (ix2 p k)) (l1 (ix2 p k)) (A (hd k) (ix3 0 p ⟨k.val % 128, by omega⟩)) (o0 (ix2 p k)) (o1 (ix2 p k)) (o2 (ix2 p k)) * W (ix2 k j) := by
  unfold k0_pay226
  simp only [pointwise, zero_add, heads]
  rfl

theorem pay227 (yc ya : FVec Ideal S256x2048 .f32) (ga gb : Vec Ideal S1x256x2048 .bf16) (W : Vec Ideal S2048x2048 .bf16) (X : Vec Ideal S1x256x2048 .f32)
    (g : Vec Ideal S1x1x2048 .f32) (p : Fin 256) (d : Fin 2048) :
    k0_pay227 yc ya ga gb W X g (ix2 p d)
      = X (ix3 0 p d) + g (ix3 0 0 d) * ∑ j : Fin 2048, (Ideal.logistic (ga (ix3 0 p j)) * yc (ix2 p j) + Ideal.logistic (gb (ix3 0 p j)) * ya (ix2 p j)) * W (ix2 j d) := by
  unfold k0_pay227
  simp only [pointwise, zero_add]
  rfl

theorem pay228 (yc ya : FVec Ideal S256x2048 .f32) (ga gb : Vec Ideal S1x256x2048 .bf16) (W : Vec Ideal S2048x2048 .bf16) (X : Vec Ideal S1x256x2048 .f32)
    (g : Vec Ideal S1x1x2048 .f32) (p : Fin 256) (d : Fin 2048) :
    k0_pay228 yc ya ga gb W X g (ix3 0 p d) = k0_pay227 yc ya ga gb W X g (ix2 p d) := by
  unfold k0_pay228
  simp only [pointwise]

theorem pay232 (yc ya : FVec Ideal S256x2048 .f32) (ga gb : Vec Ideal S1x256x2048 .bf16) (W : Vec Ideal S2048x2048 .bf16) (X : Vec Ideal S1x256x2048 .f32)
    (g : Vec Ideal S1x1x2048 .f32) (p : Fin 256) :
    k0_pay232 yc ya ga gb W X g (ix2 p 0) = ∑ e : Fin 2048, k0_pay227 yc ya ga gb W X g (ix2 p e) * k0_pay227 yc ya ga gb W X g (ix2 p e) := by
  unfold k0_pay232
  simp only [pointwise, zero_add]

theorem pay1 (x1 : FVec Ideal S256x2048 .f32) (n2 : Vec Ideal S1x2048 .f32) (m3 m4 : Vec Ideal S1x1x2048 .f32) (s : FVec Ideal S256x1 .f32) (c : EReal)
    (p : Fin 256) (d : Fin 2048) :
    k0_pay1 x1 (k0_pay229 n2) (k0_pay230 m3) (k0_pay231 m4) s c (ix3 0 p d)
      = x1 (ix2 p d) * Ideal.rsqrt (Ideal.div (s (ix2 p 0)) c + ceps) * n2 (ix2 0 d) * (c1 + m4 (ix3 0 0 d)) + m3 (ix3 0 0 d) := by
  unfold k0_pay1 k0_pay229 k0_pay230 k0_pay231
  simp only [pointwise]
  rfl

end Cert.Kernel6Ideal.Post

end
-- ==== Proof.PostRead.lean ====
/- What the merge's launch reads, at an index, from the arguments. -/
module

public import proofs.«01_k».proof.Proof.PostSpec
public import proofs.«01_k».proof.Proof.Gen.Kernel6Ideal.Frame
public import Idealize.ShloMosaic.Lib.Pipeline.ValueKit
public import Idealize.ShloMosaic.Lib.StableHlo.ReadAt

@[expose] public section

set_option maxRecDepth 16384

noncomputable section

namespace Cert.Kernel6Ideal.Post

open Cert.Kernel6Ideal Cert.Kernel6Ideal.Gen Cert.Post Idealize.ShloMosaic Idealize.ShloMosaic.TcCoe Idealize.SL.Sem Idealize.ShloMosaic.Pipeline

variable (m : (ℓ : Loc nD τ sig) → Buf (Elt Ideal) ℓ) (c : Dev nD)

theorem N32 : cfg0.N = 32 := by decide +kernel
theorem idx0 : ∀ t : Fin cfg0.N, win0_0.index t = ![t.val / 16, t.val % 16, 0] := by decide +kernel
theorem idx1 : ∀ t : Fin cfg0.N, win0_1.index t = ![t.val / 16, t.val % 16, 0] := by decide +kernel
theorem idx2 : ∀ t : Fin cfg0.N, win0_2.index t = ![t.val / 16, 0, t.val % 16, 0] := by decide +kernel
theorem idx3 : ∀ t : Fin cfg0.N, win0_3.index t = ![t.val / 16, 0, t.val % 16, 0] := by decide +kernel
theorem idx4 : ∀ t : Fin cfg0.N, win0_4.index t = ![t.val / 16, t.val % 16, 0] := by decide +kernel
theorem idx5 : ∀ t : Fin cfg0.N, win0_5.index t = ![t.val / 16, 0, t.val % 16, 0] := by decide +kernel
theorem idx6 : ∀ t : Fin cfg0.N, win0_6.index t = ![t.val / 16, 0, t.val % 16, 0] := by decide +kernel
theorem idx7 : ∀ t : Fin cfg0.N, win0_7.index t = ![t.val / 16, t.val % 16, 1] := by decide +kernel
theorem idx8 : ∀ t : Fin cfg0.N, win0_8.index t = ![t.val / 16, t.val % 16, 2] := by decide +kernel
theorem idx9 : ∀ t : Fin cfg0.N, win0_9.index t = ![t.val / 16, t.val % 16, 0] := by decide +kernel
theorem idx10 : ∀ t : Fin cfg0.N, win0_10.index t = ![t.val / 16, 0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![t.val / 16, t.val % 16, 0] := by decide +kernel
theorem idx17 : ∀ t : Fin cfg0.N, win0_17.index t = ![t.val / 16, t.val % 16, 0] := by decide +kernel

/-- The arguments. -/
def ins : Ins where
  u := m ((c.tc : Thread nD τ).loc main_arg0)
  o0 := m ((c.tc : Thread nD τ).loc main_arg1)
  o1 := m ((c.tc : Thread nD τ).loc main_arg2)
  o2 := m ((c.tc : Thread nD τ).loc main_arg3)
  l0 := m ((c.tc : Thread nD τ).loc main_arg4)
  l1 := m ((c.tc : Thread nD τ).loc main_arg5)
  l2 := m ((c.tc : Thread nD τ).loc main_arg6)
  z := m ((c.tc : Thread nD τ).loc main_arg7)
  x := m ((c.tc : Thread nD τ).loc main_arg8)
  md := m ((c.tc : Thread nD τ).loc main_arg9)
  n2 := m ((c.tc : Thread nD τ).loc main_arg10)
  wc := m ((c.tc : Thread nD τ).loc main_arg11)
  bc := m ((c.tc : Thread nD τ).loc main_arg12)
  wa := m ((c.tc : Thread nD τ).loc main_arg13)
  wo := m ((c.tc : Thread nD τ).loc main_arg14)

/-- A point's batch entry. -/
def pb (t : Fin cfg0.N) : Fin 2 := ⟨t.val / 16, by have h : t.val < 32 := lt_of_lt_of_eq t.isLt N32; omega⟩
/-- A point's token. -/
def pr (t : Fin cfg0.N) (p : Fin 256) : Fin 4096 := ⟨256 * (t.val % 16) + p.val, by omega⟩

/-! ## The arrays the host lays out -/

theorem host_o0 (b : Fin 2) (s : Fin 4096) (k : Fin 512) : V m c main_v27 (ix3 b s k) = (ins m c).o0 (ix3 b s k) := by
  unfold V
  after_reads_at
  rfl

theorem host_o1 (b : Fin 2) (r : Fin 4) (n : Fin 1024) (k : Fin 512) :
    V m c main_v9 (ix4 b r n k) = (ins m c).o1 (ix3 b ⟨n.val * 4 + r.val, by omega⟩ k) := by
  unfold V
  after_reads_at
  rfl

theorem host_o2 (b : Fin 2) (r : Fin 16) (n : Fin 256) (k : Fin 512) :
    V m c main_v11 (ix4 b r n k) = (ins m c).o2 (ix3 b ⟨n.val * 16 + r.val, by omega⟩ k) := by
  unfold V
  after_reads_at
  rfl

theorem host_l0 (b : Fin 2) (s : Fin 4096) (k : Fin 512) : V m c main_v28 (ix3 b s k) = (ins m c).l0 (ix3 b s (hd k)) := by
  unfold V
  after_reads_at
  rfl

theorem host_l1 (b : Fin 2) (r : Fin 4) (n : Fin 1024) (k : Fin 512) :
    V m c main_v19 (ix4 b r n k) = (ins m c).l1 (ix3 b ⟨n.val * 4 + r.val, by omega⟩ (hd k)) := by
  unfold V
  after_reads_at
  rfl

theorem host_l2 (b : Fin 2) (r : Fin 16) (n : Fin 256) (k : Fin 512) :
    V m c main_v23 (ix4 b r n k) = (ins m c).l2 (ix3 b ⟨n.val * 16 + r.val, by omega⟩ (hd k)) := by
  unfold V
  after_reads_at
  rfl

theorem host_n2 (d : Fin 2048) : V m c main_v29 (ix2 0 d) = (ins m c).n2 (ix1 d) := by
  unfold V
  after_reads_at
  rfl

theorem host_bc (d : Fin 2048) : V m c main_v30 (ix2 0 d) = (ins m c).bc (ix1 d) := by
  unfold V
  after_reads_at
  rfl

theorem host_wc (k : Fin 1024) (d : Fin 2048) : V m c main_v24 (ix2 k d) = (ins m c).wc (ix2 k d) := by
  unfold V
  after_reads_at
  rfl

theorem host_wa (k : Fin 512) (d : Fin 2048) : V m c main_v25 (ix2 k d) = (ins m c).wa (ix2 k d) := by
  unfold V
  after_reads_at
  rfl

theorem host_wo (k d : Fin 2048) : V m c main_v26 (ix2 k d) = (ins m c).wo (ix2 k d) := by
  unfold V
  after_reads_at
  rfl

set_option maxRecDepth 65536 in
/-- The gates' columns of the joined array. -/
theorem host_z (b : Fin 2) (s : Fin 4096) (j : Fin 4096) :
    V m c main_v5 (ix3 b s ⟨2048 + j.val, by omega⟩) = (ins m c).z (ix3 b s ⟨6656 + j.val, by omega⟩) := by
  unfold V
  after_reads_at
  after_reads_at
  rfl

theorem host_u (i : S2x4096x1024.Idx) : V m c main_arg0 i = (ins m c).u i := by
  unfold V
  after_reads_at
  rfl

theorem host_x (i : S2x4096x2048.Idx) : V m c main_arg8 i = (ins m c).x i := by
  unfold V
  after_reads_at
  rfl

theorem host_md (i : S2x6x2048.Idx) : V m c main_arg9 i = (ins m c).md i := by
  unfold V
  after_reads_at
  rfl

/-! ## What the body's blocks hold -/

theorem rd0 (t : Fin cfg0.N) (p : Fin 256) (k : Fin 1024) : iblk m c 0 t (ix3 0 p k) = (ins m c).u (ix3 (pb t) (pr t p) k) := by
  refine Eq.trans ?_ (host_u m c _)
  blk_ext [iblk, idx0 t, pb, pr]

theorem rd1 (t : Fin cfg0.N) (p : Fin 256) (k : Fin 512) : iblk m c 1 t (ix3 0 p k) = (ins m c).o0 (ix3 (pb t) (pr t p) k) := by
  refine Eq.trans ?_ (host_o0 m c (pb t) (pr t p) k)
  blk_ext [iblk, idx1 t, pb, pr]

theorem emb4 (t : Fin cfg0.N) (p : Fin 256) (k : Fin 512) : ((cfg0.win 4).blk t).view.emb (ix3 0 p k) = (ix3 (pb t) (pr t p) k : S2x4096x512.Idx) := by
  blk_ext [idx4 t, pb, pr]

theorem rd4 (t : Fin cfg0.N) (p : Fin 256) (k : Fin 512) : iblk m c 4 t (ix3 0 p k) = (ins m c).l0 (ix3 (pb t) (pr t p) (hd k)) := by
  refine Eq.trans ?_ (host_l0 m c (pb t) (pr t p) k)
  unfold iblk
  rw [View.read_apply, cast_eq]
  exact congrArg (V m c main_v28) (emb4 t p k)

/-- A strided block's token. -/
theorem tok4 (t : Fin cfg0.N) (p : Fin 256) : (⟨(64 * (t.val % 16) + p.val / 4) * 4 + p.val % 4, by omega⟩ : Fin 4096) = pr t p :=
  Fin.ext (by show (64 * (t.val % 16) + p.val / 4) * 4 + p.val % 4 = 256 * (t.val % 16) + p.val; omega)
theorem tok16 (t : Fin cfg0.N) (p : Fin 256) : (⟨(16 * (t.val % 16) + p.val / 16) * 16 + p.val % 16, by omega⟩ : Fin 4096) = pr t p :=
  Fin.ext (by show (16 * (t.val % 16) + p.val / 16) * 16 + p.val % 16 = 256 * (t.val % 16) + p.val; omega)

theorem rd2 (t : Fin cfg0.N) (p : Fin 256) (k : Fin 512) :
    iblk m c 2 t (ix4 0 ⟨p.val % 4, by omega⟩ ⟨p.val / 4, by omega⟩ k) = (ins m c).o1 (ix3 (pb t) (pr t p) k) := by
  rw [← tok4]
  refine Eq.trans ?_ (host_o1 m c (pb t) ⟨p.val % 4, by omega⟩ ⟨64 * (t.val % 16) + p.val / 4, by omega⟩ k)
  blk_ext [iblk, idx2 t, pb]

theorem rd3 (t : Fin cfg0.N) (p : Fin 256) (k : Fin 512) :
    iblk m c 3 t (ix4 0 ⟨p.val % 16, by omega⟩ ⟨p.val / 16, by omega⟩ k) = (ins m c).o2 (ix3 (pb t) (pr t p) k) := by
  rw [← tok16]
  refine Eq.trans ?_ (host_o2 m c (pb t) ⟨p.val % 16, by omega⟩ ⟨16 * (t.val % 16) + p.val / 16, by omega⟩ k)
  blk_ext [iblk, idx3 t, pb]

theorem emb5 (t : Fin cfg0.N) (r : Fin 4) (n : Fin 64) (k : Fin 512) :
    ((cfg0.win 5).blk t).view.emb (ix4 0 r n k) = (ix4 (pb t) r ⟨64 * (t.val % 16) + n.val, by omega⟩ k : S2x4x1024x512.Idx) := by
  blk_ext [idx5 t, pb]

theorem rd5 (t : Fin cfg0.N) (p : Fin 256) (k : Fin 512) :
    iblk m c 5 t (ix4 0 ⟨p.val % 4, by omega⟩ ⟨p.val / 4, by omega⟩ k) = (ins m c).l1 (ix3 (pb t) (pr t p) (hd k)) := by
  rw [← tok4]
  refine Eq.trans ?_ (host_l1 m c (pb t) ⟨p.val % 4, by omega⟩ ⟨64 * (t.val % 16) + p.val / 4, by omega⟩ k)
  unfold iblk
  rw [View.read_apply, cast_eq]
  exact congrArg (V m c main_v19) (emb5 t _ _ k)

theorem emb6 (t : Fin cfg0.N) (r n : Fin 16) (k : Fin 512) :
    ((cfg0.win 6).blk t).view.emb (ix4 0 r n k) = (ix4 (pb t) r ⟨16 * (t.val % 16) + n.val, by omega⟩ k : S2x16x256x512.Idx) := by
  blk_ext [idx6 t, pb]

theorem rd6 (t : Fin cfg0.N) (p : Fin 256) (k : Fin 512) :
    iblk m c 6 t (ix4 0 ⟨p.val % 16, by omega⟩ ⟨p.val / 16, by omega⟩ k) = (ins m c).l2 (ix3 (pb t) (pr t p) (hd k)) := by
  rw [← tok16]
  refine Eq.trans ?_ (host_l2 m c (pb t) ⟨p.val % 16, by omega⟩ ⟨16 * (t.val % 16) + p.val / 16, by omega⟩ k)
  unfold iblk
  rw [View.read_apply, cast_eq]
  exact congrArg (V m c main_v23) (emb6 t _ _ k)

theorem rd7 (t : Fin cfg0.N) (p : Fin 256) (j : Fin 2048) : X0_7 m c t (ix3 0 p j) = (ins m c).z (ix3 (pb t) (pr t p) (ga j)) := by
  refine Eq.trans ?_ (host_z m c (pb t) (pr t p) ⟨j.val, by omega⟩)
  unfold X0_7 Pipeline.Window.fill
  rw [dif_pos (moved0_7 t _)]
  blk_ext [iblk, idx7 t, pb, pr]

theorem rd8 (t : Fin cfg0.N) (p : Fin 256) (j : Fin 2048) : X0_8 m c t (ix3 0 p j) = (ins m c).z (ix3 (pb t) (pr t p) (gb j)) := by
  refine Eq.trans ?_ ((host_z m c (pb t) (pr t p) ⟨2048 + j.val, by omega⟩).trans (congrArg _ (congrArg (ix3 _ _) (Fin.ext (by show 6656 + (2048 + j.val) = 8704 + j.val; omega)))))
  unfold X0_8 Pipeline.Window.fill
  rw [dif_pos (moved0_8 t _)]
  blk_ext [iblk, idx8 t, pb, pr]

theorem rd9 (t : Fin cfg0.N) (p : Fin 256) (d : Fin 2048) : iblk m c 9 t (ix3 0 p d) = (ins m c).x (ix3 (pb t) (pr t p) d) := by
  refine Eq.trans ?_ (host_x m c _)
  blk_ext [iblk, idx9 t, pb, pr]

theorem rd10 (t : Fin cfg0.N) (r : Fin 6) (d : Fin 2048) : iblk m c 10 t (ix3 0 r d) = (ins m c).md (ix3 (pb t) r d) := by
  refine Eq.trans ?_ (host_md m c _)
  blk_ext [iblk, idx10 t, pb]

theorem rd11 (t : Fin cfg0.N) (d : Fin 2048) : iblk m c 11 t (ix2 0 d) = (ins m c).n2 (ix1 d) := by
  refine Eq.trans ?_ (host_n2 m c d)
  blk_ext [iblk, idx11 t]

theorem rd12 (t : Fin cfg0.N) (k : Fin 1024) (d : Fin 2048) : iblk m c 12 t (ix2 k d) = (ins m c).wc (ix2 k d) := by
  refine Eq.trans ?_ (host_wc m c k d)
  blk_ext [iblk, idx12 t]

theorem rd13 (t : Fin cfg0.N) (d : Fin 2048) : iblk m c 13 t (ix2 0 d) = (ins m c).bc (ix1 d) := by
  refine Eq.trans ?_ (host_bc m c d)
  blk_ext [iblk, idx13 t]

theorem rd14 (t : Fin cfg0.N) (k : Fin 512) (d : Fin 2048) : iblk m c 14 t (ix2 k d) = (ins m c).wa (ix2 k d) := by
  refine Eq.trans ?_ (host_wa m c k d)
  blk_ext [iblk, idx14 t]

theorem rd15 (t : Fin cfg0.N) (k d : Fin 2048) : iblk m c 15 t (ix2 k d) = (ins m c).wo (ix2 k d) := by
  refine Eq.trans ?_ (host_wo m c k d)
  blk_ext [iblk, idx15 t]

end Cert.Kernel6Ideal.Post

end
-- ==== Proof.PostTiles.lean ====
/- The merge's scratch buffers: a strided group's rows, stored head by head and subsequence by subsequence, read back in
   token order. -/
module

public import proofs.«01_k».proof.Proof.PostPay
public import proofs.«01_k».proof.Proof.PostRead

@[expose] public section

set_option maxRecDepth 16384

noncomputable section

namespace Cert.Kernel6Ideal.Post

open Cert.Kernel6Ideal Cert.Kernel6Ideal.Gen Cert.Post Cert.RowMath Idealize.ShloMosaic Idealize.ShloMosaic.TcCoe Idealize.SL.Sem Idealize.ShloMosaic.Pipeline

/-- A group's lanes as the scratch buffer holds them: head, token, lane of the head. -/
def lay (T : Fin 256 → Fin 512 → EReal) (y : S4x256x128.Idx) : EReal :=
  T (y 1) ⟨128 * (y 0).val + (y 2).val, by have h0 : (y 0).val < 4 := (y 0).isLt; have h2 : (y 2).val < 128 := (y 2).isLt; omega⟩

/-- Pieces that each hold their part of one array, one for each head and subsequence, leave that array. -/
theorem lay_of (D R : ℕ) (hD : 0 < D) (hDR : D * R = 256) (T : Fin 256 → Fin 512 → EReal) (M : List (View.Piece (Elt Ideal) S4x256x128 .f32))
    (hM : ∀ p ∈ M, ∀ x : p.1.shape.Idx, p.2 x = lay T (p.1.emb x))
    (hc : (M.map fun p => (p.1.off, p.1.size, p.1.stride))
      = (List.range (4 * D)).map fun k => (![(4 * D - 1 - k) % 4, (4 * D - 1 - k) / 4, 0], ![1, R, 128], ![1, D, 1]))
    (y : S4x256x128.Idx) : View.canon M y = lay T y := by
  refine View.canon_apply_of_pieces _ M hM y ?_
  have h0 : (y 0).val < 4 := (y 0).isLt
  have h1 : (y 1).val < 256 := (y 1).isLt
  have h2 : (y 2).val < 128 := (y 2).isLt
  have hr : (y 1).val % D < D := Nat.mod_lt _ hD
  have hk : 4 * ((y 1).val % D) + (y 0).val < 4 * D := by omega
  have hmem : ((![(y 0).val, (y 1).val % D, 0], ![1, R, 128], ![1, D, 1]) : (Fin 3 → ℕ) × (Fin 3 → ℕ) × (Fin 3 → ℕ)) ∈ M.map fun p => (p.1.off, p.1.size, p.1.stride) := by
    rw [hc]
    refine List.mem_map.2 ⟨4 * D - 1 - (4 * ((y 1).val % D) + (y 0).val), List.mem_range.2 (by omega), ?_⟩
    have e : 4 * D - 1 - (4 * D - 1 - (4 * ((y 1).val % D) + (y 0).val)) = 4 * ((y 1).val % D) + (y 0).val := by omega
    simp only [e]
    have e1 : (4 * ((y 1).val % D) + (y 0).val) % 4 = (y 0).val := by omega
    have e2 : (4 * ((y 1).val % D) + (y 0).val) / 4 = (y 1).val % D := by omega
    rw [e1, e2]
  obtain ⟨p, hp, he⟩ := List.mem_map.1 hmem
  obtain ⟨ho, hs, ht⟩ : p.1.off = ![(y 0).val, (y 1).val % D, 0] ∧ p.1.size = ![1, R, 128] ∧ p.1.stride = ![1, D, 1] :=
    ⟨congrArg (·.1) he, congrArg (·.2.1) he, congrArg (·.2.2) he⟩
  refine ⟨p, hp, p.1.mem_set.2 ?_⟩
  have hq : (y 1).val / D < R := Nat.div_lt_of_lt_mul (by rw [hDR]; exact h1)
  rw [ho, hs, ht]
  intro a
  match a with
  | ⟨0, _⟩ => exact ⟨0, Nat.one_pos, (Nat.add_zero _).symm⟩
  | ⟨1, _⟩ => exact ⟨(y 1).val / D, hq, (Nat.mod_add_div _ _).symm⟩
  | ⟨2, _⟩ => exact ⟨(y 2).val, h2, by show (y 2).val = 0 + 1 * (y 2).val; omega⟩

section
variable (T : Fin 256 → Fin 512 → EReal)

/-- The place of a piece's element, a subsequence of every fourth token. -/
theorem place4 (X : S1x4x64x512.Idx → EReal) (hX : ∀ (p : Fin 256) (k : Fin 512), X (ix4 0 ⟨p.val % 4, by omega⟩ ⟨p.val / 4, by omega⟩ k) = T p k)
    (h r o : ℕ) (ho : o = 128 * h) (hr : r < 4) (hh : h < 4) (inb) (pos) (a : Fin 64) (e : Fin 128) :
    X (ix4 0 ⟨r, hr⟩ a ⟨o + e.val, by omega⟩)
      = lay T ((⟨(⟨![h, r, 0], S1x64x128.size, ![1, 4, 1], inb⟩ : LoadRect S4x256x128), pos⟩ : Rect S4x256x128).emb (ix3 0 a e)) := by
  refine Eq.trans ?_ ((hX ⟨r + 4 * a.val, by omega⟩ ⟨o + e.val, by omega⟩).trans ?_)
  · exact congrArg X (congrArg₂ (fun u v => ix4 0 u v _) (Fin.ext (by show r = (r + 4 * a.val) % 4; omega)) (Fin.ext (by show a.val = (r + 4 * a.val) / 4; omega)))
  · exact congrArg₂ T (Fin.ext rfl) (Fin.ext (by show o + e.val = 128 * (h + 1 * 0) + (0 + 1 * e.val); omega))

/-- … of every sixteenth token. -/
theorem place16 (X : S1x16x16x512.Idx → EReal) (hX : ∀ (p : Fin 256) (k : Fin 512), X (ix4 0 ⟨p.val % 16, by omega⟩ ⟨p.val / 16, by omega⟩ k) = T p k)
    (h r o : ℕ) (ho : o = 128 * h) (hr : r < 16) (hh : h < 4) (inb) (pos) (a : Fin 16) (e : Fin 128) :
    X (ix4 0 ⟨r, hr⟩ a ⟨o + e.val, by omega⟩)
      = lay T ((⟨(⟨![h, r, 0], S1x16x128.size, ![1, 16, 1], inb⟩ : LoadRect S4x256x128), pos⟩ : Rect S4x256x128).emb (ix3 0 a e)) := by
  refine Eq.trans ?_ ((hX ⟨r + 16 * a.val, by omega⟩ ⟨o + e.val, by omega⟩).trans ?_)
  · exact congrArg X (congrArg₂ (fun u v => ix4 0 u v _) (Fin.ext (by show r = (r + 16 * a.val) % 16; omega)) (Fin.ext (by show a.val = (r + 16 * a.val) / 16; omega)))
  · exact congrArg₂ T (Fin.ext rfl) (Fin.ext (by show o + e.val = 128 * (h + 1 * 0) + (0 + 1 * e.val); omega))

theorem split3 {n : ℕ} (x : (⟨3, ![1, n, 128]⟩ : Shape).Idx) : ∃ (a : Fin n) (e : Fin 128), x = ix3 0 a e :=
  ⟨x 1, x 2, by ext q; match q with | ⟨0, _⟩ => exact Nat.lt_one_iff.mp (x 0).isLt | ⟨1, _⟩ => rfl | ⟨2, _⟩ => rfl⟩

theorem at_place {D R : ℕ} (X : (⟨4, ![1, D, R, 512]⟩ : Shape).Idx → EReal) (r o : ℕ) (hr : r < D) (a : Fin R) (e : Fin 128) {ho : o + e.val < 512}
    (i : Fin 1) (j : Fin D) (k : Fin R) (l : Fin 512) (h0 : i.val = 0) (h1 : j.val = r) (h2 : k.val = a.val) (h3 : l.val = o + e.val) :
    X (ix4 i j k l) = X (ix4 0 ⟨r, hr⟩ a ⟨o + e.val, ho⟩) := by
  rw [Fin.ext (a := i) (b := 0) h0, Fin.ext (a := j) (b := ⟨r, hr⟩) h1, Fin.ext h2, Fin.ext (a := l) (b := ⟨o + e.val, ho⟩) h3]

/-- A stored piece of the outputs, every fourth token. -/
theorem cell4o (X : Vec Ideal S1x4x64x512 .bf16) (hX : ∀ (p : Fin 256) (k : Fin 512), X (ix4 0 ⟨p.val % 4, by omega⟩ ⟨p.val / 4, by omega⟩ k) = T p k)
    (h r o : ℕ) (ho : o = 128 * h) (hr : r < 4) (hh : h < 4) (inb) (pos) (inl) (hs : S64x512.Slices ![0, o] S64x128) (x : S1x64x128.Idx) :
    shapeCast S1x64x128 (extractStridedSlice S64x128 ![0, o] (extf .f32 (shapeCast S64x512
        (View.ld X (Rect.unit ![0, r, 0, 0] S1x1x64x512.size inl) : Vec Ideal S1x1x64x512 .bf16) shapeCasts_S1x1x64x512_S64x512 : FVec Ideal S64x512 .bf16) bitsLt_bf16_f32 : FVec Ideal S64x512 .f32) hs) shapeCasts_S64x128_S1x64x128 x
      = lay T ((⟨(⟨![h, r, 0], S1x64x128.size, ![1, 4, 1], inb⟩ : LoadRect S4x256x128), pos⟩ : Rect S4x256x128).emb x) := by
  obtain ⟨a, e, rfl⟩ := split3 x
  refine Eq.trans ?_ (place4 T X hX h r o ho hr hh inb pos a e)
  simp only [pointwise]
  exact at_place X r o hr a e _ _ _ _ rfl rfl (show 0 + 1 * (0 + a.val) = a.val by omega) (show 0 + 1 * (o + e.val) = o + e.val by omega)

/-- A stored piece of the normalisers, every fourth token. -/
theorem cell4l (X : Vec Ideal S1x4x64x512 .f32) (hX : ∀ (p : Fin 256) (k : Fin 512), X (ix4 0 ⟨p.val % 4, by omega⟩ ⟨p.val / 4, by omega⟩ k) = T p k)
    (h r o : ℕ) (ho : o = 128 * h) (hr : r < 4) (hh : h < 4) (inb) (pos) (inl) (hs : S64x512.Slices ![0, o] S64x128) (x : S1x64x128.Idx) :
    shapeCast S1x64x128 (extractStridedSlice S64x128 ![0, o] (shapeCast S64x512
        (View.ld X (Rect.unit ![0, r, 0, 0] S1x1x64x512.size inl) : Vec Ideal S1x1x64x512 .f32) shapeCasts_S1x1x64x512_S64x512 : FVec Ideal S64x512 .f32) hs) shapeCasts_S64x128_S1x64x128 x
      = lay T ((⟨(⟨![h, r, 0], S1x64x128.size, ![1, 4, 1], inb⟩ : LoadRect S4x256x128), pos⟩ : Rect S4x256x128).emb x) := by
  obtain ⟨a, e, rfl⟩ := split3 x
  refine Eq.trans ?_ (place4 T X hX h r o ho hr hh inb pos a e)
  simp only [pointwise]
  exact at_place X r o hr a e _ _ _ _ rfl rfl (show 0 + 1 * (0 + a.val) = a.val by omega) (show 0 + 1 * (o + e.val) = o + e.val by omega)

/-- A stored piece of the outputs, every sixteenth token. -/
theorem cell16o (X : Vec Ideal S1x16x16x512 .bf16) (hX : ∀ (p : Fin 256) (k : Fin 512), X (ix4 0 ⟨p.val % 16, by omega⟩ ⟨p.val / 16, by omega⟩ k) = T p k)
    (h r o : ℕ) (ho : o = 128 * h) (hr : r < 16) (hh : h < 4) (inb) (pos) (inl) (hs : S16x512.Slices ![0, o] S16x128) (x : S1x16x128.Idx) :
    shapeCast S1x16x128 (extractStridedSlice S16x128 ![0, o] (extf .f32 (shapeCast S16x512
        (View.ld X (Rect.unit ![0, r, 0, 0] S1x1x16x512.size inl) : Vec Ideal S1x1x16x512 .bf16) shapeCasts_S1x1x16x512_S16x512 : FVec Ideal S16x512 .bf16) bitsLt_bf16_f32 : FVec Ideal S16x512 .f32) hs) shapeCasts_S16x128_S1x16x128 x
      = lay T ((⟨(⟨![h, r, 0], S1x16x128.size, ![1, 16, 1], inb⟩ : LoadRect S4x256x128), pos⟩ : Rect S4x256x128).emb x) := by
  obtain ⟨a, e, rfl⟩ := split3 x
  refine Eq.trans ?_ (place16 T X hX h r o ho hr hh inb pos a e)
  simp only [pointwise]
  exact at_place X r o hr a e _ _ _ _ rfl rfl (show 0 + 1 * (0 + a.val) = a.val by omega) (show 0 + 1 * (o + e.val) = o + e.val by omega)

/-- A stored piece of the normalisers, every sixteenth token. -/
theorem cell16l (X : Vec Ideal S1x16x16x512 .f32) (hX : ∀ (p : Fin 256) (k : Fin 512), X (ix4 0 ⟨p.val % 16, by omega⟩ ⟨p.val / 16, by omega⟩ k) = T p k)
    (h r o : ℕ) (ho : o = 128 * h) (hr : r < 16) (hh : h < 4) (inb) (pos) (inl) (hs : S16x512.Slices ![0, o] S16x128) (x : S1x16x128.Idx) :
    shapeCast S1x16x128 (extractStridedSlice S16x128 ![0, o] (shapeCast S16x512
        (View.ld X (Rect.unit ![0, r, 0, 0] S1x1x16x512.size inl) : Vec Ideal S1x1x16x512 .f32) shapeCasts_S1x1x16x512_S16x512 : FVec Ideal S16x512 .f32) hs) shapeCasts_S16x128_S1x16x128 x
      = lay T ((⟨(⟨![h, r, 0], S1x16x128.size, ![1, 16, 1], inb⟩ : LoadRect S4x256x128), pos⟩ : Rect S4x256x128).emb x) := by
  obtain ⟨a, e, rfl⟩ := split3 x
  refine Eq.trans ?_ (place16 T X hX h r o ho hr hh inb pos a e)
  simp only [pointwise]
  exact at_place X r o hr a e _ _ _ _ rfl rfl (show 0 + 1 * (0 + a.val) = a.val by omega) (show 0 + 1 * (o + e.val) = o + e.val by omega)

end

/-- One head's load of a scratch buffer. -/
abbrev headBox (h : Fin 4) (inb : ∀ a, ![h.val, 0, 0] a + S1x256x128.size a ≤ S4x256x128.size a) : LoadRect S4x256x128 := (Rect.unit (s := S4x256x128) ![h.val, 0, 0] S1x256x128.size inb).toLoadRect

/-- What it reads. -/
theorem head_read (T : Fin 256 → Fin 512 → EReal) {sig : RefSig} {κ : Kind} {sp : Space} (v : View sig κ sp S4x256x128 .f32) (M : List (View.Piece (Elt Ideal) S4x256x128 .f32))
    (hM : ∀ y, View.canon M y = lay T y) (h : Fin 4) (inb) (p : Fin 256) (k : Fin 512) (hk : k.val / 128 = h.val) :
    v.readCov M (headBox h inb) (ix3 0 p ⟨k.val % 128, by omega⟩) = T p k := by
  refine (congrFun (View.readCov_eq_canon' v M (headBox h inb)) _).trans ((hM _).trans ?_)
  exact congrArg₂ T (Fin.ext (by show 0 + 1 * p.val = p.val; omega)) (Fin.ext (by show 128 * (h.val + 1 * 0) + (0 + 1 * (k.val % 128)) = k.val; omega))

end Cert.Kernel6Ideal.Post

end
-- ==== Proof.PostVal.lean ====
/- The two result arrays of the merge call. -/
module

public import proofs.«01_k».proof.Proof.PostTiles
public import proofs.«01_k».proof.Proof.Gen.Kernel6Ideal.Value
public import Idealize.ShloMosaic.Lib.StableHlo.ReadAt
public import Idealize.ShloMosaic.Lib.Pipeline.ValueKit

@[expose] public section

set_option maxRecDepth 16384

noncomputable section

namespace Cert.Kernel6Ideal.Post

open Cert.Kernel6Ideal Cert.Kernel6Ideal.Gen Cert.Post Cert.RowMath Idealize.ShloMosaic Idealize.ShloMosaic.TcCoe Idealize.SL.Sem Idealize.ShloMosaic.Pipeline

variable (m : (ℓ : Loc nD τ sig) → Buf (Elt Ideal) ℓ) (c : Dev nD)

/-- A point's rows of a token array. -/
abbrev rowsO (t : Fin cfg0.N) (o : S2x4096x512.Idx → EReal) (p : Fin 256) (k : Fin 512) : EReal := o (ix3 (pb t) (pr t p) k)
/-- A point's rows of a head array, each head's value in all its lanes. -/
abbrev rowsL (t : Fin cfg0.N) (l : S2x4096x4.Idx → EReal) (p : Fin 256) (k : Fin 512) : EReal := l (ix3 (pb t) (pr t p) (hd k))

/-- One row of the modulation. -/
theorem mdRow (t : Fin cfg0.N) (r : Fin 6) (inb) (d : Fin 2048) :
    (View.ld (iblk m c 10 t : Vec Ideal S1x6x2048 .f32) (Rect.unit ![0, r.val, 0] S1x1x2048.size inb) : Vec Ideal S1x1x2048 .f32) (ix3 0 0 d) = (ins m c).md (ix3 (pb t) r d) := by
  refine Eq.trans ?_ (rd10 m c t r d)
  exact View.ld_unit_apply_of _ _ _ _ _ _ (fun q => by match q with | ⟨0, _⟩ => rfl | ⟨1, _⟩ => rfl | ⟨2, _⟩ => exact (Nat.zero_add _).symm)

/-- The residual stream at a point, the scratch buffers' loads given by what they hold. -/
theorem x1_at (t : Fin cfg0.N) (A0 A1 A2 A3 : Fin 4 → Vec Ideal S1x256x128 .f32)
    (h0 : ∀ p k, A0 (hd k) (ix3 0 p ⟨k.val % 128, by omega⟩) = rowsO t (ins m c).o1 p k) (h1 : ∀ p k, A1 (hd k) (ix3 0 p ⟨k.val % 128, by omega⟩) = rowsL t (ins m c).l1 p k)
    (h2 : ∀ p k, A2 (hd k) (ix3 0 p ⟨k.val % 128, by omega⟩) = rowsO t (ins m c).o2 p k) (h3 : ∀ p k, A3 (hd k) (ix3 0 p ⟨k.val % 128, by omega⟩) = rowsL t (ins m c).l2 p k)
    (inb) (p : Fin 256) (d : Fin 2048) :
    k0_pay227 (k0_pay2 (iblk m c 0 t) (iblk m c 12 t) (iblk m c 13 t))
      (k0_pay226 (k0_pay3 (iblk m c 1 t)) (k0_pay4 (iblk m c 4 t)) (k0_pay27 (A0 0) (A0 1) (A0 2) (A0 3)) (k0_pay50 (A1 0) (A1 1) (A1 2) (A1 3))
        (k0_pay139 (k0_pay136 (A2 0)) (k0_pay137 (A2 1)) (k0_pay138 (A2 2)) (A2 3)) (A3 0) (A3 1) (A3 2) (A3 3) (iblk m c 14 t))
      (X0_7 m c t) (X0_8 m c t) (iblk m c 15 t) (iblk m c 9 t) (View.ld (iblk m c 10 t) (Rect.unit ![0, 2, 0] S1x1x2048.size inb)) (ix2 p d)
      = x1 (ins m c) (pb t) (pr t p) d := by
  rw [pay227]
  unfold x1 merged conv attn
  refine congrArg₂ (· + ·) (rd9 m c t p d) (congrArg₂ (· * ·) (mdRow m c t 2 _ d) (Finset.sum_congr rfl fun j _ => congrArg₂ (· * ·) (congrArg₂ (· + ·) (congrArg₂ (· * ·) (congrArg Ideal.logistic (rd7 m c t p j)) ?_) (congrArg₂ (· * ·) (congrArg Ideal.logistic (rd8 m c t p j)) ?_)) (rd15 m c t j d)))
  · rw [pay2]
    exact congrArg₂ (· + ·) (Finset.sum_congr rfl fun k _ => congrArg₂ (· * ·) (rd0 m c t p k) (rd12 m c t k j)) (rd13 m c t j)
  · rw [pay226]
    refine Finset.sum_congr rfl fun k _ => congrArg₂ (· * ·) ?_ (rd14 m c t k j)
    rw [pay4, rd4, pay50, h1, h3, pay3, rd1, pay27, h0, pay139, h2]

/-- The same with what the buffers hold left piece by piece; every head's box lies inside its buffer. -/
theorem x1_pieces (t : Fin cfg0.N) (M0 M1 M2 M3 : List (View.Piece (Elt Ideal) S4x256x128 .f32))
    (h0 : ∀ y, View.canon M0 y = lay (rowsO t (ins m c).o1) y) (h1 : ∀ y, View.canon M1 y = lay (rowsL t (ins m c).l1) y)
    (h2 : ∀ y, View.canon M2 y = lay (rowsO t (ins m c).o2) y) (h3 : ∀ y, View.canon M3 y = lay (rowsL t (ins m c).l2) y)
    (inb : ∀ h : Fin 4, ∀ a, ![h.val, 0, 0] a + S1x256x128.size a ≤ S4x256x128.size a) (inb') (p : Fin 256) (d : Fin 2048) :
    k0_pay227 (k0_pay2 (iblk m c 0 t) (iblk m c 12 t) (iblk m c 13 t))
      (k0_pay226 (k0_pay3 (iblk m c 1 t)) (k0_pay4 (iblk m c 4 t))
        (k0_pay27 ((View.whole cc0_scratch0).readCov M0 (headBox 0 (inb 0))) ((View.whole cc0_scratch0).readCov M0 (headBox 1 (inb 1)))
          ((View.whole cc0_scratch0).readCov M0 (headBox 2 (inb 2))) ((View.whole cc0_scratch0).readCov M0 (headBox 3 (inb 3))))
        (k0_pay50 ((View.whole cc0_scratch1).readCov M1 (headBox 0 (inb 0))) ((View.whole cc0_scratch1).readCov M1 (headBox 1 (inb 1)))
          ((View.whole cc0_scratch1).readCov M1 (headBox 2 (inb 2))) ((View.whole cc0_scratch1).readCov M1 (headBox 3 (inb 3))))
        (k0_pay139 (k0_pay136 ((View.whole cc0_scratch2).readCov M2 (headBox 0 (inb 0)))) (k0_pay137 ((View.whole cc0_scratch2).readCov M2 (headBox 1 (inb 1))))
          (k0_pay138 ((View.whole cc0_scratch2).readCov M2 (headBox 2 (inb 2)))) ((View.whole cc0_scratch2).readCov M2 (headBox 3 (inb 3))))
        ((View.whole cc0_scratch3).readCov M3 (headBox 0 (inb 0))) ((View.whole cc0_scratch3).readCov M3 (headBox 1 (inb 1)))
        ((View.whole cc0_scratch3).readCov M3 (headBox 2 (inb 2))) ((View.whole cc0_scratch3).readCov M3 (headBox 3 (inb 3))) (iblk m c 14 t))
      (X0_7 m c t) (X0_8 m c t) (iblk m c 15 t) (iblk m c 9 t) (View.ld (iblk m c 10 t) (Rect.unit ![0, 2, 0] S1x1x2048.size inb')) (ix2 p d)
      = x1 (ins m c) (pb t) (pr t p) d :=
  x1_at m c t (fun h => (View.whole cc0_scratch0).readCov M0 (headBox h (inb h))) (fun h => (View.whole cc0_scratch1).readCov M1 (headBox h (inb h)))
    (fun h => (View.whole cc0_scratch2).readCov M2 (headBox h (inb h))) (fun h => (View.whole cc0_scratch3).readCov M3 (headBox h (inb h)))
    (fun p k => head_read _ _ M0 h0 _ _ p k rfl) (fun p k => head_read _ _ M1 h1 _ _ p k rfl)
    (fun p k => head_read _ _ M2 h2 _ _ p k rfl) (fun p k => head_read _ _ M3 h3 _ _ p k rfl) inb' p d

/-- Every head's box lies inside its buffer. -/
theorem boxes (h : Fin 4) : ∀ a, ![h.val, 0, 0] a + S1x256x128.size a ≤ S4x256x128.size a := by
  intro a
  match a with
  | ⟨0, _⟩ => exact (show h.val + 1 ≤ 4 by omega)
  | ⟨1, _⟩ => exact (show 0 + 256 ≤ 256 by omega)
  | ⟨2, _⟩ => exact (show 0 + 128 ≤ 128 by omega)

/-- The normed stream, from the residual stream of a whole row. -/
theorem h2_at (t : Fin cfg0.N) (x : FVec Ideal S256x2048 .f32) (s : FVec Ideal S256x1 .f32) (p : Fin 256) (inb3) (inb4)
    (hs : s (ix2 p 0) = ∑ e : Fin 2048, x (ix2 p e) * x (ix2 p e)) (hx : ∀ d, x (ix2 p d) = x1 (ins m c) (pb t) (pr t p) d) (d : Fin 2048) :
    k0_pay1 x (k0_pay229 (iblk m c 11 t)) (k0_pay230 (View.ld (iblk m c 10 t) (Rect.unit ![0, 3, 0] S1x1x2048.size inb3)))
      (k0_pay231 (View.ld (iblk m c 10 t) (Rect.unit ![0, 4, 0] S1x1x2048.size inb4))) s (FloatOps.ofBits (F := Ideal) FTy.f32 0x45000000#32) (ix3 0 p d)
      = h2 (ins m c) (pb t) (pr t p) d := by
  rw [pay1, hs]
  simp only [hx]
  unfold h2
  exact congrArg₂ (· + ·) (congrArg₂ (· * ·) (congrArg₂ (· * ·) rfl (rd11 m c t d)) (congrArg₂ (· + ·) rfl (mdRow m c t 4 _ d))) (mdRow m c t 3 _ d)

theorem split256 (y : S1x256x2048.Idx) : ∃ (p : Fin 256) (d : Fin 2048), y = ix3 0 p d :=
  ⟨y 1, y 2, by ext q; match q with | ⟨0, _⟩ => exact Nat.lt_one_iff.mp (y 0).isLt | ⟨1, _⟩ => rfl | ⟨2, _⟩ => rfl⟩

set_option maxHeartbeats 16000000 in
/-- One residual stream that a point writes and norms. -/
theorem stream (t : Fin cfg0.N) : ∃ X : FVec Ideal S256x2048 .f32, (∀ p d, X (ix2 p d) = x1 (ins m c) (pb t) (pr t p) d)
    ∧ (∀ (p : Fin 256) (d : Fin 2048), (outsAt0 m c t).1 (ix3 0 p d) = X (ix2 p d))
    ∧ ((∀ p d, X (ix2 p d) = x1 (ins m c) (pb t) (pr t p) d) → ∀ (p : Fin 256) (d : Fin 2048), (outsAt0 m c t).2 (ix3 0 p d) = h2 (ins m c) (pb t) (pr t p) d) := by
  unfold outsAt0
  refine ⟨?X, ?hx, ?h16, ?h17⟩
  case h16 =>
    intro p d
    frame_out
    exact pay228 _ _ _ _ _ _ _ p d
  case h17 =>
    intro hx p d
    frame_out
    exact h2_at m c t _ _ p _ _ (pay232 _ _ _ _ _ _ _ p) (hx p) d
  case hx =>
    refine fun p d => x1_pieces m c t _ _ _ _ ?_ ?_ ?_ ?_ boxes _ p d
    · refine lay_of 4 64 (by decide) rfl _ _ ?_ rfl
      repeat' (refine List.forall_mem_cons.2 ⟨?_, ?_⟩)
      all_goals first
        | exact List.forall_mem_nil _
        | (intro x
           refine Eq.trans ?_ (cell4o _ (iblk m c 2 t) (rd2 m c t) _ _ _ rfl (by decide) (by decide) _ _ (by decide) (by decide) x)
           rfl)
    · refine lay_of 4 64 (by decide) rfl _ _ ?_ rfl
      repeat' (refine List.forall_mem_cons.2 ⟨?_, ?_⟩)
      all_goals first
        | exact List.forall_mem_nil _
        | (intro x
           refine Eq.trans ?_ (cell4l _ (iblk m c 5 t) (rd5 m c t) _ _ _ rfl (by decide) (by decide) _ _ (by decide) (by decide) x)
           rfl)
    · refine lay_of 16 16 (by decide) rfl _ _ ?_ rfl
      repeat' (refine List.forall_mem_cons.2 ⟨?_, ?_⟩)
      all_goals first
        | exact List.forall_mem_nil _
        | (intro x
           refine Eq.trans ?_ (cell16o _ (iblk m c 3 t) (rd3 m c t) _ _ _ rfl (by decide) (by decide) _ _ (by decide) (by decide) x)
           rfl)
    · refine lay_of 16 16 (by decide) rfl _ _ ?_ rfl
      repeat' (refine List.forall_mem_cons.2 ⟨?_, ?_⟩)
      all_goals first
        | exact List.forall_mem_nil _
        | (intro x
           refine Eq.trans ?_ (cell16l _ (iblk m c 6 t) (rd6 m c t) _ _ _ rfl (by decide) (by decide) _ _ (by decide) (by decide) x)
           rfl)

/-- What a point writes to the two results. -/
theorem point (t : Fin cfg0.N) (p : Fin 256) (d : Fin 2048) :
    (outsAt0 m c t).1 (ix3 0 p d) = x1 (ins m c) (pb t) (pr t p) d ∧ (outsAt0 m c t).2 (ix3 0 p d) = h2 (ins m c) (pb t) (pr t p) d := by
  obtain ⟨X, hx, h16, h17⟩ := stream m c t
  exact ⟨(h16 p d).trans (hx p d), h17 hx p d⟩

end Cert.Kernel6Ideal.Post

end
-- ==== Proof.PostFinal.lean ====
/- The two result arrays of the merge call, whole. -/
module

public import proofs.«01_k».proof.Proof.PostVal
public import proofs.«01_k».proof.Proof.Gen.Kernel6Ideal.Value
public import Idealize.ShloMosaic.Lib.Pipeline.ValueKit

@[expose] public section

set_option maxRecDepth 16384

noncomputable section

namespace Cert.Kernel6Ideal.Post

open Cert.Kernel6Ideal Cert.Kernel6Ideal.Gen Cert.Post Cert.RowMath Idealize.ShloMosaic Idealize.ShloMosaic.TcCoe Idealize.SL.Sem Idealize.ShloMosaic.Pipeline

variable (m : (ℓ : Loc nD τ sig) → Buf (Elt Ideal) ℓ) (c : Dev nD)

/-- The place of a block's element in the first result. -/
theorem emb16 (t : Fin cfg0.N) (p : Fin 256) (d : Fin 2048) : ((cfg0.win 16).blk t).view.emb (ix3 0 p d) = (ix3 (pb t) (pr t p) d : S2x4096x2048.Idx) := by
  blk_ext [idx16 t, pb, pr]

/-- … in the second. -/
theorem emb17 (t : Fin cfg0.N) (p : Fin 256) (d : Fin 2048) : ((cfg0.win 17).blk t).view.emb (ix3 0 p d) = (ix3 (pb t) (pr t p) d : S2x4096x2048.Idx) := by
  blk_ext [idx17 t, pb, pr]

set_option maxHeartbeats 4000000 in
theorem final16 : (dats m 0 c).arrAt 16 (cfgs 0).N = outX (ins m c) := by
  refine (dats m 0 c).arrAt_eq_of_covers 16 _ (by decide +kernel) fun t hf y => ?_
  rw [after0_16]
  obtain ⟨p, d, rfl⟩ := split256 y
  exact (point m c t p d).1.trans (congrArg (outX (ins m c)) (emb16 t p d)).symm

set_option maxHeartbeats 4000000 in
theorem final17 : (dats m 0 c).arrAt 17 (cfgs 0).N = outH (ins m c) := by
  refine (dats m 0 c).arrAt_eq_of_covers 17 _ (by decide +kernel) fun t hf y => ?_
  rw [after0_17]
  obtain ⟨p, d, rfl⟩ := split256 y
  exact (point m c t p d).2.trans (congrArg (outH (ins m c)) (emb17 t p d)).symm

end Cert.Kernel6Ideal.Post

end
-- ==== Proof.PostRef.lean ====
/- The reference of the end of the mixer, index by index. -/
module

public import proofs.«01_k».proof.Proof.PostSpec
public import proofs.«01_k».proof.Proof.Gen.Reference6Ideal.Run
public import proofs.«01_k».proof.Proof.Gen.Reference6Ideal.Read
public import Idealize.ShloMosaic.Lib.Pipeline.Value

@[expose] public section

noncomputable section

namespace Cert.Reference6Ideal.Post

open Cert.Reference6Ideal Cert.Reference6Ideal.Gen Cert.Reference6Ideal.Read Cert.Post Cert.RowMath Idealize.ShloMosaic

variable (I : Ins)

theorem ext1 {d : Fin 1 → ℕ} {i j : (⟨1, d⟩ : Shape).Idx} (h0 : (i 0).val = (j 0).val) : i = j :=
  funext fun a => Fin.ext (match a with | ⟨0, _⟩ => h0)

theorem ext2 {d : Fin 2 → ℕ} {i j : (⟨2, d⟩ : Shape).Idx} (h0 : (i 0).val = (j 0).val) (h1 : (i 1).val = (j 1).val) : i = j :=
  funext fun a => Fin.ext (match a with | ⟨0, _⟩ => h0 | ⟨1, _⟩ => h1)

theorem ext3 {d : Fin 3 → ℕ} {i j : (⟨3, d⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

theorem ext4 {d : Fin 4 → ℕ} {i j : (⟨4, d⟩ : Shape).Idx} (h0 : (i 0).val = (j 0).val) (h1 : (i 1).val = (j 1).val)
    (h2 : (i 2).val = (j 2).val) (h3 : (i 3).val = (j 3).val) : i = j :=
  funext fun a => Fin.ext (match a with | ⟨0, _⟩ => h0 | ⟨1, _⟩ => h1 | ⟨2, _⟩ => h2 | ⟨3, _⟩ => h3)

theorem ext5 {d : Fin 5 → ℕ} {i j : (⟨5, d⟩ : Shape).Idx} (h0 : (i 0).val = (j 0).val) (h1 : (i 1).val = (j 1).val)
    (h2 : (i 2).val = (j 2).val) (h3 : (i 3).val = (j 3).val) (h4 : (i 4).val = (j 4).val) : i = j :=
  funext fun a => Fin.ext (match a with | ⟨0, _⟩ => h0 | ⟨1, _⟩ => h1 | ⟨2, _⟩ => h2 | ⟨3, _⟩ => h3 | ⟨4, _⟩ => h4)

/-- The three groups' log normalisers of a head. -/
def lg (b : Fin 2) (s : Fin 4096) (h : Fin 4) : Fin 3 → EReal := ![I.l0 (ix3 b s h), I.l1 (ix3 b s h), I.l2 (ix3 b s h)]

/-- The three groups' outputs of a lane. -/
def og (b : Fin 2) (s : Fin 4096) (k : Fin 512) : Fin 3 → EReal := ![I.o0 (ix3 b s k), I.o1 (ix3 b s k), I.o2 (ix3 b s k)]

/-- A lane out of its head and its place within. -/
abbrev lane (h : Fin 4) (e : Fin 128) : Fin 512 := ⟨128 * h.val + e.val, by omega⟩

theorem stackL (g : Fin 3) (b : Fin 2) (s : Fin 4096) (h : Fin 4) : val_main_v8 (F := Ideal) I.l0 I.l1 I.l2 (ix4 g b s h) = lg I b s h g := by
  unfold val_main_v8
  match g with
  | ⟨0, _⟩ =>
    refine Eq.trans (concatenate_apply_piece 0 _ _ (ix4 ⟨0, by decide⟩ b s h : S3x2x4096x4.Idx) 0 (by show 0 < 3; decide) S1x2x4096x4 _ rfl rfl 0 rfl (ix4 0 b s h : S1x2x4096x4.Idx)
      (fun q => match q with | ⟨0, _⟩ => fun hb => absurd rfl hb | ⟨1, _⟩ => fun _ => rfl | ⟨2, _⟩ => fun _ => rfl | ⟨3, _⟩ => fun _ => rfl) rfl) ?_
    exact (val_main_v5_apply (F := Ideal) I.l0 _).trans (congrArg I.l0 (ext3 rfl rfl rfl))
  | ⟨1, _⟩ =>
    refine Eq.trans (concatenate_apply_piece 0 _ _ (ix4 ⟨1, by decide⟩ b s h : S3x2x4096x4.Idx) 1 (by show 1 < 3; decide) S1x2x4096x4 _ rfl rfl 1 rfl (ix4 0 b s h : S1x2x4096x4.Idx)
      (fun q => match q with | ⟨0, _⟩ => fun hb => absurd rfl hb | ⟨1, _⟩ => fun _ => rfl | ⟨2, _⟩ => fun _ => rfl | ⟨3, _⟩ => fun _ => rfl) rfl) ?_
    exact (val_main_v6_apply (F := Ideal) I.l1 _).trans (congrArg I.l1 (ext3 rfl rfl rfl))
  | ⟨2, _⟩ =>
    refine Eq.trans (concatenate_apply_piece 0 _ _ (ix4 ⟨2, by decide⟩ b s h : S3x2x4096x4.Idx) 2 (by show 2 < 3; decide) S1x2x4096x4 _ rfl rfl 2 rfl (ix4 0 b s h : S1x2x4096x4.Idx)
      (fun q => match q with | ⟨0, _⟩ => fun hb => absurd rfl hb | ⟨1, _⟩ => fun _ => rfl | ⟨2, _⟩ => fun _ => rfl | ⟨3, _⟩ => fun _ => rfl) rfl) ?_
    exact (val_main_v7_apply (F := Ideal) I.l2 _).trans (congrArg I.l2 (ext3 rfl rfl rfl))

theorem stackL' (i : S3x2x4096x4.Idx) : val_main_v8 (F := Ideal) I.l0 I.l1 I.l2 i = lg I (i 1) (i 2) (i 3) (i 0) :=
  (congrArg _ (ext4 rfl rfl rfl rfl : i = ix4 (i 0) (i 1) (i 2) (i 3))).trans (stackL I _ _ _ _)

/-- An output by head and lane within. -/
theorem split_at {α : Type} (X : S2x4096x512.Idx → α) (i : S2x4096x512.Idx) (b : Fin 2) (s : Fin 4096) (h : Fin 4) (e : Fin 128)
    (h0 : (i 0).val = ((((b.val * 4096 + s.val) * 4 + h.val) * 128 + e.val) / 2097152))
    (h1 : (i 1).val = ((((b.val * 4096 + s.val) * 4 + h.val) * 128 + e.val) / 512 % 4096))
    (h2 : (i 2).val = ((((b.val * 4096 + s.val) * 4 + h.val) * 128 + e.val) % 512)) : X i = X (ix3 b s (lane h e)) :=
  congrArg X (ext3 (by rw [h0]; show _ = b.val; omega) (by rw [h1]; show _ = s.val; omega) (by rw [h2]; show _ = 128 * h.val + e.val; omega))

theorem stackO (g : Fin 3) (b : Fin 2) (s : Fin 4096) (h : Fin 4) (e : Fin 128) :
    val_main_v30 (F := Ideal) I.o0 I.o1 I.o2 (ix5 g b s h e) = og I b s (lane h e) g := by
  unfold val_main_v30
  match g with
  | ⟨0, _⟩ =>
    refine Eq.trans (concatenate_apply_piece 0 _ _ (ix5 ⟨0, by decide⟩ b s h e : S3x2x4096x4x128.Idx) 0 (by show 0 < 3; decide) S1x2x4096x4x128 _ rfl rfl 0 rfl (ix5 0 b s h e : S1x2x4096x4x128.Idx)
      (fun q => match q with | ⟨0, _⟩ => fun hb => absurd rfl hb | ⟨1, _⟩ => fun _ => rfl | ⟨2, _⟩ => fun _ => rfl | ⟨3, _⟩ => fun _ => rfl | ⟨4, _⟩ => fun _ => rfl) rfl) ?_
    refine (val_main_v27_apply (F := Ideal) I.o0 _).trans ((val_main_v21_apply (F := Ideal) I.o0 _).trans ((val_main_v20_apply (F := Ideal) I.o0 _).trans ?_))
    exact split_at I.o0 _ b s h e rfl rfl rfl
  | ⟨1, _⟩ =>
    refine Eq.trans (concatenate_apply_piece 0 _ _ (ix5 ⟨1, by decide⟩ b s h e : S3x2x4096x4x128.Idx) 1 (by show 1 < 3; decide) S1x2x4096x4x128 _ rfl rfl 1 rfl (ix5 0 b s h e : S1x2x4096x4x128.Idx)
      (fun q => match q with | ⟨0, _⟩ => fun hb => absurd rfl hb | ⟨1, _⟩ => fun _ => rfl | ⟨2, _⟩ => fun _ => rfl | ⟨3, _⟩ => fun _ => rfl | ⟨4, _⟩ => fun _ => rfl) rfl) ?_
    refine (val_main_v28_apply (F := Ideal) I.o1 _).trans ((val_main_v23_apply (F := Ideal) I.o1 _).trans ((val_main_v22_apply (F := Ideal) I.o1 _).trans ?_))
    exact split_at I.o1 _ b s h e rfl rfl rfl
  | ⟨2, _⟩ =>
    refine Eq.trans (concatenate_apply_piece 0 _ _ (ix5 ⟨2, by decide⟩ b s h e : S3x2x4096x4x128.Idx) 2 (by show 2 < 3; decide) S1x2x4096x4x128 _ rfl rfl 2 rfl (ix5 0 b s h e : S1x2x4096x4x128.Idx)
      (fun q => match q with | ⟨0, _⟩ => fun hb => absurd rfl hb | ⟨1, _⟩ => fun _ => rfl | ⟨2, _⟩ => fun _ => rfl | ⟨3, _⟩ => fun _ => rfl | ⟨4, _⟩ => fun _ => rfl) rfl) ?_
    refine (val_main_v29_apply (F := Ideal) I.o2 _).trans ((val_main_v25_apply (F := Ideal) I.o2 _).trans ((val_main_v24_apply (F := Ideal) I.o2 _).trans ?_))
    exact split_at I.o2 _ b s h e rfl rfl rfl

theorem max3 (a b c : EReal) : rowMax ![a, b, c] = max (max a b) c := by
  rw [rowMax_eq_sup, (by decide : (Finset.univ : Finset (Fin 3)) = {0, 1, 2})]
  simp only [Finset.sup_insert, Finset.sup_singleton]
  exact (sup_assoc _ _ _).symm

/-- The largest of the three log normalisers. -/
theorem top_at (i : S2x4096x4.Idx) : val_main_v11 (F := Ideal) I.l0 I.l1 I.l2 i = rowMax (lg I (i 0) (i 1) (i 2)) := by
  refine (val_main_v11_apply (F := Ideal) I.l0 I.l1 I.l2 i).trans ?_
  rw [val_main_v10_apply, val_main_cst_0_apply]
  show max cbot _ = _
  rw [cbot_eq, max_bot_left]
  unfold val_main_v9
  refine Eq.trans (Host.reduce_eq_fold_single (max : EReal → EReal → EReal) _ _ _ (by decide : S3x2x4096x4.Reduces [0] S2x4096x4) _ i) ?_
  unfold rowMax
  refine congrArg (fun f => Finset.fold max cbot f Finset.univ) (funext fun k => ?_)
  exact (stackL' I _).trans rfl

theorem exp_at (i : S3x2x4096x4.Idx) : val_main_v15 (F := Ideal) I.l0 I.l1 I.l2 i
    = Ideal.exp (lg I (i 1) (i 2) (i 3) (i 0) - rowMax (lg I (i 1) (i 2) (i 3))) := by
  rw [val_main_v15_apply, val_main_v14_apply, val_main_v13_apply, val_main_v12_apply, top_at, stackL']
  rfl

theorem wt_at (g : Fin 3) (b : Fin 2) (s : Fin 4096) (h : Fin 4) : val_main_v19 (F := Ideal) I.l0 I.l1 I.l2 (ix4 g b s h)
    = Ideal.div (Ideal.exp (lg I b s h g - rowMax (lg I b s h)))
      (Ideal.exp (lg I b s h 0 - rowMax (lg I b s h)) + Ideal.exp (lg I b s h 1 - rowMax (lg I b s h)) + Ideal.exp (lg I b s h 2 - rowMax (lg I b s h))) := by
  rw [val_main_v19_apply, val_main_v18_apply, val_main_v17_apply, val_main_v16_apply, Fin.sum_univ_three]
  simp only [exp_at]
  show Ideal.div _ (Ideal.ofBits .f32 0x00000000#32 + _) = _
  rw [Ideal.ofBits_zero_f32, zero_add]
  rfl

theorem prod_at (g : Fin 3) (b : Fin 2) (s : Fin 4096) (h : Fin 4) (e : Fin 128) :
    val_main_v32 (F := Ideal) I.o0 I.o1 I.o2 I.l0 I.l1 I.l2 (ix5 g b s h e)
      = val_main_v19 (F := Ideal) I.l0 I.l1 I.l2 (ix4 g b s h) * og I b s (lane h e) g := by
  rw [val_main_v32_apply, val_main_v31_apply, val_main_v26_apply, stackO]
  exact congrArg (fun j => val_main_v19 (F := Ideal) I.l0 I.l1 I.l2 j * og I b s (lane h e) g) (ext4 rfl rfl rfl rfl)

section
variable (f0 : ∀ i, Fin' (I.l0 i)) (f1 : ∀ i, Fin' (I.l1 i)) (f2 : ∀ i, Fin' (I.l2 i))
include f0 f1 f2

/-- The merged attention. -/
theorem attn_at (b : Fin 2) (s : Fin 4096) (k : Fin 512) : val_main_v34 (F := Ideal) I.o0 I.o1 I.o2 I.l0 I.l1 I.l2 (ix3 b s k) = attn I b s k := by
  rw [val_main_v34_apply]
  have hb : b.val < 2 := b.isLt
  have hs : s.val < 4096 := s.isLt
  have hk : k.val < 512 := k.isLt
  rw [(ext4 (by show ((b.val * 4096 + s.val) * 512 + k.val) / 2097152 = b.val; omega) (by show ((b.val * 4096 + s.val) * 512 + k.val) / 512 % 4096 = s.val; omega)
    (by show ((b.val * 4096 + s.val) * 512 + k.val) / 128 % 4 = k.val / 128; omega) (by show ((b.val * 4096 + s.val) * 512 + k.val) % 128 = k.val % 128; omega) :
    idx_main_v34 (ix3 b s k) = ix4 b s (hd k) (⟨k.val % 128, by omega⟩ : Fin 128))]
  rw [val_main_v33_apply]
  show Ideal.ofBits .f32 0x00000000#32 + _ = _
  rw [Ideal.ofBits_zero_f32, zero_add]
  have e : ∀ g : Fin 3, idx_main_v33 (ix4 b s (hd k) (⟨k.val % 128, by omega⟩ : Fin 128)) g = ix5 g b s (hd k) (⟨k.val % 128, by omega⟩ : Fin 128) :=
    fun g => ext5 rfl rfl rfl rfl rfl
  have el : lane (hd k) ⟨k.val % 128, by omega⟩ = k := Fin.ext (by show 128 * (k.val / 128) + k.val % 128 = k.val; omega)
  simp only [e, prod_at, el, wt_at, Fin.sum_univ_three]
  unfold attn
  exact (mix_eq _ _ _ _ _ _ _ (f0 _) (f1 _) (f2 _) (max3 _ _ _)).symm

omit f0 f1 f2 in
/-- The convolution's projection. -/
theorem conv_at (b : Fin 2) (s : Fin 4096) (j : Fin 2048) : val_main_v4 (F := Ideal) I.u I.wc I.bc (ix3 b s j) = conv I b s j := by
  rw [val_main_v4_apply, val_main_v1_apply, val_main_v3_apply, val_main_v2_apply]
  refine congrArg₂ (· + ·) (Finset.sum_congr rfl fun k _ => congrArg₂ (· * ·) ?_ (congrArg I.wc (ext2 rfl rfl))) (congrArg I.bc (ext1 rfl))
  exact (val_main_v0_apply (F := Ideal) I.u _).trans (congrArg I.u (ext3 rfl rfl rfl))

omit f0 f1 f2 in
/-- The gates. -/
theorem gate_at (i : S2x4096x4096.Idx) : val_main_v43 (F := Ideal) I.z i = Ideal.logistic (I.z (idx_main_v36 i)) := by
  rw [val_main_v43_apply, val_main_v42_apply, val_main_v41_apply, val_main_v40_apply, val_main_v39_apply, val_main_v38_apply, val_main_v37_apply, val_main_v36_apply]
  show Ideal.div c1 (c1 + Ideal.exp (-I.z (idx_main_v36 i))) = _
  rw [c1_eq]
  rfl

theorem merged_at (b : Fin 2) (s : Fin 4096) (j : Fin 2048) :
    val_main_v48 (F := Ideal) I.u I.o0 I.o1 I.o2 I.l0 I.l1 I.l2 I.z I.wc I.bc I.wa (ix3 b s j) = merged I b s j := by
  rw [val_main_v48_apply, val_main_v45_apply, val_main_v47_apply, val_main_v44_apply, val_main_v46_apply, gate_at, gate_at, conv_at, val_main_v35_apply]
  refine congrArg₂ (· + ·) (congrArg₂ (· * ·) (congrArg (fun i => Ideal.logistic (I.z i)) (ext3 rfl rfl (by show _ = 6656 + j.val; rfl))) rfl)
    (congrArg₂ (· * ·) (congrArg (fun i => Ideal.logistic (I.z i)) (ext3 rfl rfl ?_)) (Finset.sum_congr rfl fun k _ => congrArg₂ (· * ·) ?_ (congrArg I.wa (ext2 rfl rfl))))
  · show 6656 + (2048 + j.val) = 8704 + j.val; omega
  · exact (congrArg _ (ext3 rfl rfl rfl : lidx_main_v35 (ix3 b s j) k = ix3 b s k)).trans (attn_at I f0 f1 f2 b s k)

omit f0 f1 f2 in
/-- A row of the modulation, in every token. -/
theorem md2 (b : Fin 2) (s : Fin 4096) (d : Fin 2048) : val_main_v53 (F := Ideal) I.md (ix3 b s d) = I.md (ix3 b 2 d) := by
  rw [val_main_v53_apply, val_main_v51_apply, val_main_v50_apply, val_main_v49_apply]
  refine congrArg I.md (ext3 ?_ ?_ ?_)
  · show (b.val * 2048 + d.val) / 2048 = b.val; omega
  · rfl
  · show (b.val * 2048 + d.val) % 2048 = d.val; omega

theorem x1_at (b : Fin 2) (s : Fin 4096) (d : Fin 2048) :
    val_main_v55 (F := Ideal) I.u I.o0 I.o1 I.o2 I.l0 I.l1 I.l2 I.z I.x I.md I.wc I.bc I.wa I.wo (ix3 b s d) = x1 I b s d := by
  rw [val_main_v55_apply, val_main_v54_apply, md2, val_main_v52_apply]
  refine congrArg₂ (· + ·) rfl (congrArg₂ (· * ·) rfl (Finset.sum_congr rfl fun j _ => congrArg₂ (· * ·) ?_ (congrArg I.wo (ext2 rfl rfl))))
  exact (congrArg _ (ext3 rfl rfl rfl : lidx_main_v52 (ix3 b s d) j = ix3 b s j)).trans (merged_at I f0 f1 f2 b s j)

/-- The reference's first result. -/
theorem resultX : val_main_v55 (F := Ideal) I.u I.o0 I.o1 I.o2 I.l0 I.l1 I.l2 I.z I.x I.md I.wc I.bc I.wa I.wo = outX I :=
  funext fun i => (congrArg _ (ext3 rfl rfl rfl : i = ix3 (i 0) (i 1) (i 2))).trans (x1_at I f0 f1 f2 _ _ _)

omit f0 f1 f2 in
theorem md4 (b : Fin 2) (s : Fin 4096) (d : Fin 2048) : val_main_v74 (F := Ideal) I.md (ix3 b s d) = c1 + I.md (ix3 b 4 d) := by
  rw [val_main_v74_apply, val_main_v73_apply, val_main_v72_apply, val_main_v71_apply, val_main_v70_apply, val_main_v69_apply]
  refine congrArg₂ (· + ·) rfl (congrArg I.md (ext3 ?_ ?_ ?_))
  · show (b.val * 2048 + d.val) / 2048 = b.val; omega
  · rfl
  · show (b.val * 2048 + d.val) % 2048 = d.val; omega

omit f0 f1 f2 in
theorem md3 (b : Fin 2) (s : Fin 4096) (d : Fin 2048) : val_main_v79 (F := Ideal) I.md (ix3 b s d) = I.md (ix3 b 3 d) := by
  rw [val_main_v79_apply, val_main_v78_apply, val_main_v77_apply, val_main_v76_apply]
  refine congrArg I.md (ext3 ?_ ?_ ?_)
  · show (b.val * 2048 + d.val) / 2048 = b.val; omega
  · rfl
  · show (b.val * 2048 + d.val) % 2048 = d.val; omega

theorem h2_at (b : Fin 2) (s : Fin 4096) (d : Fin 2048) :
    val_main_v81 (F := Ideal) I.u I.o0 I.o1 I.o2 I.l0 I.l1 I.l2 I.z I.x I.md I.n2 I.wc I.bc I.wa I.wo (ix3 b s d) = h2 I b s d := by
  rw [val_main_v81_apply, val_main_v80_apply, val_main_v75_apply, val_main_v68_apply, val_main_v65_apply, md4, md3, x1_at I f0 f1 f2, val_main_v67_apply, val_main_v66_apply,
    val_main_v64_apply, val_main_v63_apply, val_main_v62_apply, val_main_v60_apply, val_main_v61_apply, val_main_v59_apply, val_main_v58_apply, val_main_v57_apply]
  refine congrArg₂ (· + ·) (congrArg₂ (· * ·) (congrArg₂ (· * ·) (congrArg₂ (· * ·) rfl (congrArg (fun x => Ideal.rsqrt (Ideal.div x c2048 + ceps)) ?_)) (congrArg I.n2 (ext1 rfl))) rfl) rfl
  show Ideal.ofBits .f32 0x00000000#32 + _ = _
  rw [Ideal.ofBits_zero_f32, zero_add]
  refine Finset.sum_congr rfl fun e _ => ?_
  rw [val_main_v56_apply]
  have hx := (congrArg (val_main_v55 (F := Ideal) I.u I.o0 I.o1 I.o2 I.l0 I.l1 I.l2 I.z I.x I.md I.wc I.bc I.wa I.wo)
    (ext3 rfl rfl rfl : idx_main_v57 (idx_main_v58 (idx_main_v64 (ix3 b s d))) e = ix3 b s e)).trans (x1_at I f0 f1 f2 b s e)
  rw [hx]
  rfl

/-- The reference's second result. -/
theorem resultH : val_main_v81 (F := Ideal) I.u I.o0 I.o1 I.o2 I.l0 I.l1 I.l2 I.z I.x I.md I.n2 I.wc I.bc I.wa I.wo = outH I :=
  funext fun i => (congrArg _ (ext3 rfl rfl rfl : i = ix3 (i 0) (i 1) (i 2))).trans (h2_at I f0 f1 f2 _ _ _)

end

end Cert.Reference6Ideal.Post

end
-- ==== Proof.PostLogs.lean ====
/- The condition on the merge's arguments, read at an index: every log normaliser is a number. -/
module

public import proofs.«01_k».proof.Pre_logs_finite
public import proofs.«01_k».proof.Proof.Gains

@[expose] public section

noncomputable section

namespace Cert.Logs

open Idealize.ShloMosaic Cert.RowMath Cert.Pre_logs_finite

instance facts : Cert.Pre_logs_finite.Facts where
  bcast_S_S2x4096x4 := by decide
  reducesTo_S2x4096x4_S_d0_1_2 := by decide
  h_S_ := by decide

theorem one_idx : Subsingleton S_.Idx := ⟨fun _ _ => funext fun a => a.elim0⟩

theorem logs (x0 : FVec Ideal S2x4096x1024 .bf16) (x1 x2 x3 : FVec Ideal S2x4096x512 .bf16) (x4 x5 x6 : FVec Ideal S2x4096x4 .f32)
    (x7 : FVec Ideal S2x4096x10752 .bf16) (x8 : FVec Ideal S2x4096x2048 .f32) (x9 : FVec Ideal S2x6x2048 .f32) (x10 : FVec Ideal S2048 .f32)
    (x11 : FVec Ideal S1024x2048 .f32) (x12 : FVec Ideal S2048 .f32) (x13 : FVec Ideal S512x2048 .f32) (x14 : FVec Ideal S2048x2048 .f32)
    (h : Cert.Pre_logs_finite.fn (F := Ideal) x0 x1 x2 x3 x4 x5 x6 x7 x8 x9 x10 x11 x12 x13 x14 (fun a => a.elim0) = 1#1) :
    (∀ i, Fin' (x4 i)) ∧ (∀ i, Fin' (x5 i)) ∧ ∀ i, Fin' (x6 i) := by
  dsimp only [fn] at h
  obtain ⟨h12, h3⟩ := Cert.Gains.both _ _ h
  obtain ⟨h1, h2⟩ := Cert.Gains.both _ _ h12
  haveI := one_idx
  have e1 := Host.reduce_andi_all _ _ _ _ _ h1
  have e2 := Host.reduce_andi_all _ _ _ _ _ h2
  have e3 := Host.reduce_andi_all _ _ _ _ _ h3
  exact ⟨fun i => Cert.Gains.fin_of_lt _ (e1 i), fun i => Cert.Gains.fin_of_lt _ (e2 i), fun i => Cert.Gains.fin_of_lt _ (e3 i)⟩

end Cert.Logs

end
-- ==== Proof.lean ====
/- The certificate: both kernels' runs, the reference's run, and the attention group's two results shared by the two programs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.KernelVal
public import proofs.«01_k».proof.Proof.RefVal
public import proofs.«01_k».proof.Proof.Gains
public import proofs.«01_k».proof.Proof.InProjVal
public import proofs.«01_k».proof.Proof.InProjRef
public import proofs.«01_k».proof.Proof.DilVal4
public import proofs.«01_k».proof.Proof.DilRef4
public import proofs.«01_k».proof.Proof.DilVal5
public import proofs.«01_k».proof.Proof.DilRef5
public import proofs.«01_k».proof.Proof.PeerVal
public import proofs.«01_k».proof.Proof.PeerRef
public import proofs.«01_k».proof.Proof.PostFinal
public import proofs.«01_k».proof.Proof.PostRef
public import proofs.«01_k».proof.Proof.PostLogs
public import Idealize.ShloMosaic.Adequacy
public import Idealize.ShloMosaic.Init

@[expose] public section

noncomputable section

namespace Cert.Proof

open Idealize.ShloMosaic Idealize.SL.Sem

section
open Cert.ReferenceIdeal

/-- The reference's run keeps its arguments, and its program has no semaphore. -/
theorem frame_r (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by decide) r.2⟩)
    (Cert.ReferenceIdeal.Value.run (F := Ideal) m ρ)

end

section
open Cert.Reference2Ideal

/-- The run of the reference of program 2 keeps its arguments, and the program has no semaphore. -/
theorem frame_r2 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩)
    (Cert.Reference2Ideal.Value.run (F := Ideal) m ρ)

end

section
open Cert.Reference3Ideal

/-- The run of the reference of program 3 keeps its arguments, and the program has no semaphore. -/
theorem frame_r3 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩)
    (Cert.Reference3Ideal.Value.run (F := Ideal) m ρ)

end

section
open Cert.Reference4Ideal

/-- The run of the reference of program 4 keeps its arguments, and the program has no semaphore. -/
theorem frame_r4 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩)
    (Cert.Reference4Ideal.Value.run (F := Ideal) m ρ)

end

section
open Cert.Reference5Ideal

/-- The run of the reference of program 5 keeps its arguments, and the program has no semaphore. -/
theorem frame_r5 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩)
    (Cert.Reference5Ideal.Value.run (F := Ideal) m ρ)

end

section
open Cert.Reference6Ideal

/-- The run of the reference of program 6 keeps its arguments, and the program has no semaphore. -/
theorem frame_r6 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => (h c).2.2, sem_eq_zero_of_no_sems (by decide) r.2⟩)
    (Cert.Reference6Ideal.Value.run (F := Ideal) m ρ)

end

/-- The attention group: the kernel and the reference end with the same output and the same log normaliser. -/
theorem value : Cert.algebraic_KernelIdeal_ReferenceIdeal_pre_gains_finite (hKernelIdeal := Cert.KernelIdeal.Gen.facts)
    (hReferenceIdeal := Cert.ReferenceIdeal.Gen.facts) (hPre_gains_finite := Cert.Gains.facts) := by
  intro m g m' g' hpre hagree
  have hg := fun c => Cert.Gains.gains _ _ _ (congrFun (hpre c) (fun a => a.elim0))
  refine ⟨fun c => Cert.AttnSpec.outO (Cert.KernelIdeal.Attn.Z m c) (Cert.KernelIdeal.Attn.Gq m c) (Cert.KernelIdeal.Attn.Gk m c),
    fun c => Cert.AttnSpec.outL (Cert.KernelIdeal.Attn.Z m c) (Cert.KernelIdeal.Attn.Gq m c) (Cert.KernelIdeal.Attn.Gk m c), ?_, ?_⟩
  · refine (θ_run (Cert.KernelIdeal.defs (F := Ideal)) _ _).mono (fun r h c => ?_) (Cert.KernelIdeal.Value.run_blocks (F := Ideal) m g)
    exact ⟨(h c).1.trans (Cert.KernelIdeal.Attn.final7 m c), (h c).2.1.trans (Cert.KernelIdeal.Attn.final8 m c), (h c).2.2⟩
  · refine (θ_run (Cert.ReferenceIdeal.defs (F := Ideal)) _ _).mono (fun r h c => ?_) (Cert.ReferenceIdeal.Value.run (F := Ideal) m' g')
    obtain ⟨a0, a1, a2⟩ := hagree c
    refine ⟨(h c).1.trans ?_, (h c).2.1.trans ?_, (h c).2.2⟩
    · rw [Cert.ReferenceIdeal.Read.val_main_v111_eq, a0, a1, a2]
      exact funext fun j => Cert.ReferenceIdeal.Attn.outO_ref _ _ _ (hg c).1 (hg c).2 j
    · rw [Cert.ReferenceIdeal.Read.val_main_v113_eq, a0, a1, a2]
      exact funext fun j => Cert.ReferenceIdeal.Attn.outL_ref _ _ _ (hg c).1 (hg c).2 j

/-- The input projection: the kernel and the reference end with the same array. -/
theorem value2 : Cert.algebraic_Kernel2Ideal_Reference2Ideal (hKernel2Ideal := Cert.Kernel2Ideal.Gen.facts)
    (hReference2Ideal := Cert.Reference2Ideal.Gen.facts) := by
  intro m g m' g' hpre hagree
  refine ⟨fun c => Cert.InProj.proj (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)), ?_, ?_⟩
  · exact Cert.Kernel2Ideal.run m g
  · refine (θ_run (Cert.Reference2Ideal.defs (F := Ideal)) _ _).mono (fun r h c => ?_) (Cert.Reference2Ideal.Value.run (F := Ideal) m' g')
    obtain ⟨a0, a1⟩ := hagree c
    refine ⟨(h c).1.trans ?_, (h c).2⟩
    rw [Cert.Reference2Ideal.Read.val_main_v9_eq, a0, a1]
    exact Cert.Reference2Ideal.Proj.result _ _

/-- The routing scores: the kernel and the reference end with the same array. -/
theorem value3 : Cert.algebraic_Kernel3Ideal_Reference3Ideal (hKernel3Ideal := Cert.Kernel3Ideal.Gen.facts)
    (hReference3Ideal := Cert.Reference3Ideal.Gen.facts) := by
  intro m g m' g' hpre hagree
  refine ⟨fun c => Cert.Peer.score (Cert.Kernel3Ideal.Peer.X m c) (Cert.Kernel3Ideal.Peer.W m c) (Cert.Kernel3Ideal.Peer.K m c), ?_, ?_⟩
  · refine (θ_run (Cert.Kernel3Ideal.defs (F := Ideal)) _ _).mono (fun r h c => ?_) (Cert.Kernel3Ideal.Value.run_blocks (F := Ideal) m g)
    exact ⟨(h c).1.trans (Cert.Kernel3Ideal.Peer.final m c), (h c).2⟩
  · refine (θ_run (Cert.Reference3Ideal.defs (F := Ideal)) _ _).mono (fun r h c => ?_) (Cert.Reference3Ideal.Value.run (F := Ideal) m' g')
    obtain ⟨a0, a1, a2⟩ := hagree c
    refine ⟨(h c).1.trans ?_, (h c).2⟩
    rw [Cert.Reference3Ideal.Read.val_main_v6_eq, a0, a1, a2]
    exact Cert.Reference3Ideal.Peer.result _ _ _

/-- The input projection for dilation 4: the kernel and the reference end with the same array. -/
theorem value4 : Cert.algebraic_Kernel4Ideal_Reference4Ideal (hKernel4Ideal := Cert.Kernel4Ideal.Gen.facts)
    (hReference4Ideal := Cert.Reference4Ideal.Gen.facts) := by
  intro m g m' g' hpre hagree
  refine ⟨fun c => Cert.DilProj.proj 1024 4 1 (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · exact Cert.Kernel4Ideal.run m g
  · refine (θ_run (Cert.Reference4Ideal.defs (F := Ideal)) _ _).mono (fun r h c => ?_) (Cert.Reference4Ideal.Value.run (F := Ideal) m' g')
    obtain ⟨a0, a1⟩ := hagree c
    refine ⟨(h c).1.trans ?_, (h c).2⟩
    rw [Cert.Reference4Ideal.Read.val_main_v9_eq, a0, a1]
    exact Cert.Reference4Ideal.Proj.result _ _

/-- The input projection for dilation 16: the kernel and the reference end with the same array. -/
theorem value5 : Cert.algebraic_Kernel5Ideal_Reference5Ideal (hKernel5Ideal := Cert.Kernel5Ideal.Gen.facts)
    (hReference5Ideal := Cert.Reference5Ideal.Gen.facts) := by
  intro m g m' g' hpre hagree
  refine ⟨fun c => Cert.DilProj.proj 256 16 2 (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · exact Cert.Kernel5Ideal.run m g
  · refine (θ_run (Cert.Reference5Ideal.defs (F := Ideal)) _ _).mono (fun r h c => ?_) (Cert.Reference5Ideal.Value.run (F := Ideal) m' g')
    obtain ⟨a0, a1⟩ := hagree c
    refine ⟨(h c).1.trans ?_, (h c).2⟩
    rw [Cert.Reference5Ideal.Read.val_main_v9_eq, a0, a1]
    exact Cert.Reference5Ideal.Proj.result _ _

/-- The end of the mixer: the kernel and the reference end with the same residual stream and the same normed stream. -/
theorem value6 : Cert.algebraic_Kernel6Ideal_Reference6Ideal_pre_logs_finite (hKernel6Ideal := Cert.Kernel6Ideal.Gen.facts)
    (hReference6Ideal := Cert.Reference6Ideal.Gen.facts) (hPre_logs_finite := Cert.Logs.facts) := by
  intro m g m' g' hpre hagree
  have hl := fun c => Cert.Logs.logs _ _ _ _ _ _ _ _ _ _ _ _ _ _ _ (congrFun (hpre c) (fun a => a.elim0))
  refine ⟨fun c => Cert.Post.outX (Cert.Kernel6Ideal.Post.ins m c), fun c => Cert.Post.outH (Cert.Kernel6Ideal.Post.ins m c), ?_, ?_⟩
  · refine (θ_run (Cert.Kernel6Ideal.defs (F := Ideal)) _ _).mono (fun r h c => ?_) (Cert.Kernel6Ideal.Value.run_blocks (F := Ideal) m g)
    exact ⟨(h c).1.trans (Cert.Kernel6Ideal.Post.final16 m c), (h c).2.1.trans (Cert.Kernel6Ideal.Post.final17 m c), (h c).2.2⟩
  · refine (θ_run (Cert.Reference6Ideal.defs (F := Ideal)) _ _).mono (fun r h c => ?_) (Cert.Reference6Ideal.Value.run (F := Ideal) m' g')
    obtain ⟨a0, a1, a2, a3, a4, a5, a6, a7, a8, a9, a10, a11, a12, a13, a14⟩ := hagree c
    refine ⟨(h c).1.trans ?_, (h c).2.1.trans ?_, (h c).2.2⟩
    · rw [Cert.Reference6Ideal.Read.val_main_v55_eq, a0, a1, a2, a3, a4, a5, a6, a7, a8, a9, a11, a12, a13, a14]
      exact Cert.Reference6Ideal.Post.resultX (Cert.Kernel6Ideal.Post.ins m c) (hl c).1 (hl c).2.1 (hl c).2.2
    · rw [Cert.Reference6Ideal.Read.val_main_v81_eq, a0, a1, a2, a3, a4, a5, a6, a7, a8, a9, a10, a11, a12, a13, a14]
      exact Cert.Reference6Ideal.Post.resultH (Cert.Kernel6Ideal.Post.ins m c) (hl c).1 (hl c).2.1 (hl c).2.2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Gains.facts, Cert.Logs.facts,
  fun m ρ _ => Cert.Kernel.Gen.frame m ρ,
  fun m ρ _ => Cert.KernelIdeal.Gen.frame m ρ,
  fun m ρ _ => Cert.KernelIdeal.Gen.frame m ρ,
  fun m ρ _ => frame_r m ρ,
  fun m ρ _ => frame_r m ρ,
  fun m ρ _ => Cert.Kernel2.Gen.frame m ρ (Cert.Kernel2.ok m),
  fun m ρ _ => Cert.Kernel2Ideal.Gen.frame m ρ (Cert.Kernel2Ideal.ok m),
  fun m ρ _ => frame_r2 m ρ,
  fun m ρ _ => Cert.Kernel3.Gen.frame m ρ,
  fun m ρ _ => Cert.Kernel3Ideal.Gen.frame m ρ,
  fun m ρ _ => frame_r3 m ρ,
  fun m ρ _ => Cert.Kernel4.Gen.frame m ρ (Cert.Kernel4.ok m),
  fun m ρ _ => Cert.Kernel4Ideal.Gen.frame m ρ (Cert.Kernel4Ideal.ok m),
  fun m ρ _ => frame_r4 m ρ,
  fun m ρ _ => Cert.Kernel5.Gen.frame m ρ (Cert.Kernel5.ok m),
  fun m ρ _ => Cert.Kernel5Ideal.Gen.frame m ρ (Cert.Kernel5Ideal.ok m),
  fun m ρ _ => frame_r5 m ρ,
  fun m ρ _ => Cert.Kernel6.Gen.frame m ρ,
  fun m ρ _ => Cert.Kernel6Ideal.Gen.frame m ρ,
  fun m ρ _ => Cert.Kernel6Ideal.Gen.frame m ρ,
  fun m ρ _ => frame_r6 m ρ,
  fun m ρ _ => frame_r6 m ρ,
  trivial,
  value,
  trivial,
  value2,
  trivial,
  value3,
  trivial,
  value4,
  trivial,
  value5,
  trivial,
  value6⟩

end Cert.Proof

end
